-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12)
      ∧ r.2.mem ((c.tc : Thread Cert.Mid.nD Cert.Mid.τ).loc Cert.Mid.main_arg13) = m ((c.tc : Thread Cert.Mid.nD Cert.Mid.τ).loc Cert.Mid.main_arg13))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
      ∧ r.2.mem ((c.tc : Thread Cert.MidIdeal.nD Cert.MidIdeal.τ).loc Cert.MidIdeal.main_arg13) = m ((c.tc : Thread Cert.MidIdeal.nD Cert.MidIdeal.τ).loc Cert.MidIdeal.main_arg13))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12)
      ∧ r.2.mem ((c.tc : Thread Cert.MidRefIdeal.nD Cert.MidRefIdeal.τ).loc Cert.MidRefIdeal.main_arg13) = m ((c.tc : Thread Cert.MidRefIdeal.nD Cert.MidRefIdeal.τ).loc Cert.MidRefIdeal.main_arg13))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v18)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v18) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v52) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v6)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v6) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v122) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)
      ∧ m' ((c.tc : Thread Cert.MidRefIdeal.nD Cert.MidRefIdeal.τ).loc Cert.MidRefIdeal.main_arg13) = m ((c.tc : Thread Cert.MidIdeal.nD Cert.MidIdeal.τ).loc Cert.MidIdeal.main_arg13)) →
    ∃ (v0 : (c : Dev Cert.MidIdeal.nD) → Buf (Elt Ideal) ((c.tc : Thread Cert.MidIdeal.nD Cert.MidIdeal.τ).loc Cert.MidIdeal.main_v6)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v6) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12)
          ∧ r.2.mem ((c.tc : Thread Cert.MidIdeal.nD Cert.MidIdeal.τ).loc Cert.MidIdeal.main_arg13) = m ((c.tc : Thread Cert.MidIdeal.nD Cert.MidIdeal.τ).loc Cert.MidIdeal.main_arg13))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v222) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12)
          ∧ r.2.mem ((c.tc : Thread Cert.MidRefIdeal.nD Cert.MidRefIdeal.τ).loc Cert.MidRefIdeal.main_arg13) = m' ((c.tc : Thread Cert.MidRefIdeal.nD Cert.MidRefIdeal.τ).loc Cert.MidRefIdeal.main_arg13))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v13) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hAttn : Cert.Attn.Facts) (hAttnIdeal : Cert.AttnIdeal.Facts) (hAttnRefIdeal : Cert.AttnRefIdeal.Facts) (hPost : Cert.Post.Facts) (hPostIdeal : Cert.PostIdeal.Facts) (hPostRefIdeal : Cert.PostRefIdeal.Facts) (hMid : Cert.Mid.Facts) (hMidIdeal : Cert.MidIdeal.Facts) (hMidRefIdeal : Cert.MidRefIdeal.Facts) (hMod : Cert.Mod.Facts) (hModIdeal : Cert.ModIdeal.Facts) (hModRefIdeal : Cert.ModRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Post (hPost := hPost)
    ∧ quiescent_PostIdeal (hPostIdeal := hPostIdeal)
    ∧ quiescent_PostRefIdeal (hPostRefIdeal := hPostRefIdeal)
    ∧ quiescent_Mid (hMid := hMid)
    ∧ quiescent_MidIdeal (hMidIdeal := hMidIdeal)
    ∧ quiescent_MidRefIdeal (hMidRefIdeal := hMidRefIdeal)
    ∧ quiescent_Mod (hMod := hMod)
    ∧ quiescent_ModIdeal (hModIdeal := hModIdeal)
    ∧ quiescent_ModRefIdeal (hModRefIdeal := hModRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Post_PostIdeal
    ∧ algebraic_PostIdeal_PostRefIdeal (hPostIdeal := hPostIdeal) (hPostRefIdeal := hPostRefIdeal)
    ∧ preserves_Mid_MidIdeal
    ∧ algebraic_MidIdeal_MidRefIdeal (hMidIdeal := hMidIdeal) (hMidRefIdeal := hMidRefIdeal)
    ∧ preserves_Mod_ModIdeal
    ∧ algebraic_ModIdeal_ModRefIdeal (hModIdeal := hModIdeal) (hModRefIdeal := hModRefIdeal)
-- ==== Pre_finite.lean ====
abbrev S32x2304x8x64 : Shape := ⟨4, ![32, 2304, 8, 64]⟩
abbrev S32x2304x8x32 : Shape := ⟨4, ![32, 2304, 8, 32]⟩
abbrev S32x2304x32 : Shape := ⟨3, ![32, 2304, 32]⟩
abbrev S32x2304x1x32 : Shape := ⟨4, ![32, 2304, 1, 32]⟩
abbrev S32x2304x8x192 : Shape := ⟨4, ![32, 2304, 8, 192]⟩
abbrev S_ : Shape := ⟨0, ![]⟩

class Facts : Prop where
  bcast_S32x2304x32_S32x2304x1x32_0_1_3 : S32x2304x32.BroadcastsInDim S32x2304x1x32 (![0, 1, 3] : Fin 3 → Fin S32x2304x1x32.rank)
  bcast_S32x2304x1x32_S32x2304x8x32_0_1_2_3 : S32x2304x1x32.BroadcastsInDim S32x2304x8x32 (![0, 1, 2, 3] : Fin 4 → Fin S32x2304x8x32.rank)
  concatenates_S32x2304x8x64_S32x2304x8x32_S32x2304x8x64_S32x2304x8x32_S32x2304x8x192_d3 : Shape.Concatenates [S32x2304x8x64, S32x2304x8x32, S32x2304x8x64, S32x2304x8x32] S32x2304x8x192 3
  bcast_S_S32x2304x8x192 : S_.BroadcastsInDim S32x2304x8x192 (![] : Fin 0 → Fin S32x2304x8x192.rank)

variable [Facts]

def fn {F : FTy → Type} [FloatOps F] (main_arg0 : FVec F S32x2304x8x64 .f32) (main_arg1 : FVec F S32x2304x8x32 .f32) (main_arg2 : FVec F S32x2304x8x64 .f32) (main_arg3 : FVec F S32x2304x32 .f32) (main_arg4 : FVec F S32x2304x8x64 .f32) : IVec S32x2304x8x192 1 :=
  let main_v0 : FVec F S32x2304x1x32 .f32 := broadcastInDim S32x2304x1x32 ![0, 1, 3] bcast_S32x2304x32_S32x2304x1x32_0_1_3 main_arg3
  let main_v1 : FVec F S32x2304x8x32 .f32 := broadcastInDim S32x2304x8x32 ![0, 1, 2, 3] bcast_S32x2304x1x32_S32x2304x8x32_0_1_2_3 main_v0
  let main_v2 : FVec F S32x2304x8x192 .f32 := concatenate S32x2304x8x192 3 [⟨S32x2304x8x64, main_arg0⟩, ⟨S32x2304x8x32, main_arg1⟩, ⟨S32x2304x8x64, main_arg2⟩, ⟨S32x2304x8x32, main_v1⟩] concatenates_S32x2304x8x64_S32x2304x8x32_S32x2304x8x64_S32x2304x8x32_S32x2304x8x192_d3
  let main_v3 : FVec F S32x2304x8x192 .f32 := Host.absf main_v2
  let main_cst : FVec F S_ .f32 := constant S_ .f32 0x7F800000#32
  let main_v4 : FVec F S32x2304x8x192 .f32 := broadcastInDim S32x2304x8x192 ![] bcast_S_S32x2304x8x192 main_cst
  let main_v5 : IVec S32x2304x8x192 1 := cmpf .olt main_v3 main_v4
  main_v5
-- ==== Attn.lean ====
abbrev S32x2304x8x64 : Shape := ⟨4, ![32, 2304, 8, 64]⟩
abbrev S32x2304x8x32 : Shape := ⟨4, ![32, 2304, 8, 32]⟩
abbrev S32x2304x32 : Shape := ⟨3, ![32, 2304, 32]⟩
abbrev S_ : Shape := ⟨0, ![]⟩
abbrev S32x2304x8x96 : Shape := ⟨4, ![32, 2304, 8, 96]⟩
abbrev S32x2304x8x128 : Shape := ⟨4, ![32, 2304, 8, 128]⟩
abbrev S32x2304x1024 : Shape := ⟨3, ![32, 2304, 1024]⟩
abbrev S32x2304x1x32 : Shape := ⟨4, ![32, 2304, 1, 32]⟩
abbrev S32x2304x512 : Shape := ⟨3, ![32, 2304, 512]⟩
abbrev S1x2304x256 : Shape := ⟨3, ![1, 2304, 256]⟩
abbrev S1x2304x128 : Shape := ⟨3, ![1, 2304, 128]⟩
abbrev S2x2304x128 : Shape := ⟨3, ![2, 2304, 128]⟩
abbrev S256x128 : Shape := ⟨2, ![256, 128]⟩
abbrev S2304x128 : Shape := ⟨2, ![2304, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2304x256 : Shape := ⟨2, ![2304, 256]⟩
abbrev S2304 : Shape := ⟨1, ![2304]⟩
abbrev S2304x1 : Shape := ⟨2, ![2304, 1]⟩
abbrev S1x256x128 : Shape := ⟨3, ![1, 256, 128]⟩
abbrev S256x2304 : Shape := ⟨2, ![256, 2304]⟩
abbrev S1x256x1 : Shape := ⟨3, ![1, 256, 1]⟩
abbrev S1x1x1 : Shape := ⟨3, ![1, 1, 1]⟩

abbrev nBuf : Space → Nat
  | .hbm => 31
  | .vmem => 9
  | .smem => 0
  | _ => 0

abbrev bufTy : (tb : Table) → Fin (tcTables nBuf tb) → BufTy
  | .hbm, ⟨0, _⟩ => ⟨S32x2304x8x64, .f32⟩
  | .hbm, ⟨1, _⟩ => ⟨S32x2304x8x32, .f32⟩
  | .hbm, ⟨2, _⟩ => ⟨S32x2304x8x64, .f32⟩
  | .hbm, ⟨3, _⟩ => ⟨S32x2304x32, .f32⟩
  | .hbm, ⟨4, _⟩ => ⟨S32x2304x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2304x8x96, .f32⟩
  | .hbm, ⟨13, _⟩ => ⟨S32x2304x8x96, .f32⟩
  | .hbm, ⟨14, _⟩ => ⟨S32x2304x8x96, .f32⟩
  | .hbm, ⟨15, _⟩ => ⟨S_, .i32⟩
  | .hbm, ⟨16, _⟩ => ⟨S_, .f32⟩
  | .hbm, ⟨17, _⟩ => ⟨S32x2304x8x128, .f32⟩
  | .hbm, ⟨18, _⟩ => ⟨S32x2304x1024, .f32⟩
  | .hbm, ⟨19, _⟩ => ⟨S32x2304x1024, .bf16⟩
  | .hbm, ⟨20, _⟩ => ⟨S32x2304x1x32, .f32⟩
  | .hbm, ⟨21, _⟩ => ⟨S32x2304x8x32, .f32⟩
  | .hbm, ⟨22, _⟩ => ⟨S32x2304x8x96, .f32⟩
  | .hbm, ⟨23, _⟩ => ⟨S_, .i32⟩
  | .hbm, ⟨24, _⟩ => ⟨S_, .f32⟩
  | .hbm, ⟨25, _⟩ => ⟨S32x2304x8x128, .f32⟩
  | .hbm, ⟨26, _⟩ => ⟨S32x2304x1024, .f32⟩
  | .hbm, ⟨27, _⟩ => ⟨S32x2304x1024, .bf16⟩
  | .hbm, ⟨28, _⟩ => ⟨S32x2304x512, .f32⟩
  | .hbm, ⟨29, _⟩ => ⟨S32x2304x512, .bf16⟩
  | .hbm, ⟨30, _⟩ => ⟨S32x2304x512, .bf16⟩
  | .local _ .vmem, ⟨0, _⟩ => ⟨S1x2304x256, .bf16⟩
  | .local _ .vmem, ⟨1, _⟩ => ⟨S1x2304x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x2304x128, .bf16⟩
  | .local _ .vmem, ⟨7, _⟩ => ⟨S1x2304x128, .bf16⟩
  | .local _ .vmem, ⟨8, _⟩ => ⟨S2x2304x128, .bf16⟩
  | _, _ => ⟨S32x2304x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_1 : BitVec 32 := 0#32
  let v6 : BitVec 1 := Scalar.cmpi .eq arg2 c0_i32_1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2304x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S32x2304x8x64 : Shape := ⟨4, ![32, 2304, 8, 64]⟩
abbrev S32x2304x8x32 : Shape := ⟨4, ![32, 2304, 8, 32]⟩
abbrev S32x2304x32 : Shape := ⟨3, ![32, 2304, 32]⟩
abbrev S32x256x8x64 : Shape := ⟨4, ![32, 256, 8, 64]⟩
abbrev S32x256x8x32 : Shape := ⟨4, ![32, 256, 8, 32]⟩
abbrev S32x256x32 : Shape := ⟨3, ![32, 256, 32]⟩
abbrev S_ : Shape := ⟨0, ![]⟩
abbrev S32x8x256x256 : Shape := ⟨4, ![32, 8, 256, 256]⟩
abbrev S32x256x256x8 : Shape := ⟨4, ![32, 256, 256, 8]⟩
abbrev S32x8x256 : Shape := ⟨3, ![32, 8, 256]⟩
abbrev S32x8x256x1 : Shape := ⟨4, ![32, 8, 256, 1]⟩
abbrev S32x8x64x256 : Shape := ⟨4, ![32, 8, 64, 256]⟩
abbrev S32x256x512 : Shape := ⟨3, ![32, 256, 512]⟩
abbrev S32x2048x8x64 : Shape := ⟨4, ![32, 2048, 8, 64]⟩
abbrev S32x2048x8x32 : Shape := ⟨4, ![32, 2048, 8, 32]⟩
abbrev S32x8x2048x2304 : Shape := ⟨4, ![32, 8, 2048, 2304]⟩
abbrev S32x2304x2048x8 : Shape := ⟨4, ![32, 2304, 2048, 8]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x512 : Shape := ⟨3, ![32, 2048, 512]⟩
abbrev S32x2304x512 : Shape := ⟨3, ![32, 2304, 512]⟩

abbrev nBuf : Space → Nat
  | .hbm => 68
  | .vmem => 0
  | .smem => 0
  | _ => 0

abbrev bufTy : (tb : Table) → Fin (tcTables nBuf tb) → BufTy
  | .hbm, ⟨0, _⟩ => ⟨S32x2304x8x64, .f32⟩
  | .hbm, ⟨1, _⟩ => ⟨S32x2304x8x32, .f32⟩
  | .hbm, ⟨2, _⟩ => ⟨S32x2304x8x64, .f32⟩
  | .hbm, ⟨3, _⟩ => ⟨S32x2304x32, .f32⟩
  | .hbm, ⟨4, _⟩ => ⟨S32x2304x8x64, .f32⟩
  | .hbm, ⟨5, _⟩ => ⟨S32x256x8x64, .f32⟩
  | .hbm, ⟨6, _⟩ => ⟨S32x256x8x32, .f32⟩
  | .hbm, ⟨7, _⟩ => ⟨S32x256x8x64, .f32⟩
  | .hbm, ⟨8, _⟩ => ⟨S32x256x32, .f32⟩
  | .hbm, ⟨9, _⟩ => ⟨S32x256x8x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x8x256x256, .f32⟩
  | .hbm, ⟨15, _⟩ => ⟨S32x256x256x8, .f32⟩
  | .hbm, ⟨16, _⟩ => ⟨S32x8x256x256, .f32⟩
  | .hbm, ⟨17, _⟩ => ⟨S32x8x256x256, .f32⟩
  | .hbm, ⟨18, _⟩ => ⟨S32x8x256x256, .f32⟩
  | .hbm, ⟨19, _⟩ => ⟨S32x8x256x256, .f32⟩
  | .hbm, ⟨20, _⟩ => ⟨S_, .f32⟩
  | .hbm, ⟨21, _⟩ => ⟨S32x8x256, .f32⟩
  | .hbm, ⟨22, _⟩ => ⟨S_, .f32⟩
  | .hbm, ⟨23, _⟩ => ⟨S32x8x256, .f32⟩
  | .hbm, ⟨24, _⟩ => ⟨S32x8x256, .f32⟩
  | .hbm, ⟨25, _⟩ => ⟨S32x8x256x1, .f32⟩
  | .hbm, ⟨26, _⟩ => ⟨S32x8x256x256, .f32⟩
  | .hbm, ⟨27, _⟩ => ⟨S32x8x256x256, .f32⟩
  | .hbm, ⟨28, _⟩ => ⟨S32x8x256x256, .f32⟩
  | .hbm, ⟨29, _⟩ => ⟨S_, .f32⟩
  | .hbm, ⟨30, _⟩ => ⟨S32x8x256, .f32⟩
  | .hbm, ⟨31, _⟩ => ⟨S32x8x256x1, .f32⟩
  | .hbm, ⟨32, _⟩ => ⟨S32x8x256x256, .f32⟩
  | .hbm, ⟨33, _⟩ => ⟨S32x8x256x256, .f32⟩
  | .hbm, ⟨34, _⟩ => ⟨S32x8x64x256, .f32⟩
  | .hbm, ⟨35, _⟩ => ⟨S32x256x8x64, .f32⟩
  | .hbm, ⟨36, _⟩ => ⟨S32x256x512, .f32⟩
  | .hbm, ⟨37, _⟩ => ⟨S32x2048x8x64, .f32⟩
  | .hbm, ⟨38, _⟩ => ⟨S32x2048x8x32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32x8x2048x2304, .f32⟩
  | .hbm, ⟨44, _⟩ => ⟨S32x2304x2048x8, .f32⟩
  | .hbm, ⟨45, _⟩ => ⟨S32x8x2048x2304, .f32⟩
  | .hbm, ⟨46, _⟩ => ⟨S32x8x2048x2304, .f32⟩
  | .hbm, ⟨47, _⟩ => ⟨S32x8x2048x2304, .f32⟩
  | .hbm, ⟨48, _⟩ => ⟨S32x8x2048x2304, .f32⟩
  | .hbm, ⟨49, _⟩ => ⟨S_, .f32⟩
  | .hbm, ⟨50, _⟩ => ⟨S32x8x2048, .f32⟩
  | .hbm, ⟨51, _⟩ => ⟨S_, .f32⟩
  | .hbm, ⟨52, _⟩ => ⟨S32x8x2048, .f32⟩
  | .hbm, ⟨53, _⟩ => ⟨S32x8x2048, .f32⟩
  | .hbm, ⟨54, _⟩ => ⟨S32x8x2048x1, .f32⟩
  | .hbm, ⟨55, _⟩ => ⟨S32x8x2048x2304, .f32⟩
  | .hbm, ⟨56, _⟩ => ⟨S32x8x2048x2304, .f32⟩
  | .hbm, ⟨57, _⟩ => ⟨S32x8x2048x2304, .f32⟩
  | .hbm, ⟨58, _⟩ => ⟨S_, .f32⟩
  | .hbm, ⟨59, _⟩ => ⟨S32x8x2048, .f32⟩
  | .hbm, ⟨60, _⟩ => ⟨S32x8x2048x1, .f32⟩
  | .hbm, ⟨61, _⟩ => ⟨S32x8x2048x2304, .f32⟩
  | .hbm, ⟨62, _⟩ => ⟨S32x8x2048x2304, .f32⟩
  | .hbm, ⟨63, _⟩ => ⟨S32x8x64x2048, .f32⟩
  | .hbm, ⟨64, _⟩ => ⟨S32x2048x8x64, .f32⟩
  | .hbm, ⟨65, _⟩ => ⟨S32x2048x512, .f32⟩
  | .hbm, ⟨66, _⟩ => ⟨S32x2304x512, .f32⟩
  | .hbm, ⟨67, _⟩ => ⟨S32x2304x512, .bf16⟩
  | _, _ => ⟨S32x2304x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Post.lean ====
abbrev S32x2304x1024 : Shape := ⟨3, ![32, 2304, 1024]⟩
abbrev S33x6x1024 : Shape := ⟨3, ![33, 6, 1024]⟩
abbrev S32x2304x512 : Shape := ⟨3, ![32, 2304, 512]⟩
abbrev S32x2304x1536 : Shape := ⟨3, ![32, 2304, 1536]⟩
abbrev S32x2304x4096 : Shape := ⟨3, ![32, 2304, 4096]⟩
abbrev S3x512 : Shape := ⟨2, ![3, 512]⟩
abbrev S4x512x1024 : Shape := ⟨3, ![4, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S32x2048x1024 : Shape := ⟨3, ![32, 2048, 1024]⟩
abbrev S1x256x1024 : Shape := ⟨3, ![1, 256, 1024]⟩
abbrev S1x6x1024 : Shape := ⟨3, ![1, 6, 1024]⟩
abbrev S1x256x512 : Shape := ⟨3, ![1, 256, 512]⟩
abbrev S1x256x1536 : Shape := ⟨3, ![1, 256, 1536]⟩
abbrev S1x16x1536 : Shape := ⟨3, ![1, 16, 1536]⟩
abbrev S1x256x4096 : Shape := ⟨3, ![1, 256, 4096]⟩
abbrev S6x1024 : Shape := ⟨2, ![6, 1024]⟩
abbrev S1x16x512 : Shape := ⟨3, ![1, 16, 512]⟩
abbrev S16x512 : Shape := ⟨2, ![16, 512]⟩
abbrev S256x512 : Shape := ⟨2, ![256, 512]⟩
abbrev S288x512 : Shape := ⟨2, ![288, 512]⟩
abbrev S1x512 : Shape := ⟨2, ![1, 512]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S256x4096 : Shape := ⟨2, ![256, 4096]⟩

abbrev nBuf : Space → Nat
  | .hbm => 21
  | .vmem => 27
  | .smem => 0
  | _ => 0

abbrev bufTy : (tb : Table) → Fin (tcTables nBuf tb) → BufTy
  | .hbm, ⟨0, _⟩ => ⟨S32x2304x1024, .f32⟩
  | .hbm, ⟨1, _⟩ => ⟨S33x6x1024, .f32⟩
  | .hbm, ⟨2, _⟩ => ⟨S32x2304x512, .bf16⟩
  | .hbm, ⟨3, _⟩ => ⟨S32x2304x1536, .bf16⟩
  | .hbm, ⟨4, _⟩ => ⟨S32x2304x512, .bf16⟩
  | .hbm, ⟨5, _⟩ => ⟨S32x2304x512, .bf16⟩
  | .hbm, ⟨6, _⟩ => ⟨S32x2304x4096, .bf16⟩
  | .hbm, ⟨7, _⟩ => ⟨S3x512, .f32⟩
  | .hbm, ⟨8, _⟩ => ⟨S4x512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S4x512x1024, .bf16⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x1536, .bf16⟩
  | .local _ .vmem, ⟨7, _⟩ => ⟨S1x256x1536, .bf16⟩
  | .local _ .vmem, ⟨8, _⟩ => ⟨S1x16x1536, .bf16⟩
  | .local _ .vmem, ⟨9, _⟩ => ⟨S1x16x1536, .bf16⟩
  | .local _ .vmem, ⟨10, _⟩ => ⟨S1x16x1536, .bf16⟩
  | .local _ .vmem, ⟨11, _⟩ => ⟨S1x16x1536, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x4096, .bf16⟩
  | .local _ .vmem, ⟨17, _⟩ => ⟨S1x256x4096, .bf16⟩
  | .local _ .vmem, ⟨18, _⟩ => ⟨S3x512, .f32⟩
  | .local _ .vmem, ⟨19, _⟩ => ⟨S4x512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x4096, .bf16⟩
  | .local _ .vmem, ⟨23, _⟩ => ⟨S4096x1024, .bf16⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![32, 9], ![false, false]⟩

def k0_cond1 (i : grid0.Coords) : BitVec 1 :=
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let v2 : BitVec 1 := Scalar.cmpi .ne v1 c0_i32
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.select v0 c32_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c143_i32 : BitVec 32 := 143#32
  let v2 : BitVec 32 := Scalar.minsi v1 c143_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== PostRefIdeal.lean ====
abbrev S32x2304x1024 : Shape := ⟨3, ![32, 2304, 1024]⟩
abbrev S33x6x1024 : Shape := ⟨3, ![33, 6, 1024]⟩
abbrev S32x2304x512 : Shape := ⟨3, ![32, 2304, 512]⟩
abbrev S32x2304x1536 : Shape := ⟨3, ![32, 2304, 1536]⟩
abbrev S32x2304x4096 : Shape := ⟨3, ![32, 2304, 4096]⟩
abbrev S3x512 : Shape := ⟨2, ![3, 512]⟩
abbrev S4x512x1024 : Shape := ⟨3, ![4, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32x2048x1024 : Shape := ⟨3, ![32, 2048, 1024]⟩
abbrev S32x2048x512 : Shape := ⟨3, ![32, 2048, 512]⟩
abbrev S32x2048x1536 : Shape := ⟨3, ![32, 2048, 1536]⟩
abbrev S32x2048x4096 : Shape := ⟨3, ![32, 2048, 4096]⟩
abbrev S32x1x1024 : Shape := ⟨3, ![32, 1, 1024]⟩
abbrev S32x1024 : Shape := ⟨2, ![32, 1024]⟩
abbrev S_ : Shape := ⟨0, ![]⟩
abbrev S32x2050x512 : Shape := ⟨3, ![32, 2050, 512]⟩
abbrev S1x512 : Shape := ⟨2, ![1, 512]⟩
abbrev S512 : Shape := ⟨1, ![512]⟩
abbrev S1x1x512 : Shape := ⟨3, ![1, 1, 512]⟩
abbrev S1x512x1024 : Shape := ⟨3, ![1, 512, 1024]⟩
abbrev S512x1024 : Shape := ⟨2, ![512, 1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 149
  | .vmem => 0
  | .smem => 0
  | _ => 0

abbrev hbmTy0_0 (i : Nat) : BufTy := match i % 128 with
  | 0 => ⟨S32x2304x1024, .f32⟩
  | 1 => ⟨S33x6x1024, .f32⟩
  | 2 => ⟨S32x2304x512, .bf16⟩
  | 3 => ⟨S32x2304x1536, .bf16⟩
  | 4 => ⟨S32x2304x512, .bf16⟩
  | 5 => ⟨S32x2304x512, .bf16⟩
  | 6 => ⟨S32x2304x4096, .bf16⟩
  | 7 => ⟨S3x512, .f32⟩
  | 8 => ⟨S4x512x1024, .f32⟩
  | 9 => ⟨S1024x1024, .f32⟩
  | 10 => ⟨S1024, .f32⟩
  | 11 => ⟨S1024x4096, .f32⟩
  | 12 => ⟨S4096x1024, .f32⟩
  | 13 => ⟨S1024, .f32⟩
  | 14 => ⟨S32x2048x1024, .f32⟩
  | 15 => ⟨S32x2048x512, .bf16⟩
  | 16 => ⟨S32x2048x512, .f32⟩
  | 17 => ⟨S32x2048x1536, .bf16⟩
  | 18 => ⟨S32x2048x1536, .f32⟩
  | 19 => ⟨S32x2048x512, .bf16⟩
  | 20 => ⟨S32x2048x512, .f32⟩
  | 21 => ⟨S32x2048x512, .bf16⟩
  | 22 => ⟨S32x2048x512, .f32⟩
  | 23 => ⟨S32x2048x4096, .bf16⟩
  | 24 => ⟨S32x2048x4096, .f32⟩
  | 25 => ⟨S32x1x1024, .f32⟩
  | 26 => ⟨S32x1024, .f32⟩
  | 27 => ⟨S32x1x1024, .f32⟩
  | 28 => ⟨S32x1x1024, .f32⟩
  | 29 => ⟨S32x1024, .f32⟩
  | 30 => ⟨S32x1x1024, .f32⟩
  | 31 => ⟨S32x1x1024, .f32⟩
  | 32 => ⟨S32x1024, .f32⟩
  | 33 => ⟨S32x1x1024, .f32⟩
  | 34 => ⟨S32x1x1024, .f32⟩
  | 35 => ⟨S32x1024, .f32⟩
  | 36 => ⟨S32x1x1024, .f32⟩
  | 37 => ⟨S32x1x1024, .f32⟩
  | 38 => ⟨S32x1024, .f32⟩
  | 39 => ⟨S32x1x1024, .f32⟩
  | 40 => ⟨S32x1x1024, .f32⟩
  | 41 => ⟨S32x1024, .f32⟩
  | 42 => ⟨S32x1x1024, .f32⟩
  | 43 => ⟨S32x2048x512, .f32⟩
  | 44 => ⟨S32x2048x512, .f32⟩
  | 45 => ⟨S32x2048x512, .f32⟩
  | 46 => ⟨S32x2048x512, .f32⟩
  | 47 => ⟨S_, .i32⟩
  | 48 => ⟨S_, .f32⟩
  | 49 => ⟨S32x2050x512, .f32⟩
  | 50 => ⟨S32x2048x512, .f32⟩
  | 51 => ⟨S1x512, .f32⟩
  | 52 => ⟨S512, .f32⟩
  | 53 => ⟨S1x1x512, .f32⟩
  | 54 => ⟨S32x2048x512, .f32⟩
  | 55 => ⟨S32x2048x512, .f32⟩
  | 56 => ⟨S_, .f32⟩
  | 57 => ⟨S32x2048x512, .f32⟩
  | 58 => ⟨S32x2048x512, .f32⟩
  | 59 => ⟨S32x2048x512, .f32⟩
  | 60 => ⟨S1x512, .f32⟩
  | 61 => ⟨S512, .f32⟩
  | 62 => ⟨S1x1x512, .f32⟩
  | 63 => ⟨S32x2048x512, .f32⟩
  | 64 => ⟨S32x2048x512, .f32⟩
  | 65 => ⟨S32x2048x512, .f32⟩
  | 66 => ⟨S32x2048x512, .f32⟩
  | 67 => ⟨S1x512, .f32⟩
  | 68 => ⟨S512, .f32⟩
  | 69 => ⟨S1x1x512, .f32⟩
  | 70 => ⟨S32x2048x512, .f32⟩
  | 71 => ⟨S32x2048x512, .f32⟩
  | 72 => ⟨S32x2048x512, .f32⟩
  | 73 => ⟨S32x2048x512, .f32⟩
  | 74 => ⟨S32x2048x1024, .f32⟩
  | 75 => ⟨S32x2048x1024, .f32⟩
  | 76 => ⟨S32x2048x1024, .f32⟩
  | 77 => ⟨S32x2048x1024, .f32⟩
  | 78 => ⟨S1x512x1024, .f32⟩
  | 79 => ⟨S512x1024, .f32⟩
  | 80 => ⟨S32x2048x1024, .f32⟩
  | 81 => ⟨S32x2048x1024, .f32⟩
  | 82 => ⟨S1x512x1024, .f32⟩
  | 83 => ⟨S512x1024, .f32⟩
  | 84 => ⟨S32x2048x1024, .f32⟩
  | 85 => ⟨S32x2048x1024, .f32⟩
  | 86 => ⟨S32x2048x1024, .f32⟩
  | 87 => ⟨S1x512x1024, .f32⟩
  | 88 => ⟨S512x1024, .f32⟩
  | 89 => ⟨S32x2048x1024, .f32⟩
  | 90 => ⟨S32x2048x1024, .f32⟩
  | 91 => ⟨S32x2048x1024, .f32⟩
  | 92 => ⟨S1x512x1024, .f32⟩
  | 93 => ⟨S512x1024, .f32⟩
  | 94 => ⟨S32x2048x1024, .f32⟩
  | 95 => ⟨S32x2048x1024, .f32⟩
  | 96 => ⟨S32x2048x1024, .f32⟩
  | 97 => ⟨S32x2048x1024, .f32⟩
  | 98 => ⟨S32x2048x1024, .f32⟩
  | 99 => ⟨S32x2048x1024, .f32⟩
  | 100 => ⟨S32x2048x1024, .f32⟩
  | 101 => ⟨S32x2048x1024, .f32⟩
  | 102 => ⟨S_, .f32⟩
  | 103 => ⟨S32x2048, .f32⟩
  | 104 => ⟨S32x2048x1, .f32⟩
  | 105 => ⟨S_, .f32⟩
  | 106 => ⟨S32x2048x1, .f32⟩
  | 107 => ⟨S32x2048x1, .f32⟩
  | 108 => ⟨S_, .f32⟩
  | 109 => ⟨S32x2048x1, .f32⟩
  | 110 => ⟨S32x2048x1, .f32⟩
  | 111 => ⟨S32x2048x1, .f32⟩
  | 112 => ⟨S32x2048x1024, .f32⟩
  | 113 => ⟨S32x2048x1024, .f32⟩
  | 114 => ⟨S1x1x1024, .f32⟩
  | 115 => ⟨S32x2048x1024, .f32⟩
  | 116 => ⟨S32x2048x1024, .f32⟩
  | 117 => ⟨S_, .f32⟩
  | 118 => ⟨S32x1x1024, .f32⟩
  | 119 => ⟨S32x1x1024, .f32⟩
  | 120 => ⟨S32x2048x1024, .f32⟩
  | 121 => ⟨S32x2048x1024, .f32⟩
  | 122 => ⟨S32x2048x1024, .f32⟩
  | 123 => ⟨S32x2048x1024, .f32⟩
  | 124 => ⟨S32x2048x4096, .f32⟩
  | 125 => ⟨S_, .f32⟩
  | 126 => ⟨S32x2048x4096, .f32⟩
  | 127 => ⟨S32x2048x4096, .f32⟩
  | _ => ⟨S32x2304x1024, .f32⟩

abbrev hbmTy0_1 (i : Nat) : BufTy := match i % 128 with
  | 0 => ⟨S32x2048x4096, .f32⟩
  | 1 => ⟨S32x2048x1024, .f32⟩
  | 2 => ⟨S32x2048x1024, .f32⟩
  | 3 => ⟨S32x2048x1024, .f32⟩
  | 4 => ⟨S32x2048x1024, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S_, .f32⟩
  | 13 => ⟨S32x2048x1, .f32⟩
  | 14 => ⟨S32x2048x1, .f32⟩
  | 15 => ⟨S32x2048x1, .f32⟩
  | 16 => ⟨S32x2048x1024, .f32⟩
  | 17 => ⟨S32x2048x1024, .f32⟩
  | 18 => ⟨S1x1x1024, .f32⟩
  | 19 => ⟨S32x2048x1024, .f32⟩
  | 20 => ⟨S32x2048x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_0 : Ref sig .tc := ⟨.hbm, 102, rfl⟩
abbrev main_v85 : Ref sig .tc := ⟨.hbm, 103, rfl⟩
abbrev main_v86 : Ref sig .tc := ⟨.hbm, 104, rfl⟩
abbrev main_cst_1 : Ref sig .tc := ⟨.hbm, 105, rfl⟩
abbrev main_v87 : Ref sig .tc := ⟨.hbm, 106, rfl⟩
abbrev main_v88 : Ref sig .tc := ⟨.hbm, 107, rfl⟩
abbrev main_cst_2 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_3 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_call1_cst : Ref sig .tc := ⟨.hbm, 125, rfl⟩
abbrev main_call1_v0 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_4 : Ref sig .tc := ⟨.hbm, 134, rfl⟩
abbrev main_v111 : Ref sig .tc := ⟨.hbm, 135, rfl⟩
abbrev main_v112 : Ref sig .tc := ⟨.hbm, 136, rfl⟩
abbrev main_cst_5 : Ref sig .tc := ⟨.hbm, 137, rfl⟩
abbrev main_v113 : Ref sig .tc := ⟨.hbm, 138, rfl⟩
abbrev main_v114 : Ref sig .tc := ⟨.hbm, 139, rfl⟩
abbrev main_cst_6 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩

abbrev nD : Nat := 1
abbrev τ : Topo := Topo.v7x

variable {F : FTy → Type} [FloatOps F]
-- ==== Mid.lean ====
abbrev S32x2304x1024 : Shape := ⟨3, ![32, 2304, 1024]⟩
abbrev S33x6x1024 : Shape := ⟨3, ![33, 6, 1024]⟩
abbrev S32x2304x512 : Shape := ⟨3, ![32, 2304, 512]⟩
abbrev S32x2304x1536 : Shape := ⟨3, ![32, 2304, 1536]⟩
abbrev S32x2304x4096 : Shape := ⟨3, ![32, 2304, 4096]⟩
abbrev S3x512 : Shape := ⟨2, ![3, 512]⟩
abbrev S4x512x1024 : Shape := ⟨3, ![4, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x256x1024 : Shape := ⟨3, ![1, 256, 1024]⟩
abbrev S1x6x1024 : Shape := ⟨3, ![1, 6, 1024]⟩
abbrev S1x256x512 : Shape := ⟨3, ![1, 256, 512]⟩
abbrev S1x256x1536 : Shape := ⟨3, ![1, 256, 1536]⟩
abbrev S1x16x1536 : Shape := ⟨3, ![1, 16, 1536]⟩
abbrev S1x256x4096 : Shape := ⟨3, ![1, 256, 4096]⟩
abbrev S6x1024 : Shape := ⟨2, ![6, 1024]⟩
abbrev S1x16x512 : Shape := ⟨3, ![1, 16, 512]⟩
abbrev S16x512 : Shape := ⟨2, ![16, 512]⟩
abbrev S256x512 : Shape := ⟨2, ![256, 512]⟩
abbrev S288x512 : Shape := ⟨2, ![288, 512]⟩
abbrev S1x512 : Shape := ⟨2, ![1, 512]⟩
abbrev S256x1024 : Shape := ⟨2, ![256, 1024]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩
abbrev S256x4096 : Shape := ⟨2, ![256, 4096]⟩

abbrev nBuf : Space → Nat
  | .hbm => 21
  | .vmem => 27
  | .smem => 0
  | _ => 0

abbrev bufTy : (tb : Table) → Fin (tcTables nBuf tb) → BufTy
  | .hbm, ⟨0, _⟩ => ⟨S32x2304x1024, .f32⟩
  | .hbm, ⟨1, _⟩ => ⟨S33x6x1024, .f32⟩
  | .hbm, ⟨2, _⟩ => ⟨S32x2304x512, .bf16⟩
  | .hbm, ⟨3, _⟩ => ⟨S32x2304x1536, .bf16⟩
  | .hbm, ⟨4, _⟩ => ⟨S32x2304x512, .bf16⟩
  | .hbm, ⟨5, _⟩ => ⟨S32x2304x512, .bf16⟩
  | .hbm, ⟨6, _⟩ => ⟨S32x2304x4096, .bf16⟩
  | .hbm, ⟨7, _⟩ => ⟨S3x512, .f32⟩
  | .hbm, ⟨8, _⟩ => ⟨S4x512x1024, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1024, .f32⟩
  | .hbm, ⟨14, _⟩ => ⟨S4x512x1024, .bf16⟩
  | .hbm, ⟨15, _⟩ => ⟨S1024x1024, .bf16⟩
  | .hbm, ⟨16, _⟩ => ⟨S1x1024, .f32⟩
  | .hbm, ⟨17, _⟩ => ⟨S1024x4096, .bf16⟩
  | .hbm, ⟨18, _⟩ => ⟨S4096x1024, .bf16⟩
  | .hbm, ⟨19, _⟩ => ⟨S1x1024, .f32⟩
  | .hbm, ⟨20, _⟩ => ⟨S32x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x1536, .bf16⟩
  | .local _ .vmem, ⟨7, _⟩ => ⟨S1x256x1536, .bf16⟩
  | .local _ .vmem, ⟨8, _⟩ => ⟨S1x16x1536, .bf16⟩
  | .local _ .vmem, ⟨9, _⟩ => ⟨S1x16x1536, .bf16⟩
  | .local _ .vmem, ⟨10, _⟩ => ⟨S1x16x1536, .bf16⟩
  | .local _ .vmem, ⟨11, _⟩ => ⟨S1x16x1536, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x4096, .bf16⟩
  | .local _ .vmem, ⟨17, _⟩ => ⟨S1x256x4096, .bf16⟩
  | .local _ .vmem, ⟨18, _⟩ => ⟨S3x512, .f32⟩
  | .local _ .vmem, ⟨19, _⟩ => ⟨S4x512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x4096, .bf16⟩
  | .local _ .vmem, ⟨23, _⟩ => ⟨S4096x1024, .bf16⟩
  | .local _ .vmem, ⟨24, _⟩ => ⟨S1x1024, .f32⟩
  | .local _ .vmem, ⟨25, _⟩ => ⟨S1x256x1024, .f32⟩
  | .local _ .vmem, ⟨26, _⟩ => ⟨S1x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![32, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c32_i32 : BitVec 32 := 32#32
  let v1 : BitVec 32 := Scalar.select v0 c32_i32 arg0
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c143_i32 : BitVec 32 := 143#32
  let v2 : BitVec 32 := Scalar.minsi v1 c143_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MidRefIdeal.lean ====
abbrev S32x2304x1024 : Shape := ⟨3, ![32, 2304, 1024]⟩
abbrev S33x6x1024 : Shape := ⟨3, ![33, 6, 1024]⟩
abbrev S32x2304x512 : Shape := ⟨3, ![32, 2304, 512]⟩
abbrev S32x2304x1536 : Shape := ⟨3, ![32, 2304, 1536]⟩
abbrev S32x2304x4096 : Shape := ⟨3, ![32, 2304, 4096]⟩
abbrev S3x512 : Shape := ⟨2, ![3, 512]⟩
abbrev S4x512x1024 : Shape := ⟨3, ![4, 512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32x256x1024 : Shape := ⟨3, ![32, 256, 1024]⟩
abbrev S1x6x1024 : Shape := ⟨3, ![1, 6, 1024]⟩
abbrev S32x256x512 : Shape := ⟨3, ![32, 256, 512]⟩
abbrev S32x256x1536 : Shape := ⟨3, ![32, 256, 1536]⟩
abbrev S32x256x4096 : Shape := ⟨3, ![32, 256, 4096]⟩
abbrev S1x1x1024 : Shape := ⟨3, ![1, 1, 1024]⟩
abbrev S1x1024 : Shape := ⟨2, ![1, 1024]⟩
abbrev S_ : Shape := ⟨0, ![]⟩
abbrev S32x258x512 : Shape := ⟨3, ![32, 258, 512]⟩
abbrev S1x512 : Shape := ⟨2, ![1, 512]⟩
abbrev S512 : Shape := ⟨1, ![512]⟩
abbrev S1x1x512 : Shape := ⟨3, ![1, 1, 512]⟩
abbrev S1x512x1024 : Shape := ⟨3, ![1, 512, 1024]⟩
abbrev S512x1024 : Shape := ⟨2, ![512, 1024]⟩
abbrev S32x256 : Shape := ⟨2, ![32, 256]⟩
abbrev S32x256x1 : Shape := ⟨3, ![32, 256, 1]⟩
abbrev S32x2048x1024 : Shape := ⟨3, ![32, 2048, 1024]⟩
abbrev S32x6x1024 : Shape := ⟨3, ![32, 6, 1024]⟩
abbrev S32x2048x512 : Shape := ⟨3, ![32, 2048, 512]⟩
abbrev S32x2048x1536 : Shape := ⟨3, ![32, 2048, 1536]⟩
abbrev S32x2048x4096 : Shape := ⟨3, ![32, 2048, 4096]⟩
abbrev S32x1x1024 : Shape := ⟨3, ![32, 1, 1024]⟩
abbrev S32x1024 : Shape := ⟨2, ![32, 1024]⟩
abbrev S32x2050x512 : Shape := ⟨3, ![32, 2050, 512]⟩
abbrev S32x2048 : Shape := ⟨2, ![32, 2048]⟩
abbrev S32x2048x1 : Shape := ⟨3, ![32, 2048, 1]⟩

abbrev nBuf : Space → Nat
  | .hbm => 255
  | .vmem => 0
  | .smem => 0
  | _ => 0

abbrev hbmTy0_0 (i : Nat) : BufTy := match i % 128 with
  | 0 => ⟨S32x2304x1024, .f32⟩
  | 1 => ⟨S33x6x1024, .f32⟩
  | 2 => ⟨S32x2304x512, .bf16⟩
  | 3 => ⟨S32x2304x1536, .bf16⟩
  | 4 => ⟨S32x2304x512, .bf16⟩
  | 5 => ⟨S32x2304x512, .bf16⟩
  | 6 => ⟨S32x2304x4096, .bf16⟩
  | 7 => ⟨S3x512, .f32⟩
  | 8 => ⟨S4x512x1024, .f32⟩
  | 9 => ⟨S1024x1024, .f32⟩
  | 10 => ⟨S1024, .f32⟩
  | 11 => ⟨S1024x4096, .f32⟩
  | 12 => ⟨S4096x1024, .f32⟩
  | 13 => ⟨S1024, .f32⟩
  | 14 => ⟨S32x256x1024, .f32⟩
  | 15 => ⟨S1x6x1024, .f32⟩
  | 16 => ⟨S32x256x512, .bf16⟩
  | 17 => ⟨S32x256x512, .f32⟩
  | 18 => ⟨S32x256x1536, .bf16⟩
  | 19 => ⟨S32x256x1536, .f32⟩
  | 20 => ⟨S32x256x512, .bf16⟩
  | 21 => ⟨S32x256x512, .f32⟩
  | 22 => ⟨S32x256x512, .bf16⟩
  | 23 => ⟨S32x256x512, .f32⟩
  | 24 => ⟨S32x256x4096, .bf16⟩
  | 25 => ⟨S32x256x4096, .f32⟩
  | 26 => ⟨S1x1x1024, .f32⟩
  | 27 => ⟨S1x1024, .f32⟩
  | 28 => ⟨S1x1x1024, .f32⟩
  | 29 => ⟨S1x1x1024, .f32⟩
  | 30 => ⟨S1x1024, .f32⟩
  | 31 => ⟨S1x1x1024, .f32⟩
  | 32 => ⟨S1x1x1024, .f32⟩
  | 33 => ⟨S1x1024, .f32⟩
  | 34 => ⟨S1x1x1024, .f32⟩
  | 35 => ⟨S1x1x1024, .f32⟩
  | 36 => ⟨S1x1024, .f32⟩
  | 37 => ⟨S1x1x1024, .f32⟩
  | 38 => ⟨S1x1x1024, .f32⟩
  | 39 => ⟨S1x1024, .f32⟩
  | 40 => ⟨S1x1x1024, .f32⟩
  | 41 => ⟨S1x1x1024, .f32⟩
  | 42 => ⟨S1x1024, .f32⟩
  | 43 => ⟨S1x1x1024, .f32⟩
  | 44 => ⟨S32x256x512, .f32⟩
  | 45 => ⟨S32x256x512, .f32⟩
  | 46 => ⟨S32x256x512, .f32⟩
  | 47 => ⟨S32x256x512, .f32⟩
  | 48 => ⟨S_, .i32⟩
  | 49 => ⟨S_, .f32⟩
  | 50 => ⟨S32x258x512, .f32⟩
  | 51 => ⟨S32x256x512, .f32⟩
  | 52 => ⟨S1x512, .f32⟩
  | 53 => ⟨S512, .f32⟩
  | 54 => ⟨S1x1x512, .f32⟩
  | 55 => ⟨S32x256x512, .f32⟩
  | 56 => ⟨S32x256x512, .f32⟩
  | 57 => ⟨S_, .f32⟩
  | 58 => ⟨S32x256x512, .f32⟩
  | 59 => ⟨S32x256x512, .f32⟩
  | 60 => ⟨S32x256x512, .f32⟩
  | 61 => ⟨S1x512, .f32⟩
  | 62 => ⟨S512, .f32⟩
  | 63 => ⟨S1x1x512, .f32⟩
  | 64 => ⟨S32x256x512, .f32⟩
  | 65 => ⟨S32x256x512, .f32⟩
  | 66 => ⟨S32x256x512, .f32⟩
  | 67 => ⟨S32x256x512, .f32⟩
  | 68 => ⟨S1x512, .f32⟩
  | 69 => ⟨S512, .f32⟩
  | 70 => ⟨S1x1x512, .f32⟩
  | 71 => ⟨S32x256x512, .f32⟩
  | 72 => ⟨S32x256x512, .f32⟩
  | 73 => ⟨S32x256x512, .f32⟩
  | 74 => ⟨S32x256x512, .f32⟩
  | 75 => ⟨S32x256x1024, .f32⟩
  | 76 => ⟨S32x256x1024, .f32⟩
  | 77 => ⟨S32x256x1024, .f32⟩
  | 78 => ⟨S32x256x1024, .f32⟩
  | 79 => ⟨S1x512x1024, .f32⟩
  | 80 => ⟨S512x1024, .f32⟩
  | 81 => ⟨S32x256x1024, .f32⟩
  | 82 => ⟨S32x256x1024, .f32⟩
  | 83 => ⟨S1x512x1024, .f32⟩
  | 84 => ⟨S512x1024, .f32⟩
  | 85 => ⟨S32x256x1024, .f32⟩
  | 86 => ⟨S32x256x1024, .f32⟩
  | 87 => ⟨S32x256x1024, .f32⟩
  | 88 => ⟨S1x512x1024, .f32⟩
  | 89 => ⟨S512x1024, .f32⟩
  | 90 => ⟨S32x256x1024, .f32⟩
  | 91 => ⟨S32x256x1024, .f32⟩
  | 92 => ⟨S32x256x1024, .f32⟩
  | 93 => ⟨S1x512x1024, .f32⟩
  | 94 => ⟨S512x1024, .f32⟩
  | 95 => ⟨S32x256x1024, .f32⟩
  | 96 => ⟨S32x256x1024, .f32⟩
  | 97 => ⟨S32x256x1024, .f32⟩
  | 98 => ⟨S32x256x1024, .f32⟩
  | 99 => ⟨S32x256x1024, .f32⟩
  | 100 => ⟨S32x256x1024, .f32⟩
  | 101 => ⟨S32x256x1024, .f32⟩
  | 102 => ⟨S32x256x1024, .f32⟩
  | 103 => ⟨S_, .f32⟩
  | 104 => ⟨S32x256, .f32⟩
  | 105 => ⟨S32x256x1, .f32⟩
  | 106 => ⟨S_, .f32⟩
  | 107 => ⟨S32x256x1, .f32⟩
  | 108 => ⟨S32x256x1, .f32⟩
  | 109 => ⟨S_, .f32⟩
  | 110 => ⟨S32x256x1, .f32⟩
  | 111 => ⟨S32x256x1, .f32⟩
  | 112 => ⟨S32x256x1, .f32⟩
  | 113 => ⟨S32x256x1024, .f32⟩
  | 114 => ⟨S32x256x1024, .f32⟩
  | 115 => ⟨S1x1x1024, .f32⟩
  | 116 => ⟨S32x256x1024, .f32⟩
  | 117 => ⟨S32x256x1024, .f32⟩
  | 118 => ⟨S_, .f32⟩
  | 119 => ⟨S1x1x1024, .f32⟩
  | 120 => ⟨S1x1x1024, .f32⟩
  | 121 => ⟨S32x256x1024, .f32⟩
  | 122 => ⟨S32x256x1024, .f32⟩
  | 123 => ⟨S32x256x1024, .f32⟩
  | 124 => ⟨S32x256x1024, .f32⟩
  | 125 => ⟨S32x256x4096, .f32⟩
  | 126 => ⟨S_, .f32⟩
  | 127 => ⟨S32x256x4096, .f32⟩
  | _ => ⟨S32x2304x1024, .f32⟩

abbrev hbmTy0_1 (i : Nat) : BufTy := match i % 128 with
  | 0 => ⟨S32x256x4096, .f32⟩
  | 1 => ⟨S32x256x4096, .f32⟩
  | 2 => ⟨S32x256x1024, .f32⟩
  | 3 => ⟨S32x256x1024, .f32⟩
  | 4 => ⟨S32x256x1024, .f32⟩
  | 5 => ⟨S32x256x1024, .f32⟩
  | 6 => ⟨S32x2048x1024, .f32⟩
  | 7 => ⟨S32x6x1024, .f32⟩
  | 8 => ⟨S32x2048x512, .bf16⟩
  | 9 => ⟨S32x2048x512, .f32⟩
  | 10 => ⟨S32x2048x1536, .bf16⟩
  | 11 => ⟨S32x2048x1536, .f32⟩
  | 12 => ⟨S32x2048x512, .bf16⟩
  | 13 => ⟨S32x2048x512, .f32⟩
  | 14 => ⟨S32x2048x512, .bf16⟩
  | 15 => ⟨S32x2048x512, .f32⟩
  | 16 => ⟨S32x2048x4096, .bf16⟩
  | 17 => ⟨S32x2048x4096, .f32⟩
  | 18 => ⟨S32x1x1024, .f32⟩
  | 19 => ⟨S32x1024, .f32⟩
  | 20 => ⟨S32x1x1024, .f32⟩
  | 21 => ⟨S32x1x1024, .f32⟩
  | 22 => ⟨S32x1024, .f32⟩
  | 23 => ⟨S32x1x1024, .f32⟩
  | 24 => ⟨S32x1x1024, .f32⟩
  | 25 => ⟨S32x1024, .f32⟩
  | 26 => ⟨S32x1x1024, .f32⟩
  | 27 => ⟨S32x1x1024, .f32⟩
  | 28 => ⟨S32x1024, .f32⟩
  | 29 => ⟨S32x1x1024, .f32⟩
  | 30 => ⟨S32x1x1024, .f32⟩
  | 31 => ⟨S32x1024, .f32⟩
  | 32 => ⟨S32x1x1024, .f32⟩
  | 33 => ⟨S32x1x1024, .f32⟩
  | 34 => ⟨S32x1024, .f32⟩
  | 35 => ⟨S32x1x1024, .f32⟩
  | 36 => ⟨S32x2048x512, .f32⟩
  | 37 => ⟨S32x2048x512, .f32⟩
  | 38 => ⟨S32x2048x512, .f32⟩
  | 39 => ⟨S32x2048x512, .f32⟩
  | 40 => ⟨S_, .i32⟩
  | 41 => ⟨S_, .f32⟩
  | 42 => ⟨S32x2050x512, .f32⟩
  | 43 => ⟨S32x2048x512, .f32⟩
  | 44 => ⟨S1x512, .f32⟩
  | 45 => ⟨S512, .f32⟩
  | 46 => ⟨S1x1x512, .f32⟩
  | 47 => ⟨S32x2048x512, .f32⟩
  | 48 => ⟨S32x2048x512, .f32⟩
  | 49 => ⟨S_, .f32⟩
  | 50 => ⟨S32x2048x512, .f32⟩
  | 51 => ⟨S32x2048x512, .f32⟩
  | 52 => ⟨S32x2048x512, .f32⟩
  | 53 => ⟨S1x512, .f32⟩
  | 54 => ⟨S512, .f32⟩
  | 55 => ⟨S1x1x512, .f32⟩
  | 56 => ⟨S32x2048x512, .f32⟩
  | 57 => ⟨S32x2048x512, .f32⟩
  | 58 => ⟨S32x2048x512, .f32⟩
  | 59 => ⟨S32x2048x512, .f32⟩
  | 60 => ⟨S1x512, .f32⟩
  | 61 => ⟨S512, .f32⟩
  | 62 => ⟨S1x1x512, .f32⟩
  | 63 => ⟨S32x2048x512, .f32⟩
  | 64 => ⟨S32x2048x512, .f32⟩
  | 65 => ⟨S32x2048x512, .f32⟩
  | 66 => ⟨S32x2048x512, .f32⟩
  | 67 => ⟨S32x2048x1024, .f32⟩
  | 68 => ⟨S32x2048x1024, .f32⟩
  | 69 => ⟨S32x2048x1024, .f32⟩
  | 70 => ⟨S32x2048x1024, .f32⟩
  | 71 => ⟨S1x512x1024, .f32⟩
  | 72 => ⟨S512x1024, .f32⟩
  | 73 => ⟨S32x2048x1024, .f32⟩
  | 74 => ⟨S32x2048x1024, .f32⟩
  | 75 => ⟨S1x512x1024, .f32⟩
  | 76 => ⟨S512x1024, .f32⟩
  | 77 => ⟨S32x2048x1024, .f32⟩
  | 78 => ⟨S32x2048x1024, .f32⟩
  | 79 => ⟨S32x2048x1024, .f32⟩
  | 80 => ⟨S1x512x1024, .f32⟩
  | 81 => ⟨S512x1024, .f32⟩
  | 82 => ⟨S32x2048x1024, .f32⟩
  | 83 => ⟨S32x2048x1024, .f32⟩
  | 84 => ⟨S32x2048x1024, .f32⟩
  | 85 => ⟨S1x512x1024, .f32⟩
  | 86 => ⟨S512x1024, .f32⟩
  | 87 => ⟨S32x2048x1024, .f32⟩
  | 88 => ⟨S32x2048x1024, .f32⟩
  | 89 => ⟨S32x2048x1024, .f32⟩
  | 90 => ⟨S32x2048x1024, .f32⟩
  | 91 => ⟨S32x2048x1024, .f32⟩
  | 92 => ⟨S32x2048x1024, .f32⟩
  | 93 => ⟨S32x2048x1024, .f32⟩
  | 94 => ⟨S32x2048x1024, .f32⟩
  | 95 => ⟨S_, .f32⟩
  | 96 => ⟨S32x2048, .f32⟩
  | 97 => ⟨S32x2048x1, .f32⟩
  | 98 => ⟨S_, .f32⟩
  | 99 => ⟨S32x2048x1, .f32⟩
  | 100 => ⟨S32x2048x1, .f32⟩
  | 101 => ⟨S_, .f32⟩
  | 102 => ⟨S32x2048x1, .f32⟩
  | 103 => ⟨S32x2048x1, .f32⟩
  | 104 => ⟨S32x2048x1, .f32⟩
  | 105 => ⟨S32x2048x1024, .f32⟩
  | 106 => ⟨S32x2048x1024, .f32⟩
  | 107 => ⟨S1x1x1024, .f32⟩
  | 108 => ⟨S32x2048x1024, .f32⟩
  | 109 => ⟨S32x2048x1024, .f32⟩
  | 110 => ⟨S_, .f32⟩
  | 111 => ⟨S32x1x1024, .f32⟩
  | 112 => ⟨S32x1x1024, .f32⟩
  | 113 => ⟨S32x2048x1024, .f32⟩
  | 114 => ⟨S32x2048x1024, .f32⟩
  | 115 => ⟨S32x2048x1024, .f32⟩
  | 116 => ⟨S32x2048x1024, .f32⟩
  | 117 => ⟨S32x2048x4096, .f32⟩
  | 118 => ⟨S_, .f32⟩
  | 119 => ⟨S32x2048x4096, .f32⟩
  | 120 => ⟨S32x2048x4096, .f32⟩
  | 121 => ⟨S32x2048x4096, .f32⟩
  | 122 => ⟨S32x2048x1024, .f32⟩
  | 123 => ⟨S32x2048x1024, .f32⟩
  | 124 => ⟨S32x2048x1024, .f32⟩
  | 125 => ⟨S32x2048x1024, .f32⟩
  | 126 => ⟨S32x2304x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_cst_0 : Ref sig .tc := ⟨.hbm, 103, rfl⟩
abbrev main_v86 : Ref sig .tc := ⟨.hbm, 104, rfl⟩
abbrev main_v87 : Ref sig .tc := ⟨.hbm, 105, rfl⟩
abbrev main_cst_1 : Ref sig .tc := ⟨.hbm, 106, rfl⟩
abbrev main_v88 : Ref sig .tc := ⟨.hbm, 107, rfl⟩
abbrev main_v89 : Ref sig .tc := ⟨.hbm, 108, rfl⟩
abbrev main_cst_2 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_3 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_call1_cst : Ref sig .tc := ⟨.hbm, 126, rfl⟩
abbrev main_call1_v0 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_c_4 : Ref sig .tc := ⟨.hbm, 168, rfl⟩
abbrev main_call2_v0 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_cst_5 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_cst_6 : Ref sig .tc := ⟨.hbm, 223, rfl⟩
abbrev main_v197 : Ref sig .tc := ⟨.hbm, 224, rfl⟩
abbrev main_v198 : Ref sig .tc := ⟨.hbm, 225, rfl⟩
abbrev main_cst_7 : Ref sig .tc := ⟨.hbm, 226, rfl⟩
abbrev main_v199 : Ref sig .tc := ⟨.hbm, 227, rfl⟩
abbrev main_v200 : Ref sig .tc := ⟨.hbm, 228, rfl⟩
abbrev main_cst_8 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_cst_9 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_call3_cst : Ref sig .tc := ⟨.hbm, 246, rfl⟩
abbrev main_call3_v0 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩

abbrev nD : Nat := 1
abbrev τ : Topo := Topo.v7x

variable {F : FTy → Type} [FloatOps F]
-- ==== Mod.lean ====
abbrev S32x1024 : Shape := ⟨2, ![32, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S33x1024 : Shape := ⟨2, ![33, 1024]⟩
abbrev S4x6x1x1024 : Shape := ⟨4, ![4, 6, 1, 1024]⟩
abbrev S4x6x33x1024 : Shape := ⟨4, ![4, 6, 33, 1024]⟩
abbrev S1x1024x1024 : Shape := ⟨3, ![1, 1024, 1024]⟩
abbrev S1x1x1x1024 : Shape := ⟨4, ![1, 1, 1, 1024]⟩
abbrev S1x1x33x1024 : Shape := ⟨4, ![1, 1, 33, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S33x1024, .f32⟩
  | .hbm, ⟨6, _⟩ => ⟨S4x6x1x1024, .f32⟩
  | .hbm, ⟨7, _⟩ => ⟨S4x6x33x1024, .f32⟩
  | .local _ .vmem, ⟨0, _⟩ => ⟨S33x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x33x1024, .f32⟩
  | .local _ .vmem, ⟨6, _⟩ => ⟨S1x1x33x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S33x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x33x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S32x1024 : Shape := ⟨2, ![32, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S4x6144x32 : Shape := ⟨3, ![4, 6144, 32]⟩
abbrev S4x32x6144 : Shape := ⟨3, ![4, 32, 6144]⟩
abbrev S4x1x6144 : Shape := ⟨3, ![4, 1, 6144]⟩
abbrev S4x32x6x1024 : Shape := ⟨4, ![4, 32, 6, 1024]⟩
abbrev S4x6x32x1024 : Shape := ⟨4, ![4, 6, 32, 1024]⟩
abbrev S4x1x6x1024 : Shape := ⟨4, ![4, 1, 6, 1024]⟩
abbrev S4x6x1x1024 : Shape := ⟨4, ![4, 6, 1, 1024]⟩
abbrev S4x6x33x1024 : Shape := ⟨4, ![4, 6, 33, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S32x1024, .f32⟩
  | .hbm, ⟨5, _⟩ => ⟨S32x1024, .f32⟩
  | .hbm, ⟨6, _⟩ => ⟨S_, .f32⟩
  | .hbm, ⟨7, _⟩ => ⟨S32x1024, .f32⟩
  | .hbm, ⟨8, _⟩ => ⟨S32x1024, .f32⟩
  | .hbm, ⟨9, _⟩ => ⟨S_, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S4x6144x32, .f32⟩
  | .hbm, ⟨14, _⟩ => ⟨S4x32x6144, .f32⟩
  | .hbm, ⟨15, _⟩ => ⟨S4x1x6144, .f32⟩
  | .hbm, ⟨16, _⟩ => ⟨S4x32x6144, .f32⟩
  | .hbm, ⟨17, _⟩ => ⟨S4x32x6144, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4x6144, .f32⟩
  | .hbm, ⟨28, _⟩ => ⟨S4x6144, .f32⟩
  | .hbm, ⟨29, _⟩ => ⟨S4x32x6x1024, .f32⟩
  | .hbm, ⟨30, _⟩ => ⟨S4x6x32x1024, .f32⟩
  | .hbm, ⟨31, _⟩ => ⟨S4x1x6x1024, .f32⟩
  | .hbm, ⟨32, _⟩ => ⟨S4x6x1x1024, .f32⟩
  | .hbm, ⟨33, _⟩ => ⟨S4x6x33x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Proof.AttnRun.lean ====
/-
The run of the attention body at one grid point: what its stores leave in the scratch buffer and in the
output block.  The body copies the values into the scratch buffer (each head's lanes beside a lane of ones), runs
the nine query tiles with a shift taken from the norms, and, where one of the row sums fell out of range, runs all
nine again with the row maximum.
-/
module

public import proofs.«01_k».proof.Proof.Gen.AttnIdeal.Frame
public import proofs.«01_k».proof.Proof.Gen.AttnIdeal.Skeleton

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal.Gen

variable {F : FTy → Type} [FloatOps F]

local notation "𝕄" => MT nD τ sig Unit (Elt F) ℕ (UR sig nD τ) ℕ

/-- The third grid coordinate is always zero: its extent is one. -/
def InFirst (i : grid0.Coords) : Prop := Scalar.cmpi .ne (Scalar.extui (Scalar.cmpi .eq (BitVec.ofNat 32 (i 2).val) 0#32) : BitVec 32) 0#32 = 1#1

set_option maxHeartbeats 4000000 in
/-- The body at one point: the pieces the fast pass stores in the output block, the pieces after the second pass,
    and the bit that says whether the second pass runs, with the proof that the body runs to its continuation with
    those pieces written and the three inputs as they were. -/
noncomputable def bodyRun (c : Dev nD) (i : grid0.Coords) (arg3 : Memref sig .tc .vmem S1x2304x256 .bf16) (harg3 : arg3.IsWhole) (arg4 : Memref sig .tc .vmem S1x2304x256 .bf16) (harg4 : arg4.IsWhole) (arg5 : Memref sig .tc .vmem S1x2304x128 .bf16) (harg5 : arg5.IsWhole) (arg6 : Memref sig .tc .vmem S1x2304x128 .bf16) (harg6 : arg6.IsWhole) (arg7 : Memref sig .tc .vmem S2x2304x128 .bf16) (harg7 : arg7.IsWhole)
    (h1 : InFirst i) (h2 : k0_cond2 i = 1#1)
    (x0 : Vec F S1x2304x256 .bf16) (x1 : Vec F S1x2304x256 .bf16) (x2 : Vec F S1x2304x128 .bf16) :
    { W : (List (View.Piece (Elt F) S1x2304x128 .bf16) × List (View.Piece (Elt F) S1x2304x128 .bf16)) × BitVec 1 //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
          ∗ (iprop(owns (c : Thread nD τ) arg3 fullShare x0 ∗ owns (c : Thread nD τ) arg4 fullShare x1 ∗ owns (c : Thread nD τ) arg5 fullShare x2
              ∗ (∃ f, arg6.view.loc (c : Thread nD τ) ↦[arg6.view.set]{fullShare} (if hc : W.2 = 1#1 then arg6.view.writes (Elt F) f W.1.2 else arg6.view.writes (Elt F) f W.1.1))
              ∗ (∃ f, arg7.view.loc (c : Thread nD τ) ↦[arg7.view.set]{fullShare} f)) -∗ K ⟨⟩))
        ⊢ wp frame (wpE (defs₀ (F := F)) Variants.none c none) E (cc0_mla_attn i arg3 harg3 arg4 harg4 arg5 harg5 arg6 harg6 arg7 harg7) K } := by
  refine ⟨((?_, ?_), ?_), fun E K => ?run⟩
  case run =>
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg3.eq_unread hf0; obtain rfl := harg4.eq_unread hf1; obtain rfl := harg5.eq_unread hf2
    unfold InFirst at h1
    rw [cc0_mla_attn_eq_skeleton]; unfold cc0_mla_attn_skel
    sl_exec_parts (disch := first | sl_exact h1 | sl_exact h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact H4

end Cert.AttnIdeal.Hand

end
-- ==== Proof.AttnFrame.lean ====
/-
The frame of the attention program: the body's run at every grid point, put through the pipeline.
-/
module

public import proofs.«01_k».proof.Proof.AttnRun
public import Idealize.ShloMosaic.Lib.Claim

@[expose] public section

set_option maxRecDepth 16384

noncomputable section

namespace Cert.AttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At every point the third coordinate is zero, so the values are copied into the scratch buffer. -/
theorem inFirst (t : Fin cfg0.N) : InFirst (grid0.coords t) :=
  (by unfold InFirst; decide +kernel : ∀ t : Fin grid0.N, InFirst (grid0.coords t)) t

/-- At every point the tiles run. -/
theorem cond2 (t : Fin cfg0.N) : k0_cond2 (grid0.coords t) = 1#1 :=
  (by decide +kernel : ∀ t : Fin grid0.N, k0_cond2 (grid0.coords t) = 1#1) t

section Pieces

variable (c : Dev nD) (i : grid0.Coords) (arg3 : Memref sig .tc .vmem S1x2304x256 .bf16) (harg3 : arg3.IsWhole) (arg4 : Memref sig .tc .vmem S1x2304x256 .bf16) (harg4 : arg4.IsWhole) (arg5 : Memref sig .tc .vmem S1x2304x128 .bf16) (harg5 : arg5.IsWhole) (arg6 : Memref sig .tc .vmem S1x2304x128 .bf16) (harg6 : arg6.IsWhole) (arg7 : Memref sig .tc .vmem S2x2304x128 .bf16) (harg7 : arg7.IsWhole)
    (h1 : InFirst i) (h2 : k0_cond2 i = 1#1)
    (x0 : Vec F S1x2304x256 .bf16) (x1 : Vec F S1x2304x256 .bf16) (x2 : Vec F S1x2304x128 .bf16)

/-- The fast pass's nine stores tile the output block. -/
theorem cover_fast (y : S1x2304x128.Idx) :
    ∃ pc ∈ (bodyRun c i arg3 harg3 arg4 harg4 arg5 harg5 arg6 harg6 arg7 harg7 h1 h2 x0 x1 x2).1.1.1, y ∈ pc.1.set :=
  View.cover_of_tiledL (bodyRun c i arg3 harg3 arg4 harg4 arg5 harg5 arg6 harg6 arg7 harg7 h1 h2 x0 x1 x2).1.1.1 S1x256x128.size (by sl_kernel_rfl) y

/-- After the second pass the stores still cover the output block. -/
theorem cover_slow (y : S1x2304x128.Idx) :
    ∃ pc ∈ (bodyRun c i arg3 harg3 arg4 harg4 arg5 harg5 arg6 harg6 arg7 harg7 h1 h2 x0 x1 x2).1.1.2, y ∈ pc.1.set :=
  View.cover_of_tiledL (bodyRun c i arg3 harg3 arg4 harg4 arg5 harg5 arg6 harg6 arg7 harg7 h1 h2 x0 x1 x2).1.1.2 S1x256x128.size (by sl_kernel_rfl) y

/-- What the body leaves in the output block. -/
def outOf : Vec F S1x2304x128 .bf16 :=
  if (bodyRun c i arg3 harg3 arg4 harg4 arg5 harg5 arg6 harg6 arg7 harg7 h1 h2 x0 x1 x2).1.2 = 1#1
  then View.canon (bodyRun c i arg3 harg3 arg4 harg4 arg5 harg5 arg6 harg6 arg7 harg7 h1 h2 x0 x1 x2).1.1.2
  else View.canon (bodyRun c i arg3 harg3 arg4 harg4 arg5 harg5 arg6 harg6 arg7 harg7 h1 h2 x0 x1 x2).1.1.1

/-- Whatever the block held before, the body's stores read back as `outOf`. -/
theorem read_out (f : arg6.view.ty.Contents (Elt F)) :
    arg6.view.read (Elt F) (if hc : (bodyRun c i arg3 harg3 arg4 harg4 arg5 harg5 arg6 harg6 arg7 harg7 h1 h2 x0 x1 x2).1.2 = 1#1
      then arg6.view.writes (Elt F) f (bodyRun c i arg3 harg3 arg4 harg4 arg5 harg5 arg6 harg6 arg7 harg7 h1 h2 x0 x1 x2).1.1.2
      else arg6.view.writes (Elt F) f (bodyRun c i arg3 harg3 arg4 harg4 arg5 harg5 arg6 harg6 arg7 harg7 h1 h2 x0 x1 x2).1.1.1)
      = outOf c i arg3 harg3 arg4 harg4 arg5 harg5 arg6 harg6 arg7 harg7 h1 h2 x0 x1 x2 := by
  unfold outOf
  split
  · exact View.read_writes_eq_canon _ _ _ (cover_slow c i arg3 harg3 arg4 harg4 arg5 harg5 arg6 harg6 arg7 harg7 h1 h2 x0 x1 x2)
  · exact View.read_writes_eq_canon _ _ _ (cover_fast c i arg3 harg3 arg4 harg4 arg5 harg5 arg6 harg6 arg7 harg7 h1 h2 x0 x1 x2)

end Pieces

/-- What the body leaves in the output block at point `t`. -/
def outAt (c : Dev nD) (t : Fin cfg0.N) : Vec F S1x2304x128 .bf16 :=
  outOf c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)
    (inFirst t) (cond2 t) (iblk m c 0 t) (iblk m c 1 t) (iblk m c 2 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨_ + 4, h⟩ => absurd h (Nat.not_lt.2 (Nat.le_add_left _ _))
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The query block is left in place. -/
theorem after0_0 (c : Dev nD) (t : Fin cfg0.N) : (dats m 0 c).after 0 t = iblk m c 0 t := by dsimp only [dats]
/-- The key block is left in place. -/
theorem after0_1 (c : Dev nD) (t : Fin cfg0.N) : (dats m 0 c).after 1 t = iblk m c 1 t := by dsimp only [dats]
/-- The value block is left in place. -/
theorem after0_2 (c : Dev nD) (t : Fin cfg0.N) : (dats m 0 c).after 2 t = iblk m c 2 t := by dsimp only [dats]
/-- The output block is left at `outAt`. -/
theorem after0_3 (c : Dev nD) (t : Fin cfg0.N) : (dats m 0 c).after 3 t = outAt m c t := by dsimp only [dats]

/-- The query block is in its buffer when the body starts. -/
theorem before0_0 (c : Dev nD) (t : Fin cfg0.N) (d) : (dats m 0 c).before 0 t d = iblk m c 0 t :=
  before0_0_of m (dats m 0 c) (A_eq m c 0) (after0_0 m c) t d
/-- The key block is in its buffer when the body starts. -/
theorem before0_1 (c : Dev nD) (t : Fin cfg0.N) (d) : (dats m 0 c).before 1 t d = iblk m c 1 t :=
  before0_1_of m (dats m 0 c) (A_eq m c 1) (after0_1 m c) t d
/-- The value block is in its buffer when the body starts. -/
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The query window is never idle. -/
theorem live0_0 : ∀ t : Fin cfg0.N, cfg0.idle 0 (grid0.coords t) = false := fun _ => rfl
/-- The key window is never idle. -/
theorem live0_1 : ∀ t : Fin cfg0.N, cfg0.idle 1 (grid0.coords t) = false := fun _ => rfl
/-- The value window is never idle. -/
theorem live0_2 : ∀ t : Fin cfg0.N, cfg0.idle 2 (grid0.coords t) = false := fun _ => rfl
/-- The output window is never idle. -/
theorem live0_3 : ∀ t : Fin cfg0.N, cfg0.idle 3 (grid0.coords t) = false := by decide +kernel

set_option maxHeartbeats 1600000 in
/-- The body at any point, from what it is called with to what it returns; the scratch buffer is taken out of the
    invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [live0_0 t], after0_0]
  rw [show (dats m 0 c).leavesExact 1 t = owns (c : Thread nD τ) (st0_1 t) fullShare ((dats m 0 c).after 1 t) from by
    unfold Dat.leavesExact; rw [live0_1 t], after0_1]
  rw [show (dats m 0 c).leavesExact 2 t = owns (c : Thread nD τ) (st0_2 t) fullShare ((dats m 0 c).after 2 t) from by
    unfold Dat.leavesExact; rw [live0_2 t], after0_2]
  rw [show (dats m 0 c).leavesExact 3 t = owns (c : Thread nD τ) (st0_3 t) fullShare ((dats m 0 c).after 3 t) from by
    unfold Dat.leavesExact; rw [live0_3 t], after0_3]
  unfold outAt Pipeline.ΦA
  rw [scopedRest0_eq]
  iintro ⟨⟨⟨%fs, HS⟩, HP⟩, Ho, ⟨%d0, H0⟩, ⟨%d1, H1⟩, ⟨%d2, H2⟩, ⟨%d3, H3⟩⟩
  iapply ((bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)
    (inFirst t) (cond2 t) (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS]
  · iexists _; unfold owns; iexists fs; isplitr; · ipureintro; rfl
    simp only [Memref.view_whole, View.set_whole]; iexact HS
  iintro ⟨H0, H1, H2, ⟨%f3, H3⟩, ⟨%fs', HS⟩⟩
  isplitl [HS HP]
  · isplitl [HS]
    · iexists fs'; simp only [Memref.view_whole, View.set_whole]; iexact HS
    iexact HP
  isplitl [Ho]; · iexact Ho
  isplitl [H0]; · iexact H0
  isplitl [H1]; · iexact H1
  isplitl [H2]; · iexact H2
  unfold owns; iexists _; isplitr
  swap; · iexact H3
  ipureintro; exact read_out c (grid0.coords t) _ _ _ _ _ _ _ _ _ _ _ _ _ _ _ f3

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the pipeline's post, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun _ _ => by unfold Dat.share; split <;> rfl)
    (howed := fun _ _ => rfl) (V := V m) (hmain := hmain m Variants.none) (hA := A_eq m) (hΦ := fun _ _ => rfl)

/-- The launch, the counters left out. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The program terminates with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_main_quiescent m ρ))

end Cert.AttnIdeal.Hand

end
-- ==== Proof.AttnMath.lean ====
/-
The arithmetic of one attention row over the extended reals: a sum weighted by powers of two of shifted scores,
divided by the sum of the weights, is the softmax average of the values, whatever finite shift was taken.
-/
module

public import Idealize.ShloMosaic.PureOps.Ideal
public import Mathlib.Analysis.SpecialFunctions.Pow.Real
public import Mathlib.Data.EReal.Inv

@[expose] public section

noncomputable section

namespace Cert.AttnMath

open Idealize.ShloMosaic

/-- An extended real that is a real number. -/
def IsReal (x : EReal) : Prop := ∃ r : ℝ, x = r

/-- A real number is real. -/
theorem IsReal.coe (r : ℝ) : IsReal r := ⟨r, rfl⟩
/-- So is zero. -/
theorem IsReal.zero : IsReal 0 := ⟨0, rfl⟩
/-- So is a sum of two. -/
theorem IsReal.add {x y : EReal} : IsReal x → IsReal y → IsReal (x + y) := by
  rintro ⟨a, rfl⟩ ⟨b, rfl⟩; exact ⟨a + b, (EReal.coe_add a b).symm⟩
/-- So is a difference. -/
theorem IsReal.sub {x y : EReal} : IsReal x → IsReal y → IsReal (x - y) := by
  rintro ⟨a, rfl⟩ ⟨b, rfl⟩; exact ⟨a - b, (EReal.coe_sub a b).symm⟩
/-- So is a product. -/
theorem IsReal.mul {x y : EReal} : IsReal x → IsReal y → IsReal (x * y) := by
  rintro ⟨a, rfl⟩ ⟨b, rfl⟩; exact ⟨a * b, (EReal.coe_mul a b).symm⟩
/-- So is the larger of two. -/
theorem IsReal.max {x y : EReal} : IsReal x → IsReal y → IsReal (max x y) := by
  rintro ⟨a, rfl⟩ ⟨b, rfl⟩; exact ⟨Max.max a b, (EReal.coe_strictMono.monotone.map_max).symm⟩

/-- Off its infinities an extended real is a real number. -/
theorem IsReal.of_abs_lt {x : EReal} (h : Max.max x (-x) < ⊤) : IsReal x := by
  induction x with
  | bot => simp at h
  | top => simp at h
  | coe r => exact ⟨r, rfl⟩

/-- A finite sum of reals is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- So is a finite sum. -/
theorem IsReal.sum {ι : Type*} (s : Finset ι) (f : ι → EReal) (h : ∀ i, IsReal (f i)) : IsReal (∑ i ∈ s, f i) := by
  choose g hg using h
  exact ⟨∑ i ∈ s, g i, by rw [← sum_coe]; exact Finset.sum_congr rfl fun i _ => hg i⟩

/-- The square root of a non-negative real is real. -/
theorem IsReal.sqrt {x : EReal} (h : IsReal x) (h0 : 0 ≤ x) : IsReal (Ideal.sqrt x) := by
  obtain ⟨r, rfl⟩ := h
  have hr : ¬ r < 0 := not_lt.2 (EReal.coe_nonneg.1 h0)
  exact ⟨Real.sqrt r, by rw [Ideal.sqrt_coe, if_neg hr]⟩

/-- A square is non-negative. -/
theorem sq_nonneg_ereal {x : EReal} (h : IsReal x) : 0 ≤ x * x := by
  obtain ⟨r, rfl⟩ := h
  rw [← EReal.coe_mul]; exact EReal.coe_nonneg.2 (mul_self_nonneg r)

/-- The greatest of a non-empty list of reals, from minus infinity, is one of them. -/
theorem fold_max_mem {ι : Type*} (s : Finset ι) (f : ι → EReal) (hs : s.Nonempty) : ∃ i ∈ s, s.fold Max.max ⊥ f = f i := by
  classical
  induction hs using Finset.Nonempty.cons_induction with
  | singleton a => exact ⟨a, by simp, by simp⟩
  | cons a s ha hs ih =>
    obtain ⟨i, hi, e⟩ := ih
    rw [Finset.fold_cons, e]
    rcases max_choice (f a) (f i) with h | h
    · exact ⟨a, by simp, h⟩
    · exact ⟨i, by simp [hi], h⟩

/-- So is the maximum of finitely many, at least one. -/
theorem IsReal.fold_max {ι : Type*} (s : Finset ι) (f : ι → EReal) (hs : s.Nonempty) (h : ∀ i, IsReal (f i)) :
    IsReal (s.fold Max.max ⊥ f) := by
  obtain ⟨i, _, e⟩ := fold_max_mem s f hs
  exact e ▸ h i

/-- The maximum of nonnegative numbers is nonnegative. -/
theorem fold_max_nonneg {ι : Type*} (s : Finset ι) (f : ι → EReal) (hs : s.Nonempty) (h : ∀ i, 0 ≤ f i) :
    0 ≤ s.fold Max.max ⊥ f := by
  obtain ⟨i, _, e⟩ := fold_max_mem s f hs
  exact e ▸ h i

/-- A real non-negative factor goes into a sum. -/
theorem sum_mul_coe {ι : Type*} (s : Finset ι) (f : ι → EReal) (c : ℝ) (hc : 0 ≤ c) : (∑ i ∈ s, f i) * (c : EReal) = ∑ i ∈ s, f i * c := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A power of two of a difference of reals, as a power of e. -/
theorem exp2_sub_coe (s c : ℝ) : Ideal.exp2 ((s : EReal) - (c : EReal)) = ((Real.exp (s * Real.log 2) * Real.exp (-(c * Real.log 2)) : ℝ) : EReal) := by
  rw [← EReal.coe_sub, Ideal.exp2_coe]
  congr 1
  rw [← Real.exp_add]
  show (2 : ℝ) ^ (s - c) = _
  rw [Real.rpow_def_of_pos (by norm_num)]
  congr 1; ring

/-- A power of e of a difference of reals. -/
theorem exp_sub_coe (t c : ℝ) : Ideal.exp ((t : EReal) - (c : EReal)) = ((Real.exp t * Real.exp (-c) : ℝ) : EReal) := by
  rw [← EReal.coe_sub, Ideal.exp_coe, ← Real.exp_add]
  rfl

/-- Division by a positive real is the product with its inverse. -/
theorem div_coe_pos (x : EReal) (l : ℝ) (hl : 0 < l) : Ideal.div x (l : EReal) = x * ((l⁻¹ : ℝ) : EReal) := by
  unfold Ideal.div
  rw [if_neg (by exact_mod_cast hl.ne'), EReal.coe_inv]

/-- One row: the weighted sum over the sum of the weights, in powers of two of scores shifted by any real, is the
    softmax average, in powers of e of scores shifted by any real. -/
theorem row {n : ℕ} [NeZero n] (s t : Fin n → EReal) (T : Fin n → ℝ) (ht : ∀ j, t j = T j)
    (hs : ∀ j, s j = ((T j / Real.log 2 : ℝ) : EReal)) (c g : EReal) (hc : IsReal c) (hg : IsReal g) (v o : Fin n → EReal) (ho : ∀ j, o j = 1) :
    Ideal.div (∑ j, Ideal.exp2 (s j - c) * v j) (∑ j, Ideal.exp2 (s j - c) * o j)
      = ∑ j, v j * Ideal.div (Ideal.exp (t j - g)) (∑ j, Ideal.exp (t j - g)) := by
  obtain ⟨c, rfl⟩ := hc
  obtain ⟨g, rfl⟩ := hg
  have hlog : Real.log 2 ≠ 0 := (Real.log_pos (by norm_num)).ne'
  have e2 : ∀ j, Ideal.exp2 (s j - (c : EReal)) = ((Real.exp (T j) * Real.exp (-(c * Real.log 2)) : ℝ) : EReal) := fun j => by
    rw [hs j, exp2_sub_coe, div_mul_cancel₀ _ hlog]
  have e1 : ∀ j, Ideal.exp (t j - (g : EReal)) = ((Real.exp (T j) * Real.exp (-g) : ℝ) : EReal) := fun j => by
    rw [ht j, exp_sub_coe]
  have hne : (Finset.univ : Finset (Fin n)).Nonempty := ⟨0, Finset.mem_univ 0⟩
  have hp : ∀ a : ℝ, 0 < ∑ j, Real.exp (T j) * Real.exp a := fun a =>
    Finset.sum_pos (fun j _ => mul_pos (Real.exp_pos _) (Real.exp_pos _)) hne
  simp only [e2, e1, ho, mul_one, sum_coe]
  rw [div_coe_pos _ _ (hp _), sum_mul_coe _ _ _ (inv_nonneg.2 (hp _).le)]
  refine Finset.sum_congr rfl fun j _ => ?_
  rw [div_coe_pos _ _ (hp _), mul_right_comm, ← EReal.coe_mul, ← EReal.coe_mul, mul_comm (v j)]
  congr 2
  have hS : (∑ j, Real.exp (T j)) ≠ 0 := (Finset.sum_pos (fun j _ => Real.exp_pos _) hne).ne'
  have ha : Real.exp (-(c * Real.log 2)) ≠ 0 := (Real.exp_pos _).ne'
  have hb : Real.exp (-g) ≠ 0 := (Real.exp_pos _).ne'
  rw [← Finset.sum_mul, ← Finset.sum_mul]
  field_simp

end Cert.AttnMath

end
-- ==== Proof.AttnPre.lean ====
/-
The precondition of the attention's value, read at an index: every entry of the queries and keys is a real number.
-/
module

public import proofs.«01_k».proof.Proof.AttnMath
public import proofs.«01_k».proof.Pre_finite
public import Idealize.ShloMosaic.Lib.Pipeline.ValueKit

@[expose] public section

set_option maxRecDepth 16384

noncomputable section

namespace Cert.Pre_finite.Hand

open Idealize.ShloMosaic Idealize.ShloMosaic.Pointwise Cert.Pre_finite Cert.AttnMath

/-- The function's shapes fit. -/
theorem facts : Facts := by constructor <;> decide

variable [Facts]

/-- The bit of an entry whose magnitude is less than infinity. -/
def bit (x : EReal) : BitVec 1 := BitVec.ofBool (decide (FloatOps.absf (F := Ideal) (φ := .f32) x < Ideal.ofBits FTy.f32 2139095040#32))

/-- The bit is set for real numbers only. -/
theorem real_of_bit (x : EReal) (h : bit x = 1#1) : IsReal x := by
  have inf : Ideal.ofBits FTy.f32 2139095040#32 = ⊤ := by simp [Ideal.ofBits, Ideal.ieee]
  unfold bit at h
  rw [inf] at h
  by_cases hx : Max.max x (-x) < ⊤
  · exact IsReal.of_abs_lt hx
  · have : decide (FloatOps.absf (F := Ideal) (φ := .f32) x < (⊤ : EReal)) = false := decide_eq_false hx
    rw [this] at h
    exact absurd h (by decide)

variable (a0 : FVec Ideal S32x2304x8x64 .f32) (a1 : FVec Ideal S32x2304x8x32 .f32) (a2 : FVec Ideal S32x2304x8x64 .f32) (a3 : FVec Ideal S32x2304x32 .f32) (a4 : FVec Ideal S32x2304x8x64 .f32)

/-- The first lanes are the queries'. -/
theorem at0 (b : Fin 32) (i : Fin 2304) (g : Fin 8) (d : Fin 64) : fn a0 a1 a2 a3 a4 (ix4 b i g ⟨d.1, by omega⟩) = bit (a0 (ix4 b i g d)) := by
  pointwise [fn, bit]

/-- Then the queries' rotated lanes. -/
theorem at1 (b : Fin 32) (i : Fin 2304) (g : Fin 8) (d : Fin 32) : fn a0 a1 a2 a3 a4 (ix4 b i g ⟨64 + d.1, by omega⟩) = bit (a1 (ix4 b i g d)) := by
  have e1 : ¬ 64 + d.1 < 64 := by omega
  have e2 : 64 + d.1 - 64 = d.1 := by omega
  pointwise [fn, bit]
  try simp only [e1, e2, d.2, dif_pos, dif_neg, not_false_eq_true]

/-- Then the keys'. -/
theorem at2 (b : Fin 32) (i : Fin 2304) (g : Fin 8) (d : Fin 64) : fn a0 a1 a2 a3 a4 (ix4 b i g ⟨96 + d.1, by omega⟩) = bit (a2 (ix4 b i g d)) := by
  have e1 : ¬ 96 + d.1 < 64 := by omega
  have e2 : ¬ 96 + d.1 - 64 < 32 := by omega
  have e3 : 96 + d.1 - 64 - 32 = d.1 := by omega
  pointwise [fn, bit]
  try simp only [e1, e2, e3, d.2, dif_pos, dif_neg, not_false_eq_true]

/-- Last the keys' rotated lanes, the same for every head. -/
theorem at3 (b : Fin 32) (i : Fin 2304) (g : Fin 8) (d : Fin 32) : fn a0 a1 a2 a3 a4 (ix4 b i g ⟨160 + d.1, by omega⟩) = bit (a3 (ix3 b i d)) := by
  have e1 : ¬ 160 + d.1 < 64 := by omega
  have e2 : ¬ 160 + d.1 - 64 < 32 := by omega
  have e3 : ¬ 160 + d.1 - 64 - 32 < 64 := by omega
  have e4 : 160 + d.1 - 64 - 32 - 64 = d.1 := by omega
  pointwise [fn, bit]
  try simp only [e1, e2, e3, e4, d.2, dif_pos, dif_neg, not_false_eq_true]

variable (h : fn a0 a1 a2 a3 a4 = fun _ => 1#1)

include h

/-- The queries are real. -/
theorem real0 (k : S32x2304x8x64.Idx) : IsReal (a0 k) := by
  obtain ⟨b, i, g, d, rfl⟩ : ∃ (b : Fin 32) (i : Fin 2304) (g : Fin 8) (d : Fin 64), k = ix4 b i g d := ⟨k 0, k 1, k 2, k 3, by blk_ext⟩
  exact real_of_bit _ ((at0 a0 a1 a2 a3 a4 b i g d).symm.trans (congrFun h _))

/-- The queries' rotated lanes are real. -/
theorem real1 (k : S32x2304x8x32.Idx) : IsReal (a1 k) := by
  obtain ⟨b, i, g, d, rfl⟩ : ∃ (b : Fin 32) (i : Fin 2304) (g : Fin 8) (d : Fin 32), k = ix4 b i g d := ⟨k 0, k 1, k 2, k 3, by blk_ext⟩
  exact real_of_bit _ ((at1 a0 a1 a2 a3 a4 b i g d).symm.trans (congrFun h _))

/-- The keys are real. -/
theorem real2 (k : S32x2304x8x64.Idx) : IsReal (a2 k) := by
  obtain ⟨b, i, g, d, rfl⟩ : ∃ (b : Fin 32) (i : Fin 2304) (g : Fin 8) (d : Fin 64), k = ix4 b i g d := ⟨k 0, k 1, k 2, k 3, by blk_ext⟩
  exact real_of_bit _ ((at2 a0 a1 a2 a3 a4 b i g d).symm.trans (congrFun h _))

/-- The keys' rotated lanes are real. -/
theorem real3 (k : S32x2304x32.Idx) : IsReal (a3 k) := by
  obtain ⟨b, i, d, rfl⟩ : ∃ (b : Fin 32) (i : Fin 2304) (d : Fin 32), k = ix3 b i d := ⟨k 0, k 1, k 2, by blk_ext⟩
  exact real_of_bit _ ((at3 a0 a1 a2 a3 a4 b i 0 d).symm.trans (congrFun h _))

end Cert.Pre_finite.Hand

end
-- ==== Proof.AttnRef.lean ====
/-
The attention's reference, in named parts: scores, softmax, average of the values; and each part read at an index.
-/
module

public import proofs.«01_k».proof.Proof.Gen.AttnRefIdeal.Run
public import Idealize.ShloMosaic.Lib.Pointwise
public import Idealize.ShloMosaic.PureOps.Ideal

@[expose] public section

set_option maxRecDepth 16384

noncomputable section

namespace Cert.AttnRefIdeal.Hand

open Idealize.ShloMosaic Idealize.ShloMosaic.Pointwise Cert.AttnRefIdeal Cert.AttnRefIdeal.Gen Idealize.ShloMosaic.TcCoe Idealize.SL.Sem Idealize.ShloMosaic.StableHlo

/-- The scale of the scores. -/
abbrev scaleV : FVec Ideal S_ .f32 := Host.divf (constant S_ .f32 0x3F800000#32) (Host.sqrt (constant S_ .f32 0x42C00000#32))

/-- The scaled scores of the context rows. -/
def tC (a0 : FVec Ideal S32x2304x8x64 .f32) (a1 : FVec Ideal S32x2304x8x32 .f32) (a2 : FVec Ideal S32x2304x8x64 .f32) (a3 : FVec Ideal S32x2304x32 .f32) : FVec Ideal S32x8x256x256 .f32 :=
  mulf (addf (Host.dotGeneral dot_S32x256x8x64_S32x256x8x64_S32x8x256x256_3_3_1_1_02_02 none (extractStridedSlice S32x256x8x64 ![0, 0, 0, 0] a0 slices_S32x2304x8x64_S32x256x8x64_0_0_0_0) (extractStridedSlice S32x256x8x64 ![0, 0, 0, 0] a2 slices_S32x2304x8x64_S32x256x8x64_0_0_0_0))
    (transpose S32x8x256x256 [0, 3, 2, 1] (Host.dotGeneral dot_S32x256x32_S32x256x8x32_S32x256x256x8_2_3_1_12_0_0 none (extractStridedSlice S32x256x32 ![0, 0, 0] a3 slices_S32x2304x32_S32x256x32_0_0_0) (extractStridedSlice S32x256x8x32 ![0, 0, 0, 0] a1 slices_S32x2304x8x32_S32x256x8x32_0_0_0_0)) transposes_S32x256x256x8_S32x8x256x256_0_3_2_1))
    (broadcastInDim S32x8x256x256 ![] bcast_S_S32x8x256x256 scaleV)

/-- The greatest score of a row, context rows. -/
def mC (t : FVec Ideal S32x8x256x256 .f32) : FVec Ideal S32x8x256 .f32 :=
  (maximumf (broadcastInDim S32x8x256 ![] bcast_S_S32x8x256 (constant S_ .f32 0xFF800000#32)) (Host.reduce FloatOps.maximumf t (constant S_ .f32 0xFF800000#32) reducesTo_S32x8x256x256_S32x8x256_d3 h_S_))

/-- Powers of e of the scores less a number of the row's own, context rows. -/
def eC (t : FVec Ideal S32x8x256x256 .f32) (m : FVec Ideal S32x8x256 .f32) : FVec Ideal S32x8x256x256 .f32 :=
  Host.exp (subf t (broadcastInDim S32x8x256x256 ![0, 1, 2, 3] bcast_S32x8x256x1_S32x8x256x256_0_1_2_3 (broadcastInDim S32x8x256x1 ![0, 1, 2] bcast_S32x8x256_S32x8x256x1_0_1_2 m)))

/-- The probabilities of the context rows. -/
def pC (e : FVec Ideal S32x8x256x256 .f32) : FVec Ideal S32x8x256x256 .f32 :=
  Host.divf e (broadcastInDim S32x8x256x256 ![0, 1, 2, 3] bcast_S32x8x256x1_S32x8x256x256_0_1_2_3 (broadcastInDim S32x8x256x1 ![0, 1, 2] bcast_S32x8x256_S32x8x256x1_0_1_2
    (Host.reduceAdd e (constant S_ .f32 0x00000000#32) reducesTo_S32x8x256x256_S32x8x256_d3 h_S_)))

/-- The average of the values, context rows. -/
def oC (p : FVec Ideal S32x8x256x256 .f32) (a4 : FVec Ideal S32x2304x8x64 .f32) : FVec Ideal S32x256x512 .f32 :=
  shapeCast _ (transpose S32x256x8x64 [0, 3, 1, 2] (Host.dotGeneral dot_S32x256x8x64_S32x8x256x256_S32x8x64x256_1_3_3_2_02_01 none (extractStridedSlice S32x256x8x64 ![0, 0, 0, 0] a4 slices_S32x2304x8x64_S32x256x8x64_0_0_0_0) p) transposes_S32x8x64x256_S32x256x8x64_0_3_1_2) shapeCasts_S32x256x8x64_S32x256x512

/-- The context rows of the result. -/
def refC (a0 : FVec Ideal S32x2304x8x64 .f32) (a1 : FVec Ideal S32x2304x8x32 .f32) (a2 : FVec Ideal S32x2304x8x64 .f32) (a3 : FVec Ideal S32x2304x32 .f32) (a4 : FVec Ideal S32x2304x8x64 .f32) : FVec Ideal S32x256x512 .f32 :=
  oC (pC (eC (tC a0 a1 a2 a3) (mC (tC a0 a1 a2 a3)))) a4

/-- The scaled scores of the latent rows. -/
def tL (a0 : FVec Ideal S32x2304x8x64 .f32) (a1 : FVec Ideal S32x2304x8x32 .f32) (a2 : FVec Ideal S32x2304x8x64 .f32) (a3 : FVec Ideal S32x2304x32 .f32) : FVec Ideal S32x8x2048x2304 .f32 :=
  mulf (addf (Host.dotGeneral dot_S32x2048x8x64_S32x2304x8x64_S32x8x2048x2304_3_3_1_1_02_02 none (extractStridedSlice S32x2048x8x64 ![0, 256, 0, 0] a0 slices_S32x2304x8x64_S32x2048x8x64_0_256_0_0) a2)
    (transpose S32x8x2048x2304 [0, 3, 2, 1] (Host.dotGeneral dot_S32x2304x32_S32x2048x8x32_S32x2304x2048x8_2_3_1_12_0_0 none a3 (extractStridedSlice S32x2048x8x32 ![0, 256, 0, 0] a1 slices_S32x2304x8x32_S32x2048x8x32_0_256_0_0)) transposes_S32x2304x2048x8_S32x8x2048x2304_0_3_2_1))
    (broadcastInDim S32x8x2048x2304 ![] bcast_S_S32x8x2048x2304 scaleV)

/-- The greatest score of a row, latent rows. -/
def mL (t : FVec Ideal S32x8x2048x2304 .f32) : FVec Ideal S32x8x2048 .f32 :=
  (maximumf (broadcastInDim S32x8x2048 ![] bcast_S_S32x8x2048 (constant S_ .f32 0xFF800000#32)) (Host.reduce FloatOps.maximumf t (constant S_ .f32 0xFF800000#32) reducesTo_S32x8x2048x2304_S32x8x2048_d3 h_S_))

/-- Powers of e of the scores less a number of the row's own, latent rows. -/
def eL (t : FVec Ideal S32x8x2048x2304 .f32) (m : FVec Ideal S32x8x2048 .f32) : FVec Ideal S32x8x2048x2304 .f32 :=
  Host.exp (subf t (broadcastInDim S32x8x2048x2304 ![0, 1, 2, 3] bcast_S32x8x2048x1_S32x8x2048x2304_0_1_2_3 (broadcastInDim S32x8x2048x1 ![0, 1, 2] bcast_S32x8x2048_S32x8x2048x1_0_1_2 m)))

/-- The probabilities of the latent rows. -/
def pL (e : FVec Ideal S32x8x2048x2304 .f32) : FVec Ideal S32x8x2048x2304 .f32 :=
  Host.divf e (broadcastInDim S32x8x2048x2304 ![0, 1, 2, 3] bcast_S32x8x2048x1_S32x8x2048x2304_0_1_2_3 (broadcastInDim S32x8x2048x1 ![0, 1, 2] bcast_S32x8x2048_S32x8x2048x1_0_1_2
    (Host.reduceAdd e (constant S_ .f32 0x00000000#32) reducesTo_S32x8x2048x2304_S32x8x2048_d3 h_S_)))

/-- The average of the values, latent rows. -/
def oL (p : FVec Ideal S32x8x2048x2304 .f32) (a4 : FVec Ideal S32x2304x8x64 .f32) : FVec Ideal S32x2048x512 .f32 :=
  shapeCast _ (transpose S32x2048x8x64 [0, 3, 1, 2] (Host.dotGeneral dot_S32x2304x8x64_S32x8x2048x2304_S32x8x64x2048_1_3_3_2_02_01 none a4 p) transposes_S32x8x64x2048_S32x2048x8x64_0_3_1_2) shapeCasts_S32x2048x8x64_S32x2048x512

/-- The latent rows of the result. -/
def refL (a0 : FVec Ideal S32x2304x8x64 .f32) (a1 : FVec Ideal S32x2304x8x32 .f32) (a2 : FVec Ideal S32x2304x8x64 .f32) (a3 : FVec Ideal S32x2304x32 .f32) (a4 : FVec Ideal S32x2304x8x64 .f32) : FVec Ideal S32x2048x512 .f32 :=
  oL (pL (eL (tL a0 a1 a2 a3) (mL (tL a0 a1 a2 a3)))) a4

/-- The whole result. -/
def refAll (a0 : FVec Ideal S32x2304x8x64 .f32) (a1 : FVec Ideal S32x2304x8x32 .f32) (a2 : FVec Ideal S32x2304x8x64 .f32) (a3 : FVec Ideal S32x2304x32 .f32) (a4 : FVec Ideal S32x2304x8x64 .f32) : FVec Ideal S32x2304x512 .bf16 :=
  truncf .bf16 (concatenate S32x2304x512 1 [⟨S32x256x512, refC a0 a1 a2 a3 a4⟩, ⟨S32x2048x512, refL a0 a1 a2 a3 a4⟩] concatenates_S32x256x512_S32x2048x512_S32x2304x512_d1) bitsLt_bf16_f32

/-- The run's result is that. -/
theorem res_eq (m : (ℓ : Loc nD τ sig) → Buf (Elt Ideal) ℓ) (c : Dev nD) :
    Value.res_main_v52 m c = refAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.AttnRefIdeal.Hand

end
-- ==== Proof.AttnRefAt.lean ====
/-
The attention's reference read at an index.
-/
module

public import proofs.«01_k».proof.Proof.AttnRef
public import Idealize.ShloMosaic.Lib.Pipeline.ValueKit

@[expose] public section

set_option maxRecDepth 16384

noncomputable section

namespace Cert.AttnRefIdeal.Hand

open Idealize.ShloMosaic Idealize.ShloMosaic.Pointwise Cert.AttnRefIdeal Cert.AttnRefIdeal.Gen Idealize.ShloMosaic.TcCoe Idealize.SL.Sem

/-- The scale as a number. -/
abbrev scale : EReal := Ideal.div 1 (Ideal.sqrt (Ideal.ofBits FTy.f32 1119879168#32))

/-- The score of query row `i` and key row `j`. -/
abbrev score (a0 : FVec Ideal S32x2304x8x64 .f32) (a1 : FVec Ideal S32x2304x8x32 .f32) (a2 : FVec Ideal S32x2304x8x64 .f32) (a3 : FVec Ideal S32x2304x32 .f32) (b : Fin 32) (h : Fin 8) (i j : Fin 2304) : EReal :=
  ((∑ d : Fin 64, a0 (ix4 b i h d) * a2 (ix4 b j h d)) + ∑ r : Fin 32, a3 (ix3 b j r) * a1 (ix4 b i h r)) * scale

/-- The reference's context score of a query and a key. -/
theorem tC_at (a0 : FVec Ideal S32x2304x8x64 .f32) (a1 : FVec Ideal S32x2304x8x32 .f32) (a2 : FVec Ideal S32x2304x8x64 .f32) (a3 : FVec Ideal S32x2304x32 .f32) (b : Fin 32) (h : Fin 8) (i : Fin 256) (j : Fin 256) :
    tC a0 a1 a2 a3 (ix4 b h i j) = score a0 a1 a2 a3 b h ⟨i.1, by omega⟩ ⟨j.1, by omega⟩ := by
  pointwise! [tC, score, scale]

/-- The context exponentials, entry by entry. -/
theorem eC_at (t : FVec Ideal S32x8x256x256 .f32) (m : FVec Ideal S32x8x256 .f32) (b : Fin 32) (h : Fin 8) (i : Fin 256) (j : Fin 256) :
    eC t m (ix4 b h i j) = Ideal.exp (t (ix4 b h i j) - m (ix3 b h i)) := by
  pointwise! [eC]

/-- The context weights, entry by entry. -/
theorem pC_at (e : FVec Ideal S32x8x256x256 .f32) (b : Fin 32) (h : Fin 8) (i : Fin 256) (j : Fin 256) :
    pC e (ix4 b h i j) = Ideal.div (e (ix4 b h i j)) (∑ j : Fin 256, e (ix4 b h i j)) := by
  pointwise! [pC]

/-- The context result, entry by entry. -/
theorem oC_at (p : FVec Ideal S32x8x256x256 .f32) (a4 : FVec Ideal S32x2304x8x64 .f32) (b : Fin 32) (i : Fin 256) (h : Fin 8) (d : Fin 64) :
    oC p a4 (ix3 b i ⟨64 * h.1 + d.1, by omega⟩) = ∑ j : Fin 256, a4 (ix4 b ⟨j.1, by omega⟩ h d) * p (ix4 b h i j) := by
  pointwise! [oC]

/-- The reference's latent score of a query and a key. -/
theorem tL_at (a0 : FVec Ideal S32x2304x8x64 .f32) (a1 : FVec Ideal S32x2304x8x32 .f32) (a2 : FVec Ideal S32x2304x8x64 .f32) (a3 : FVec Ideal S32x2304x32 .f32) (b : Fin 32) (h : Fin 8) (i : Fin 2048) (j : Fin 2304) :
    tL a0 a1 a2 a3 (ix4 b h i j) = score a0 a1 a2 a3 b h ⟨256 + i.1, by omega⟩ j := by
  pointwise! [tL, score, scale]

/-- The latent exponentials, entry by entry. -/
theorem eL_at (t : FVec Ideal S32x8x2048x2304 .f32) (m : FVec Ideal S32x8x2048 .f32) (b : Fin 32) (h : Fin 8) (i : Fin 2048) (j : Fin 2304) :
    eL t m (ix4 b h i j) = Ideal.exp (t (ix4 b h i j) - m (ix3 b h i)) := by
  pointwise! [eL]

/-- The latent weights, entry by entry. -/
theorem pL_at (e : FVec Ideal S32x8x2048x2304 .f32) (b : Fin 32) (h : Fin 8) (i : Fin 2048) (j : Fin 2304) :
    pL e (ix4 b h i j) = Ideal.div (e (ix4 b h i j)) (∑ j : Fin 2304, e (ix4 b h i j)) := by
  pointwise! [pL]

/-- The latent result, entry by entry. -/
theorem oL_at (p : FVec Ideal S32x8x2048x2304 .f32) (a4 : FVec Ideal S32x2304x8x64 .f32) (b : Fin 32) (i : Fin 2048) (h : Fin 8) (d : Fin 64) :
    oL p a4 (ix3 b i ⟨64 * h.1 + d.1, by omega⟩) = ∑ j : Fin 2304, a4 (ix4 b j h d) * p (ix4 b h i j) := by
  pointwise! [oL]

end Cert.AttnRefIdeal.Hand

end
-- ==== Proof.AttnFold.lean ====
/-
Maxima of real numbers are real numbers, in the two forms the programs write them.
-/
module

public import proofs.«01_k».proof.Proof.AttnMath
public import Idealize.ShloMosaic.Lib.Pipeline.ValueKit

@[expose] public section

set_option maxRecDepth 16384

noncomputable section

namespace Cert.AttnMath

open Idealize.ShloMosaic Idealize.ShloMosaic.Pointwise

/-- The running maximum of real numbers from `-∞` is real or `-∞`, and no less than the start or any of them. -/
theorem foldl_max {ι : Type*} (x : ι → EReal) (hx : ∀ n, IsReal (x n)) (l : List ι) (a : EReal) (ha : a = ⊥ ∨ IsReal a) :
    (l.foldl (fun r n => max r (x n)) a = ⊥ ∨ IsReal (l.foldl (fun r n => max r (x n)) a)) ∧
      a ≤ l.foldl (fun r n => max r (x n)) a ∧ ∀ n ∈ l, x n ≤ l.foldl (fun r n => max r (x n)) a := by
  induction l generalizing a with
  | nil => exact ⟨ha, le_refl _, by simp⟩
  | cons b l ih =>
    have h1 : IsReal (max a (x b)) := by
      rcases ha with rfl | ha
      · rw [max_eq_right bot_le]; exact hx b
      · exact ha.max (hx b)
    obtain ⟨i1, i2, i3⟩ := ih (max a (x b)) (Or.inr h1)
    refine ⟨i1, (le_max_left _ _).trans i2, fun n hn => ?_⟩
    rcases List.mem_cons.1 hn with rfl | hn
    · exact (le_max_right _ _).trans i2
    · exact i3 n hn

/-- The host's maximum over an axis, of real numbers, is real. -/
theorem reduce_real {s t u : Shape} {axes : List (Fin s.rank)} (x : s.Idx → EReal) (init : u.Idx → EReal)
    (h : s.ReducesTo axes t) (hu : 0 < u.numel) (j : t.Idx) (hi : init (Shape.Idx.first hu) = ⊥) (hx : ∀ k, IsReal (x k))
    (k : s.Idx) (hk : h.drop k = j) :
    IsReal (Host.reduce (FloatOps.maximumf (F := Ideal) (φ := .f32)) x init h hu j) := by
  show IsReal (Host.reduce (fun a b : EReal => max a b) x init h hu j)
  obtain ⟨h1, -, h3⟩ := foldl_max (fun n => x (s.rowMajor.symm n)) (fun n => hx _)
    ((List.finRange s.numel).filter fun n => h.drop (s.rowMajor.symm n) = j) (init (Shape.Idx.first hu)) (Or.inl hi)
  have h4 := h3 (s.rowMajor k) (by simp [hk])
  rcases h1 with h1 | h1
  · rw [h1, Equiv.symm_apply_apply] at h4
    obtain ⟨r, hr⟩ := hx k
    rw [hr] at h4
    exact absurd (le_bot_iff.1 h4) (EReal.coe_ne_bot r)
  · exact h1

/-- The word of −∞ is −∞. -/
theorem ninf : Ideal.ofBits .f32 0xFF800000#32 = ⊥ := by
  pointwise!

/-- A kernel's maximum over an axis, of real numbers, is real and no less than any of them. -/
theorem multiReduction_max_real {s t : Shape} {axes : List (Fin s.rank)} (x : FVec Ideal s .f32) (h : s.Reduces axes t)
    (hφ : FKind.Formats .f32) (hacc : (0xFF800000#32 : BitVec 32) = FKind.maximumf.neutral .f32 hφ) (j : t.Idx) (hx : ∀ k, IsReal (x k))
    (k : s.Idx) (hk : h.drop k = j) :
    IsReal (multiReduction .maximumf axes t x 0xFF800000#32 h hφ hacc j) ∧ x k ≤ multiReduction .maximumf axes t x 0xFF800000#32 h hφ hacc j := by
  have e : multiReduction .maximumf axes t x 0xFF800000#32 h hφ hacc j = ((List.finRange s.numel).filter fun n => h.drop (s.rowMajor.symm n) = j).foldl
    (fun r n => max r (x (s.rowMajor.symm n))) (Ideal.ofBits .f32 0xFF800000#32) := rfl
  obtain ⟨h1, -, h3⟩ := foldl_max (fun n => x (s.rowMajor.symm n)) (fun n => hx _)
    ((List.finRange s.numel).filter fun n => h.drop (s.rowMajor.symm n) = j) (Ideal.ofBits .f32 0xFF800000#32) (Or.inl ninf)
  have h4 := h3 (s.rowMajor k) (by simp [hk])
  rw [Equiv.symm_apply_apply] at h4
  rw [e]
  refine ⟨?_, h4⟩
  rcases h1 with h1 | h1
  · rw [h1] at h4
    obtain ⟨r, hr⟩ := hx k
    rw [hr] at h4
    exact absurd (le_bot_iff.1 h4) (EReal.coe_ne_bot r)
  · exact h1

end Cert.AttnMath

end
-- ==== Proof.AttnTile.lean ====
/-
The attention's tile: its parts as functions of the loaded vectors, read at an index.
-/
module

public import proofs.«01_k».proof.Proof.AttnFold
public import proofs.«01_k».proof.Proof.Gen.AttnIdeal.Skeleton

@[expose] public section

set_option maxRecDepth 16384

noncomputable section

namespace Cert.AttnIdeal.Hand

open Idealize.ShloMosaic Idealize.ShloMosaic.Pointwise Cert.AttnIdeal Cert.AttnIdeal.Gen Cert.AttnMath

/-- 256 rows of one head: a tile's queries, or the context's keys or values. -/
abbrev Q := FVec Ideal S1x256x128 .bf16
/-- 2304 rows of one head: all keys or values. -/
abbrev K := FVec Ideal S1x2304x128 .bf16

/-- The scores of a tile's rows over 256 keys. -/
def scC (q k : Q) : FVec Ideal S256x256 .f32 :=
  matmul dot_S256x128_S256x128_S256x256_1_1_0_0_n_n none (shapeCast S256x128 q shapeCasts_S1x256x128_S256x128) (shapeCast S256x128 k shapeCasts_S1x256x128_S256x128) (constant S256x256 .f32 0x00000000#32)

/-- The scores of a tile's rows over all keys. -/
def scL (q : Q) (k : K) : FVec Ideal S256x2304 .f32 :=
  matmul dot_S256x128_S2304x128_S256x2304_1_1_0_0_n_n none (shapeCast S256x128 q shapeCasts_S1x256x128_S256x128) (shapeCast S2304x128 k shapeCasts_S1x2304x128_S2304x128) (constant S256x2304 .f32 0x00000000#32)

/-- The sums of values weighted by powers of two of the shifted scores, over 256 keys. -/
def atC (s : FVec Ideal S256x256 .f32) (c : FVec Ideal S256x1 .f32) (v : Q) : FVec Ideal S256x128 .f32 :=
  matmul dot_S256x256_S256x128_S256x128_1_0_0_1_n_n none (truncf .bf16 (exp2 (subf s (broadcastTo S256x256 c broadcasts_S256x1_S256x256))) bitsLt_bf16_f32) (shapeCast S256x128 v shapeCasts_S1x256x128_S256x128) (constant S256x128 .f32 0x00000000#32)

/-- The same over all keys. -/
def atL (s : FVec Ideal S256x2304 .f32) (c : FVec Ideal S256x1 .f32) (v : K) : FVec Ideal S256x128 .f32 :=
  matmul dot_S256x2304_S2304x128_S256x128_1_0_0_1_n_n none (truncf .bf16 (exp2 (subf s (broadcastTo S256x2304 c broadcasts_S256x1_S256x2304))) bitsLt_bf16_f32) (shapeCast S2304x128 v shapeCasts_S1x2304x128_S2304x128) (constant S256x128 .f32 0x00000000#32)

/-- The two heads' sums, each divided by its lane of weights, joined lane by lane. -/
def joinH (r0 r1 : FVec Ideal S256x128 .f32) : FVec Ideal S1x256x128 .bf16 :=
  shapeCast S1x256x128 (truncf .bf16 (select k0_pay1
    (divf r0 (broadcastTo S256x128 (extractStridedSlice S256x1 ![0, 64] r0 slices_S256x128_o0_64_S256x1) broadcasts_S256x1_S256x128))
    (divf r1 (broadcastTo S256x128 (extractStridedSlice S256x1 ![0, 0] r1 slices_S256x128_o0_0_S256x1) broadcasts_S256x1_S256x128))) bitsLt_bf16_f32) shapeCasts_S256x128_S1x256x128

/-- The row maximum of the scores over 256 keys. -/
def slowC (s : FVec Ideal S256x256 .f32) : FVec Ideal S256x1 .f32 :=
  shapeCast S256x1 (multiReduction .maximumf [1] S256 s 0xFF800000#32 reduces_S256x256_S256 (.inl rfl) rfl) shapeCasts_S256_S256x1

/-- The row maximum of the scores over all keys. -/
def slowL (s : FVec Ideal S256x2304 .f32) : FVec Ideal S256x1 .f32 :=
  shapeCast S256x1 (multiReduction .maximumf [1] S256 s 0xFF800000#32 reduces_S256x2304_S256 (.inl rfl) rfl) shapeCasts_S256_S256x1

/-- The bound on a row's scores, less 64. -/
def fast (q : Q) (m : FVec Ideal S1x1 .f32) : FVec Ideal S256x1 .f32 :=
  subf (mulf (sqrt (shapeCast S256x1 (multiReduction .add [1] S256 (mulf (extf .f32 (shapeCast S256x128 q shapeCasts_S1x256x128_S256x128) bitsLt_bf16_f32) (extf .f32 (shapeCast S256x128 q shapeCasts_S1x256x128_S256x128) bitsLt_bf16_f32)) 0x00000000#32 reduces_S256x128_S256 (.inl rfl) rfl) shapeCasts_S256_S256x1))
    (broadcastTo S256x1 m broadcasts_S1x1_S256x1)) (broadcast S256x1 (Scalar.ofBits .f32 0x42800000#32))

/-- A context score is the product of its rows. -/
theorem scC_at (q k : Q) (r : Fin 256) (j : Fin 256) : scC q k (ix2 r j) = ∑ e : Fin 128, q (ix3 0 r e) * k (ix3 0 j e) := by
  pointwise! [scC]

/-- A latent score is the product of its rows. -/
theorem scL_at (q : Q) (k : K) (r : Fin 256) (j : Fin 2304) : scL q k (ix2 r j) = ∑ e : Fin 128, q (ix3 0 r e) * k (ix3 0 j e) := by
  pointwise! [scL]

/-- A lane of the context product with the values, before the division. -/
theorem atC_at (s : FVec Ideal S256x256 .f32) (c : FVec Ideal S256x1 .f32) (v : Q) (r : Fin 256) (d : Fin 128) :
    atC s c v (ix2 r d) = ∑ j : Fin 256, Ideal.exp2 (s (ix2 r j) - c (ix2 r 0)) * v (ix3 0 j d) := by
  pointwise! [atC]

/-- A lane of the latent product with the values, before the division. -/
theorem atL_at (s : FVec Ideal S256x2304 .f32) (c : FVec Ideal S256x1 .f32) (v : K) (r : Fin 256) (d : Fin 128) :
    atL s c v (ix2 r d) = ∑ j : Fin 2304, Ideal.exp2 (s (ix2 r j) - c (ix2 r 0)) * v (ix3 0 j d) := by
  pointwise! [atL]

/-- The first 64 lanes of the stored tile are the first head's. -/
theorem joinH_at0 (r0 r1 : FVec Ideal S256x128 .f32) (r : Fin 256) (d : Fin 64) :
    joinH r0 r1 (ix3 0 r ⟨d.1, by omega⟩) = Ideal.div (r0 (ix2 r ⟨d.1, by omega⟩)) (r0 (ix2 r 64)) := by
  have h : IntOp.cmpi .slt (BitVec.ofNat 32 d.1) 64#32 = 1#1 := by
    have := d.2; revert d; decide
  pointwise! [joinH, k0_pay1, h, Scalar.select]

/-- The last 64 lanes are the second head's. -/
theorem joinH_at1 (r0 r1 : FVec Ideal S256x128 .f32) (r : Fin 256) (d : Fin 64) :
    joinH r0 r1 (ix3 0 r ⟨64 + d.1, by omega⟩) = Ideal.div (r1 (ix2 r ⟨64 + d.1, by omega⟩)) (r1 (ix2 r 0)) := by
  have h : IntOp.cmpi .slt (BitVec.ofNat 32 (64 + d.1)) 64#32 = 0#1 := by
    have := d.2; revert d; decide
  pointwise! [joinH, k0_pay1, h, Scalar.select]

/-- The row maximum of real context scores is real. -/
theorem slowC_real (s : FVec Ideal S256x256 .f32) (hs : ∀ k, IsReal (s k)) (r : Fin 256) : IsReal (slowC s (ix2 r 0)) := by
  have e : slowC s (ix2 r 0) = multiReduction .maximumf [1] S256 s 0xFF800000#32 reduces_S256x256_S256 (.inl rfl) rfl (ix1 r) := by
    unfold slowC
    generalize multiReduction .maximumf [1] S256 s 0xFF800000#32 reduces_S256x256_S256 (.inl rfl) rfl = y
    pointwise!
  rw [e]
  refine (multiReduction_max_real s _ _ _ _ hs (ix2 r 0) ?_).1
  refine funext fun a => Fin.ext ?_
  fin_cases a <;> rfl

/-- The row maximum of real latent scores is real. -/
theorem slowL_real (s : FVec Ideal S256x2304 .f32) (hs : ∀ k, IsReal (s k)) (r : Fin 256) : IsReal (slowL s (ix2 r 0)) := by
  have e : slowL s (ix2 r 0) = multiReduction .maximumf [1] S256 s 0xFF800000#32 reduces_S256x2304_S256 (.inl rfl) rfl (ix1 r) := by
    unfold slowL
    generalize multiReduction .maximumf [1] S256 s 0xFF800000#32 reduces_S256x2304_S256 (.inl rfl) rfl = y
    pointwise!
  rw [e]
  refine (multiReduction_max_real s _ _ _ _ hs (ix2 r 0) ?_).1
  refine funext fun a => Fin.ext ?_
  fin_cases a <;> rfl

/-- The bound by the norms is real. -/
theorem fast_real (q : Q) (m : FVec Ideal S1x1 .f32) (hq : ∀ k, IsReal (q k)) (hm : IsReal (m (ix2 0 0))) (r : Fin 256) :
    IsReal (fast q m (ix2 r 0)) := by
  have e : fast q m (ix2 r 0) = Ideal.sqrt (∑ d : Fin 128, q (ix3 0 r d) * q (ix3 0 r d)) * m (ix2 0 0) - Ideal.ofBits .f32 0x42800000#32 := by
    pointwise! [fast]
  rw [e]
  have h64 : IsReal (Ideal.ofBits .f32 0x42800000#32) := by
    refine ⟨64, ?_⟩
    simp [Ideal.ofBits, Ideal.ieee, -EReal.coe_mul]; norm_num
  refine (IsReal.mul (IsReal.sqrt (IsReal.sum _ _ fun d => (hq _).mul (hq _)) (Finset.sum_nonneg fun d _ => sq_nonneg_ereal (hq _))) hm).sub h64

end Cert.AttnIdeal.Hand

end
-- ==== Proof.AttnTiles.lean ====
/-
The attention's tile: its value, and the bound on the keys.
-/
module

public import proofs.«01_k».proof.Proof.AttnTile

@[expose] public section

set_option maxRecDepth 16384

noncomputable section

namespace Cert.AttnIdeal.Hand

open Idealize.ShloMosaic Idealize.ShloMosaic.Pointwise Cert.AttnIdeal Cert.AttnIdeal.Gen Cert.AttnMath

/-- The square root of the greatest of a column. -/
def kmxC (y : FVec Ideal S256x1 .f32) : FVec Ideal S1x1 .f32 :=
  sqrt (shapeCast S1x1 (multiReduction .maximumf [0] S1 y 0xFF800000#32 reduces_S256x1_S1 (.inl rfl) rfl) shapeCasts_S1_S1x1)

/-- The square root of the greatest of a longer column. -/
def kmxL (y : FVec Ideal S2304x1 .f32) : FVec Ideal S1x1 .f32 :=
  sqrt (shapeCast S1x1 (multiReduction .maximumf [0] S1 y 0xFF800000#32 reduces_S2304x1_S1 (.inl rfl) rfl) shapeCasts_S1_S1x1)

/-- The largest norm of the context keys is real. -/
theorem kmxC_real (y : FVec Ideal S256x1 .f32) (hy : ∀ k, IsReal (y k)) (h0 : ∀ k, 0 ≤ y k) : IsReal (kmxC y (ix2 0 0)) := by
  have e : kmxC y (ix2 0 0) = Ideal.sqrt (multiReduction .maximumf [0] S1 y 0xFF800000#32 reduces_S256x1_S1 (.inl rfl) rfl (ix1 0)) := by
    unfold kmxC
    generalize multiReduction .maximumf [0] S1 y 0xFF800000#32 reduces_S256x1_S1 (.inl rfl) rfl = z
    pointwise!
  rw [e]
  obtain ⟨h1, h2⟩ := multiReduction_max_real y reduces_S256x1_S1 (.inl rfl) rfl (ix1 0) hy (ix2 0 0) (by
    refine funext fun a => Fin.ext ?_
    fin_cases a <;> rfl)
  exact h1.sqrt ((h0 _).trans h2)

/-- The squared lengths of 256 keys, head 0. -/
def knC0 (x : FVec Ideal S1x256x256 .bf16) : FVec Ideal S256x1 .f32 :=
  shapeCast S256x1 (multiReduction .add [1] S256 (extractStridedSlice S256x128 ![0, 0] (k0_pay29 x) slices_S256x256_o0_0_S256x128) 0x00000000#32 reduces_S256x128_S256 (.inl rfl) rfl) shapeCasts_S256_S256x1

/-- The squared norm of a context key, first head. -/
theorem knC0_at (x : FVec Ideal S1x256x256 .bf16) (j : Fin 256) : knC0 x (ix2 j 0) = ∑ e : Fin 128, x (ix3 0 j ⟨0 + e.1, by omega⟩) * x (ix3 0 j ⟨0 + e.1, by omega⟩) := by
  pointwise! [knC0, k0_pay29]

/-- The bound on 256 keys, head 0, is real. -/
theorem pay30_real (x : FVec Ideal S1x256x256 .bf16) (hx : ∀ k, IsReal (x k)) : IsReal ((k0_pay30 x : FVec Ideal S1x1 .f32) (ix2 0 0)) := by
  show IsReal (kmxC (knC0 x) (ix2 0 0))
  refine kmxC_real _ (fun k => ?_) (fun k => ?_)
  · obtain ⟨j, rfl⟩ : ∃ j : Fin 256, k = ix2 j 0 := ⟨k 0, by blk_ext⟩
    rw [knC0_at]
    exact IsReal.sum _ _ fun e => (hx _).mul (hx _)
  · obtain ⟨j, rfl⟩ : ∃ j : Fin 256, k = ix2 j 0 := ⟨k 0, by blk_ext⟩
    rw [knC0_at]
    exact Finset.sum_nonneg fun e _ => sq_nonneg_ereal (hx _)

/-- The squared lengths of 256 keys, head 1. -/
def knC1 (x : FVec Ideal S1x256x256 .bf16) : FVec Ideal S256x1 .f32 :=
  shapeCast S256x1 (multiReduction .add [1] S256 (extractStridedSlice S256x128 ![0, 128] (k0_pay29 x) slices_S256x256_o0_128_S256x128) 0x00000000#32 reduces_S256x128_S256 (.inl rfl) rfl) shapeCasts_S256_S256x1

/-- The squared norm of a context key, second head. -/
theorem knC1_at (x : FVec Ideal S1x256x256 .bf16) (j : Fin 256) : knC1 x (ix2 j 0) = ∑ e : Fin 128, x (ix3 0 j ⟨128 + e.1, by omega⟩) * x (ix3 0 j ⟨128 + e.1, by omega⟩) := by
  pointwise! [knC1, k0_pay29]

/-- The bound on 256 keys, head 1, is real. -/
theorem pay31_real (x : FVec Ideal S1x256x256 .bf16) (hx : ∀ k, IsReal (x k)) : IsReal ((k0_pay31 x : FVec Ideal S1x1 .f32) (ix2 0 0)) := by
  show IsReal (kmxC (knC1 x) (ix2 0 0))
  refine kmxC_real _ (fun k => ?_) (fun k => ?_)
  · obtain ⟨j, rfl⟩ : ∃ j : Fin 256, k = ix2 j 0 := ⟨k 0, by blk_ext⟩
    rw [knC1_at]
    exact IsReal.sum _ _ fun e => (hx _).mul (hx _)
  · obtain ⟨j, rfl⟩ : ∃ j : Fin 256, k = ix2 j 0 := ⟨k 0, by blk_ext⟩
    rw [knC1_at]
    exact Finset.sum_nonneg fun e _ => sq_nonneg_ereal (hx _)

/-- The largest norm of all keys is real. -/
theorem kmxL_real (y : FVec Ideal S2304x1 .f32) (hy : ∀ k, IsReal (y k)) (h0 : ∀ k, 0 ≤ y k) : IsReal (kmxL y (ix2 0 0)) := by
  have e : kmxL y (ix2 0 0) = Ideal.sqrt (multiReduction .maximumf [0] S1 y 0xFF800000#32 reduces_S2304x1_S1 (.inl rfl) rfl (ix1 0)) := by
    unfold kmxL
    generalize multiReduction .maximumf [0] S1 y 0xFF800000#32 reduces_S2304x1_S1 (.inl rfl) rfl = z
    pointwise!
  rw [e]
  obtain ⟨h1, h2⟩ := multiReduction_max_real y reduces_S2304x1_S1 (.inl rfl) rfl (ix1 0) hy (ix2 0 0) (by
    refine funext fun a => Fin.ext ?_
    fin_cases a <;> rfl)
  exact h1.sqrt ((h0 _).trans h2)

/-- The squared lengths of 2304 keys, head 0. -/
def knL0 (x : FVec Ideal S1x2304x256 .bf16) : FVec Ideal S2304x1 .f32 :=
  shapeCast S2304x1 (multiReduction .add [1] S2304 (extractStridedSlice S2304x128 ![0, 0] (k0_pay32 x) slices_S2304x256_o0_0_S2304x128) 0x00000000#32 reduces_S2304x128_S2304 (.inl rfl) rfl) shapeCasts_S2304_S2304x1

/-- The squared norm of a key, first head. -/
theorem knL0_at (x : FVec Ideal S1x2304x256 .bf16) (j : Fin 2304) : knL0 x (ix2 j 0) = ∑ e : Fin 128, x (ix3 0 j ⟨0 + e.1, by omega⟩) * x (ix3 0 j ⟨0 + e.1, by omega⟩) := by
  pointwise! [knL0, k0_pay32]

/-- The bound on 2304 keys, head 0, is real. -/
theorem pay33_real (x : FVec Ideal S1x2304x256 .bf16) (hx : ∀ k, IsReal (x k)) : IsReal ((k0_pay33 x : FVec Ideal S1x1 .f32) (ix2 0 0)) := by
  show IsReal (kmxL (knL0 x) (ix2 0 0))
  refine kmxL_real _ (fun k => ?_) (fun k => ?_)
  · obtain ⟨j, rfl⟩ : ∃ j : Fin 2304, k = ix2 j 0 := ⟨k 0, by blk_ext⟩
    rw [knL0_at]
    exact IsReal.sum _ _ fun e => (hx _).mul (hx _)
  · obtain ⟨j, rfl⟩ : ∃ j : Fin 2304, k = ix2 j 0 := ⟨k 0, by blk_ext⟩
    rw [knL0_at]
    exact Finset.sum_nonneg fun e _ => sq_nonneg_ereal (hx _)

/-- The squared lengths of 2304 keys, head 1. -/
def knL1 (x : FVec Ideal S1x2304x256 .bf16) : FVec Ideal S2304x1 .f32 :=
  shapeCast S2304x1 (multiReduction .add [1] S2304 (extractStridedSlice S2304x128 ![0, 128] (k0_pay32 x) slices_S2304x256_o0_128_S2304x128) 0x00000000#32 reduces_S2304x128_S2304 (.inl rfl) rfl) shapeCasts_S2304_S2304x1

/-- The squared norm of a key, second head. -/
theorem knL1_at (x : FVec Ideal S1x2304x256 .bf16) (j : Fin 2304) : knL1 x (ix2 j 0) = ∑ e : Fin 128, x (ix3 0 j ⟨128 + e.1, by omega⟩) * x (ix3 0 j ⟨128 + e.1, by omega⟩) := by
  pointwise! [knL1, k0_pay32]

/-- The bound on 2304 keys, head 1, is real. -/
theorem pay34_real (x : FVec Ideal S1x2304x256 .bf16) (hx : ∀ k, IsReal (x k)) : IsReal ((k0_pay34 x : FVec Ideal S1x1 .f32) (ix2 0 0)) := by
  show IsReal (kmxL (knL1 x) (ix2 0 0))
  refine kmxL_real _ (fun k => ?_) (fun k => ?_)
  · obtain ⟨j, rfl⟩ : ∃ j : Fin 2304, k = ix2 j 0 := ⟨k 0, by blk_ext⟩
    rw [knL1_at]
    exact IsReal.sum _ _ fun e => (hx _).mul (hx _)
  · obtain ⟨j, rfl⟩ : ∃ j : Fin 2304, k = ix2 j 0 := ⟨k 0, by blk_ext⟩
    rw [knL1_at]
    exact Finset.sum_nonneg fun e _ => sq_nonneg_ereal (hx _)

/-- The average of `v` under the probabilities of the scores `T`. -/
def soft {n : ℕ} (T : Fin n → ℝ) (v : Fin n → EReal) : EReal :=
  ∑ j, v j * Ideal.div (Ideal.exp ((T j : EReal) - 0)) (∑ j, Ideal.exp ((T j : EReal) - 0))

/-- One head's row of the output block: over 256 keys for the context rows, over all keys for the others. -/
def G (T : Fin 2 → Fin 2304 → Fin 2304 → ℝ) (x2 : FVec Ideal S1x2304x128 .bf16) (i : Fin 2304) (l : Fin 128) : EReal :=
  if i.1 < 256 then soft (fun j : Fin 256 => T ⟨l.1 / 64, by omega⟩ i ⟨j.1, by omega⟩) (fun j : Fin 256 => x2 (ix3 0 ⟨j.1, by omega⟩ l))
  else soft (fun j : Fin 2304 => T ⟨l.1 / 64, by omega⟩ i j) (fun j : Fin 2304 => x2 (ix3 0 j l))

/-- A context head at one row and lane, for any real shift. -/
theorem headC (q : Q) (k v : Q) (c : FVec Ideal S256x1 .f32) (T : Fin 256 → ℝ) (r : Fin 256) (d l : Fin 128)
    (hs : ∀ j, (∑ e : Fin 128, q (ix3 0 r e) * k (ix3 0 j e)) = ((T j / Real.log 2 : ℝ) : EReal)) (hc : IsReal (c (ix2 r 0)))
    (ho : ∀ j, v (ix3 0 j l) = 1) :
    Ideal.div (atC (scC q k) c v (ix2 r d)) (atC (scC q k) c v (ix2 r l)) = soft T (fun j => v (ix3 0 j d)) := by
  rw [atC_at, atC_at]
  exact row _ _ T (fun _ => rfl) (fun j => (scC_at q k r j).trans (hs j)) _ 0 hc IsReal.zero _ _ ho

/-- A tile over 256 keys. -/
theorem tileC (x0 x1 : FVec Ideal S1x2304x256 .bf16) (x2 : FVec Ideal S1x2304x128 .bf16) (T : Fin 2 → Fin 2304 → Fin 2304 → ℝ)
    (hT : ∀ (h : Fin 2) i j, (∑ e : Fin 128, x0 (ix3 0 i ⟨128 * h.1 + e.1, by omega⟩) * x1 (ix3 0 j ⟨128 * h.1 + e.1, by omega⟩)) = ((T h i j / Real.log 2 : ℝ) : EReal))
    (q0 q1 : Q) (k0 v0 k1 v1 : Q) (c0 c1 : FVec Ideal S256x1 .f32) (r : Fin 256) (i : Fin 2304) (hi : i.1 < 256)
    (hq0 : ∀ e : Fin 128, q0 (ix3 0 r e) = x0 (ix3 0 i ⟨e.1, by omega⟩)) (hq1 : ∀ e : Fin 128, q1 (ix3 0 r e) = x0 (ix3 0 i ⟨128 + e.1, by omega⟩))
    (hk0 : ∀ (j : Fin 256) (e : Fin 128), k0 (ix3 0 j e) = x1 (ix3 0 ⟨j.1, by omega⟩ ⟨e.1, by omega⟩)) (hk1 : ∀ (j : Fin 256) (e : Fin 128), k1 (ix3 0 j e) = x1 (ix3 0 ⟨j.1, by omega⟩ ⟨128 + e.1, by omega⟩))
    (hv0 : ∀ (j : Fin 256) (d : Fin 64), v0 (ix3 0 j ⟨d.1, by omega⟩) = x2 (ix3 0 ⟨j.1, by omega⟩ ⟨d.1, by omega⟩)) (ho0 : ∀ j : Fin 256, v0 (ix3 0 j 64) = 1)
    (hv1 : ∀ (j : Fin 256) (d : Fin 64), v1 (ix3 0 j ⟨64 + d.1, by omega⟩) = x2 (ix3 0 ⟨j.1, by omega⟩ ⟨64 + d.1, by omega⟩)) (ho1 : ∀ j : Fin 256, v1 (ix3 0 j 0) = 1)
    (hc0 : IsReal (c0 (ix2 r 0))) (hc1 : IsReal (c1 (ix2 r 0))) (l : Fin 128) :
    joinH (atC (scC q0 k0) c0 v0) (atC (scC q1 k1) c1 v1) (ix3 0 r l) = G T x2 i l := by
  by_cases h : l.1 < 64
  · obtain ⟨d, rfl⟩ : ∃ d : Fin 64, l = ⟨d.1, lt_trans d.2 (by decide)⟩ := ⟨⟨l.1, h⟩, rfl⟩
    rw [joinH_at0, headC q0 k0 v0 c0 (fun j => T 0 i ⟨j.1, by omega⟩) r _ _ (fun j => ?_) hc0 ho0, G, if_pos hi]
    · have e : (⟨d.1 / 64, by omega⟩ : Fin 2) = 0 := Fin.ext (by show d.1 / 64 = 0; omega)
      simp only [hv0, e]
    · rw [← hT]
      refine Finset.sum_congr rfl fun e _ => ?_
      rw [hq0, hk0]
      congr 3 <;> exact Fin.ext (by show e.1 = 128 * 0 + e.1; omega)
  · obtain ⟨d, rfl⟩ : ∃ d : Fin 64, l = ⟨64 + d.1, Nat.add_lt_add_left d.2 64⟩ := ⟨⟨l.1 - 64, by omega⟩, Fin.ext (by show _ = 64 + (l.1 - 64); omega)⟩
    rw [joinH_at1, headC q1 k1 v1 c1 (fun j => T 1 i ⟨j.1, by omega⟩) r _ _ (fun j => ?_) hc1 ho1, G, if_pos hi]
    · have e : (⟨(64 + d.1) / 64, by omega⟩ : Fin 2) = 1 := Fin.ext (by show (64 + d.1) / 64 = 1; omega)
      simp only [hv1, e]
    · rw [← hT]
      refine Finset.sum_congr rfl fun e _ => ?_
      rw [hq1, hk1]
      rfl

/-- A latent head at one row and lane, for any real shift. -/
theorem headL (q : Q) (k v : K) (c : FVec Ideal S256x1 .f32) (T : Fin 2304 → ℝ) (r : Fin 256) (d l : Fin 128)
    (hs : ∀ j, (∑ e : Fin 128, q (ix3 0 r e) * k (ix3 0 j e)) = ((T j / Real.log 2 : ℝ) : EReal)) (hc : IsReal (c (ix2 r 0)))
    (ho : ∀ j, v (ix3 0 j l) = 1) :
    Ideal.div (atL (scL q k) c v (ix2 r d)) (atL (scL q k) c v (ix2 r l)) = soft T (fun j => v (ix3 0 j d)) := by
  rw [atL_at, atL_at]
  exact row _ _ T (fun _ => rfl) (fun j => (scL_at q k r j).trans (hs j)) _ 0 hc IsReal.zero _ _ ho

/-- A tile over 2304 keys. -/
theorem tileL (x0 x1 : FVec Ideal S1x2304x256 .bf16) (x2 : FVec Ideal S1x2304x128 .bf16) (T : Fin 2 → Fin 2304 → Fin 2304 → ℝ)
    (hT : ∀ (h : Fin 2) i j, (∑ e : Fin 128, x0 (ix3 0 i ⟨128 * h.1 + e.1, by omega⟩) * x1 (ix3 0 j ⟨128 * h.1 + e.1, by omega⟩)) = ((T h i j / Real.log 2 : ℝ) : EReal))
    (q0 q1 : Q) (k0 v0 k1 v1 : K) (c0 c1 : FVec Ideal S256x1 .f32) (r : Fin 256) (i : Fin 2304) (hi : ¬ i.1 < 256)
    (hq0 : ∀ e : Fin 128, q0 (ix3 0 r e) = x0 (ix3 0 i ⟨e.1, by omega⟩)) (hq1 : ∀ e : Fin 128, q1 (ix3 0 r e) = x0 (ix3 0 i ⟨128 + e.1, by omega⟩))
    (hk0 : ∀ (j : Fin 2304) (e : Fin 128), k0 (ix3 0 j e) = x1 (ix3 0 j ⟨e.1, by omega⟩)) (hk1 : ∀ (j : Fin 2304) (e : Fin 128), k1 (ix3 0 j e) = x1 (ix3 0 j ⟨128 + e.1, by omega⟩))
    (hv0 : ∀ (j : Fin 2304) (d : Fin 64), v0 (ix3 0 j ⟨d.1, by omega⟩) = x2 (ix3 0 j ⟨d.1, by omega⟩)) (ho0 : ∀ j : Fin 2304, v0 (ix3 0 j 64) = 1)
    (hv1 : ∀ (j : Fin 2304) (d : Fin 64), v1 (ix3 0 j ⟨64 + d.1, by omega⟩) = x2 (ix3 0 j ⟨64 + d.1, by omega⟩)) (ho1 : ∀ j : Fin 2304, v1 (ix3 0 j 0) = 1)
    (hc0 : IsReal (c0 (ix2 r 0))) (hc1 : IsReal (c1 (ix2 r 0))) (l : Fin 128) :
    joinH (atL (scL q0 k0) c0 v0) (atL (scL q1 k1) c1 v1) (ix3 0 r l) = G T x2 i l := by
  by_cases h : l.1 < 64
  · obtain ⟨d, rfl⟩ : ∃ d : Fin 64, l = ⟨d.1, lt_trans d.2 (by decide)⟩ := ⟨⟨l.1, h⟩, rfl⟩
    rw [joinH_at0, headL q0 k0 v0 c0 (fun j => T 0 i j) r _ _ (fun j => ?_) hc0 ho0, G, if_neg hi]
    · have e : (⟨d.1 / 64, by omega⟩ : Fin 2) = 0 := Fin.ext (by show d.1 / 64 = 0; omega)
      simp only [hv0, e]
    · rw [← hT]
      refine Finset.sum_congr rfl fun e _ => ?_
      rw [hq0, hk0]
      congr 3 <;> exact Fin.ext (by show e.1 = 128 * 0 + e.1; omega)
  · obtain ⟨d, rfl⟩ : ∃ d : Fin 64, l = ⟨64 + d.1, Nat.add_lt_add_left d.2 64⟩ := ⟨⟨l.1 - 64, by omega⟩, Fin.ext (by show _ = 64 + (l.1 - 64); omega)⟩
    rw [joinH_at1, headL q1 k1 v1 c1 (fun j => T 1 i j) r _ _ (fun j => ?_) hc1 ho1, G, if_neg hi]
    · have e : (⟨(64 + d.1) / 64, by omega⟩ : Fin 2) = 1 := Fin.ext (by show (64 + d.1) / 64 = 1; omega)
      simp only [hv1, e]
    · rw [← hT]
      refine Finset.sum_congr rfl fun e _ => ?_
      rw [hq1, hk1]
      rfl

/-- The first head's scratch holds its values in the first 64 lanes. -/
theorem pay3_v (x : K) (j : Fin 2304) (d : Fin 64) : k0_pay3 (F := Ideal) x (ix3 0 j ⟨d.1, by omega⟩) = x (ix3 0 j ⟨d.1, by omega⟩) := by
  have h : IntOp.cmpi .slt (BitVec.ofNat 32 d.1) 64#32 = 1#1 := by
    have := d.2; revert d; decide
  pointwise! [k0_pay3, k0_pay2, h, Scalar.select]

/-- And ones in lane 64. -/
theorem pay3_o (x : K) (j : Fin 2304) : k0_pay3 (F := Ideal) x (ix3 0 j 64) = 1 := by
  pointwise! [k0_pay3, k0_pay2, Scalar.select]

/-- The second head's scratch holds its values in the last 64 lanes. -/
theorem pay4_v (x : K) (j : Fin 2304) (d : Fin 64) : k0_pay4 (F := Ideal) x (ix3 0 j ⟨64 + d.1, by omega⟩) = x (ix3 0 j ⟨64 + d.1, by omega⟩) := by
  have h : IntOp.cmpi .sge (BitVec.ofNat 32 (64 + d.1)) 64#32 = 1#1 := by
    have := d.2; revert d; decide
  pointwise! [k0_pay4, k0_pay2, h, Scalar.select]

/-- And ones in lane 0. -/
theorem pay4_o (x : K) (j : Fin 2304) : k0_pay4 (F := Ideal) x (ix3 0 j 0) = 1 := by
  pointwise! [k0_pay4, k0_pay2, Scalar.select]

end Cert.AttnIdeal.Hand

end
-- ==== Proof.AttnLoads.lean ====
/-
The attention's output block: every stored tile is a block of one function of the loaded windows.
-/
module

public import proofs.«01_k».proof.Proof.AttnTiles
public import proofs.«01_k».proof.Proof.AttnFrame
public import Idealize.ShloMosaic.Lib.WholeRead
public import Idealize.ShloMosaic.Lib.Pipeline.ReadBack

@[expose] public section

set_option maxRecDepth 16384

noncomputable section

namespace Cert.AttnIdeal.Hand

open Idealize.ShloMosaic Idealize.ShloMosaic.Pointwise Cert.AttnIdeal Cert.AttnIdeal.Gen Cert.AttnMath

section Loads

/-- Reading a rectangle by its indices is embedding them. -/
theorem idx_emb {s : Shape} (r : Rect s) (x : r.shape.Idx) : r.toLoadRect.idx x = r.emb x := rfl

/-- A load of 256 rows and 128 lanes of a query or key block. -/
theorem q_at (a : Memref sig .tc .vmem S1x2304x256 .bf16) (ha : a.IsWhole) (X : Vec Ideal S1x2304x256 .bf16) (o h : ℕ)
    (inb : ∀ k, (![0, o, h] : Fin 3 → ℕ) k + S1x256x128.size k ≤ S1x2304x256.size k) (r : Fin 256) (e : Fin 128) (i : Fin 2304) (hi : i.1 = o + r.1) (l : Fin 256) (hl : l.1 = h + e.1) :
    (View.readAt (Elt Ideal) a.view (Rect.unit (s := S1x2304x256) ![0, o, h] S1x256x128.size inb).toLoadRect (ha.unread X) : Q) (ix3 0 r e) = X (ix3 0 i l) := by
  refine (ha.readAt_unread X _ _).trans (congrArg X ?_)
  refine (idx_emb _ _).trans ?_
  blk_ext [hi, hl]

/-- A load of all rows and 128 lanes of a key block. -/
theorem k_at (a : Memref sig .tc .vmem S1x2304x256 .bf16) (ha : a.IsWhole) (X : Vec Ideal S1x2304x256 .bf16) (h : ℕ)
    (inb : ∀ k, (![0, 0, h] : Fin 3 → ℕ) k + S1x2304x128.size k ≤ S1x2304x256.size k) (r : Fin 2304) (e : Fin 128) (l : Fin 256) (hl : l.1 = h + e.1) :
    (View.readAt (Elt Ideal) a.view (Rect.unit (s := S1x2304x256) ![0, 0, h] S1x2304x128.size inb).toLoadRect (ha.unread X) : K) (ix3 0 r e) = X (ix3 0 r l) := by
  refine (ha.readAt_unread X _ _).trans (congrArg X ?_)
  refine (idx_emb _ _).trans ?_
  blk_ext [hl]

/-- Every entry of a load of real numbers is real. -/
theorem load_real (a : Memref sig .tc .vmem S1x2304x256 .bf16) (ha : a.IsWhole) (X : Vec Ideal S1x2304x256 .bf16) (hX : ∀ k, IsReal (X k))
    (B : LoadRect S1x2304x256) (x : B.shape.Idx) : IsReal (View.readAt (Elt Ideal) a.view B (ha.unread X) x) := by
  rw [ha.readAt_unread X B x]; exact hX _

variable (c : Dev nD) (arg5 : Memref sig .tc .vmem S1x2304x128 .bf16) (harg5 : arg5.IsWhole) (arg7 : Memref sig .tc .vmem S2x2304x128 .bf16)
  (x2 : Vec Ideal S1x2304x128 .bf16)

/-- The load of the values is the values. -/
theorem v_load : (View.readAt (Elt Ideal) arg5.view (Rect.unit (s := S1x2304x128) ![0, 0, 0] S1x2304x128.size inb_S1x2304x128_S1x2304x128_0_0_0).toLoadRect (harg5.unread x2) : K) = x2 := by
  funext y
  obtain ⟨r, e, rfl⟩ : ∃ (r : Fin 2304) (e : Fin 128), y = ix3 0 r e := ⟨y 1, y 2, by blk_ext⟩
  refine (harg5.readAt_unread x2 _ _).trans (congrArg x2 ?_)
  refine (idx_emb _ _).trans ?_
  blk_ext

/-- The scratch's second half. -/
theorem scr1 (r : Fin 2304) (e : Fin 128) : View.canon (bodyRun.sl.H4_2 c arg5 harg5 x2) (ix3 1 r e) = k0_pay4 (F := Ideal) x2 (ix3 0 r e) := by
  unfold bodyRun.sl.H4_2
  rw [v_load]
  have e1 : (ix3 1 r e : S2x2304x128.Idx) = (Rect.unit (s := S2x2304x128) ![1, 0, 0] S1x2304x128.size inb_S2x2304x128_S1x2304x128_1_0_0).emb (ix3 0 r e) := by
    blk_ext
  rw [e1, View.canon_cons_emb]

/-- The scratch's first half. -/
theorem scr0 (r : Fin 2304) (e : Fin 128) : View.canon (bodyRun.sl.H4_2 c arg5 harg5 x2) (ix3 0 r e) = k0_pay3 (F := Ideal) x2 (ix3 0 r e) := by
  unfold bodyRun.sl.H4_2
  rw [v_load]
  have e1 : (ix3 0 r e : S2x2304x128.Idx) = (Rect.unit (s := S2x2304x128) ![0, 0, 0] S1x2304x128.size inb_S2x2304x128_S1x2304x128_0_0_0).emb (ix3 0 r e) := by
    blk_ext
  rw [View.canon_cons_of_not_mem _ _ (by
    rw [e1]
    exact LoadRect.idx_not_mem_of_disj (p := Rect.unit (s := S2x2304x128) ![1, 0, 0] S1x2304x128.size inb_S2x2304x128_S1x2304x128_1_0_0) (B := (Rect.unit (s := S2x2304x128) ![0, 0, 0] S1x2304x128.size inb_S2x2304x128_S1x2304x128_0_0_0).toLoadRect) (by decide) (ix3 0 r e)), e1, View.canon_cons_emb]

/-- The first head's values of the context path, lane by lane. -/
theorem vC0_at (r : Fin 256) (e : Fin 128) (i : Fin 2304) (hi : i.1 = r.1) :
    (arg7.view.readCov (bodyRun.sl.H4_2 c arg5 harg5 x2) (Rect.unit (s := S2x2304x128) ![0, 0, 0] S1x256x128.size inb_S2x2304x128_S1x256x128_0_0_0).toLoadRect : Q) (ix3 0 r e)
      = k0_pay3 (F := Ideal) x2 (ix3 0 i e) := by
  rw [View.readCov_eq_canon', ← scr0 c arg5 harg5 x2]
  refine congrArg (View.canon _) ?_
  refine (idx_emb _ _).trans ?_
  blk_ext [hi]

/-- The second head's values of the context path, lane by lane. -/
theorem vC1_at (r : Fin 256) (e : Fin 128) (i : Fin 2304) (hi : i.1 = r.1) :
    (arg7.view.readCov (bodyRun.sl.H4_2 c arg5 harg5 x2) (Rect.unit (s := S2x2304x128) ![1, 0, 0] S1x256x128.size inb_S2x2304x128_S1x256x128_1_0_0).toLoadRect : Q) (ix3 0 r e)
      = k0_pay4 (F := Ideal) x2 (ix3 0 i e) := by
  rw [View.readCov_eq_canon', ← scr1 c arg5 harg5 x2]
  refine congrArg (View.canon _) ?_
  refine (idx_emb _ _).trans ?_
  blk_ext [hi]

/-- The first head's values of the latent path, lane by lane. -/
theorem vL0_at (r : Fin 2304) (e : Fin 128) (i : Fin 2304) (hi : i.1 = r.1) :
    (arg7.view.readCov (bodyRun.sl.H4_2 c arg5 harg5 x2) (Rect.unit (s := S2x2304x128) ![0, 0, 0] S1x2304x128.size inb_S2x2304x128_S1x2304x128_0_0_0).toLoadRect : K) (ix3 0 r e)
      = k0_pay3 (F := Ideal) x2 (ix3 0 i e) := by
  rw [View.readCov_eq_canon', ← scr0 c arg5 harg5 x2]
  refine congrArg (View.canon _) ?_
  refine (idx_emb _ _).trans ?_
  blk_ext [hi]

/-- The second head's values of the latent path, lane by lane. -/
theorem vL1_at (r : Fin 2304) (e : Fin 128) (i : Fin 2304) (hi : i.1 = r.1) :
    (arg7.view.readCov (bodyRun.sl.H4_2 c arg5 harg5 x2) (Rect.unit (s := S2x2304x128) ![1, 0, 0] S1x2304x128.size inb_S2x2304x128_S1x2304x128_1_0_0).toLoadRect : K) (ix3 0 r e)
      = k0_pay4 (F := Ideal) x2 (ix3 0 i e) := by
  rw [View.readCov_eq_canon', ← scr1 c arg5 harg5 x2]
  refine congrArg (View.canon _) ?_
  refine (idx_emb _ _).trans ?_
  blk_ext [hi]

end Loads

end Cert.AttnIdeal.Hand

end
-- ==== Proof.AttnPieces.lean ====
/-
The attention's output block as one function of the loaded windows.
-/
module

public import proofs.«01_k».proof.Proof.AttnLoads

@[expose] public section

set_option maxRecDepth 16384

noncomputable section

namespace Cert.AttnIdeal.Hand

open Idealize.ShloMosaic Idealize.ShloMosaic.Pointwise Cert.AttnIdeal Cert.AttnIdeal.Gen Cert.AttnMath

/-- A lane of a block of two heads, by head and lane of the head. -/
abbrev lane2 (h : Fin 2) (e : Fin 128) : Fin 256 := ⟨128 * h.1 + e.1, by omega⟩

section Pieces

variable (c : Dev nD) (i : grid0.Coords) (arg3 : Memref sig .tc .vmem S1x2304x256 .bf16) (harg3 : arg3.IsWhole) (arg4 : Memref sig .tc .vmem S1x2304x256 .bf16) (harg4 : arg4.IsWhole) (arg5 : Memref sig .tc .vmem S1x2304x128 .bf16) (harg5 : arg5.IsWhole) (arg6 : Memref sig .tc .vmem S1x2304x128 .bf16) (harg6 : arg6.IsWhole) (arg7 : Memref sig .tc .vmem S2x2304x128 .bf16) (harg7 : arg7.IsWhole)
    (h1 : InFirst i) (h2 : k0_cond2 i = 1#1)
    (x0 : Vec Ideal S1x2304x256 .bf16) (x1 : Vec Ideal S1x2304x256 .bf16) (x2 : Vec Ideal S1x2304x128 .bf16)

/-- The load of a tile's queries of one head. -/
abbrev qL (o h : ℕ) (inb : ∀ k, (![0, o, h] : Fin 3 → ℕ) k + S1x256x128.size k ≤ S1x2304x256.size k) : Q :=
  View.readAt (Elt Ideal) arg3.view (Rect.unit (s := S1x2304x256) ![0, o, h] S1x256x128.size inb).toLoadRect (harg3.unread x0)

/-- The load of all keys of one head. -/
abbrev kL (h : ℕ) (inb : ∀ k, (![0, 0, h] : Fin 3 → ℕ) k + S1x2304x128.size k ≤ S1x2304x256.size k) : K :=
  View.readAt (Elt Ideal) arg4.view (Rect.unit (s := S1x2304x256) ![0, 0, h] S1x2304x128.size inb).toLoadRect (harg4.unread x1)

/-- The load of all keys. -/
abbrev kAll : FVec Ideal S1x2304x256 .bf16 :=
  View.readAt (Elt Ideal) arg4.view (Rect.unit (s := S1x2304x256) ![0, 0, 0] S1x2304x256.size inb_S1x2304x256_S1x2304x256_0_0_0).toLoadRect (harg4.unread x1)

/-- The load of the context's keys. -/
abbrev kCtx : FVec Ideal S1x256x256 .bf16 :=
  View.readAt (Elt Ideal) arg4.view (Rect.unit (s := S1x2304x256) ![0, 0, 0] S1x256x256.size inb_S1x2304x256_S1x256x256_0_0_0).toLoadRect (harg4.unread x1)

/-- The loads of the values and weights' lane, one head's half of the scratch, all rows. -/
abbrev vL (h : ℕ) (inb : ∀ k, (![h, 0, 0] : Fin 3 → ℕ) k + S1x2304x128.size k ≤ S2x2304x128.size k) : K :=
  arg7.view.readCov (bodyRun.sl.H4_2 c arg5 harg5 x2) (Rect.unit (s := S2x2304x128) ![h, 0, 0] S1x2304x128.size inb).toLoadRect

/-- The same, the context's rows. -/
abbrev vC (h : ℕ) (inb : ∀ k, (![h, 0, 0] : Fin 3 → ℕ) k + S1x256x128.size k ≤ S2x2304x128.size k) : Q :=
  arg7.view.readCov (bodyRun.sl.H4_2 c arg5 harg5 x2) (Rect.unit (s := S2x2304x128) ![h, 0, 0] S1x256x128.size inb).toLoadRect

variable (T : Fin 2 → Fin 2304 → Fin 2304 → ℝ)
    (hx0 : ∀ k, IsReal (x0 k)) (hx1 : ∀ k, IsReal (x1 k))
    (hT : ∀ (h : Fin 2) i j, (∑ e : Fin 128, x0 (ix3 0 i (lane2 h e)) * x1 (ix3 0 j (lane2 h e))) = ((T h i j / Real.log 2 : ℝ) : EReal))

include hT in
/-- The context's tile, whatever its shifts. -/
theorem pieceC (c0 c1 : FVec Ideal S256x1 .f32) (hc0 : ∀ r, IsReal (c0 (ix2 r 0))) (hc1 : ∀ r, IsReal (c1 (ix2 r 0))) (r : Fin 256) (l : Fin 128) :
    joinH (atC (scC (qL arg3 harg3 x0 0 0 inb_S1x2304x256_S1x256x128_0_0_0) (qL arg4 harg4 x1 0 0 inb_S1x2304x256_S1x256x128_0_0_0)) c0 (vC c arg5 harg5 arg7 x2 0 inb_S2x2304x128_S1x256x128_0_0_0))
      (atC (scC (qL arg3 harg3 x0 0 128 inb_S1x2304x256_S1x256x128_0_0_128) (qL arg4 harg4 x1 0 128 inb_S1x2304x256_S1x256x128_0_0_128)) c1 (vC c arg5 harg5 arg7 x2 1 inb_S2x2304x128_S1x256x128_1_0_0)) (ix3 0 r l)
      = G T x2 ⟨r.1, by omega⟩ l :=
  tileC x0 x1 x2 T hT _ _ _ _ _ _ _ _ r _ r.2
    (fun e => q_at arg3 harg3 x0 0 0 _ r e _ (by (try dsimp only); omega) _ (by (try dsimp only); omega)) (fun e => q_at arg3 harg3 x0 0 128 _ r e _ (by (try dsimp only); omega) _ rfl)
    (fun j e => q_at arg4 harg4 x1 0 0 _ j e _ (by (try dsimp only); omega) _ (by (try dsimp only); omega)) (fun j e => q_at arg4 harg4 x1 0 128 _ j e _ (by (try dsimp only); omega) _ rfl)
    (fun j d => (vC0_at c arg5 harg5 arg7 x2 j _ _ rfl).trans (pay3_v x2 _ d)) (fun j => (vC0_at c arg5 harg5 arg7 x2 j _ ⟨j.1, by omega⟩ rfl).trans (pay3_o x2 _))
    (fun j d => (vC1_at c arg5 harg5 arg7 x2 j _ _ rfl).trans (pay4_v x2 _ d)) (fun j => (vC1_at c arg5 harg5 arg7 x2 j _ ⟨j.1, by omega⟩ rfl).trans (pay4_o x2 _))
    (hc0 r) (hc1 r) l

include hT in
/-- A latent tile, whatever its shifts. -/
theorem pieceL (o : ℕ) (ho : 256 ≤ o) (ho' : o + 256 ≤ 2304) (inb0 : ∀ k, (![0, o, 0] : Fin 3 → ℕ) k + S1x256x128.size k ≤ S1x2304x256.size k) (inb1 : ∀ k, (![0, o, 128] : Fin 3 → ℕ) k + S1x256x128.size k ≤ S1x2304x256.size k)
    (c0 c1 : FVec Ideal S256x1 .f32) (hc0 : ∀ r, IsReal (c0 (ix2 r 0))) (hc1 : ∀ r, IsReal (c1 (ix2 r 0))) (r : Fin 256) (l : Fin 128) :
    joinH (atL (scL (qL arg3 harg3 x0 o 0 inb0) (kL arg4 harg4 x1 0 inb_S1x2304x256_S1x2304x128_0_0_0)) c0 (vL c arg5 harg5 arg7 x2 0 inb_S2x2304x128_S1x2304x128_0_0_0))
      (atL (scL (qL arg3 harg3 x0 o 128 inb1) (kL arg4 harg4 x1 128 inb_S1x2304x256_S1x2304x128_0_0_128)) c1 (vL c arg5 harg5 arg7 x2 1 inb_S2x2304x128_S1x2304x128_1_0_0)) (ix3 0 r l)
      = G T x2 ⟨o + r.1, by omega⟩ l :=
  tileL x0 x1 x2 T hT _ _ _ _ _ _ _ _ r _ (by (try dsimp only); omega)
    (fun e => q_at arg3 harg3 x0 o 0 _ r e _ rfl _ (by (try dsimp only); omega)) (fun e => q_at arg3 harg3 x0 o 128 _ r e _ rfl _ rfl)
    (fun j e => k_at arg4 harg4 x1 0 _ j e _ (by (try dsimp only); omega)) (fun j e => k_at arg4 harg4 x1 128 _ j e _ rfl)
    (fun j d => (vL0_at c arg5 harg5 arg7 x2 j _ _ rfl).trans (pay3_v x2 _ d)) (fun j => (vL0_at c arg5 harg5 arg7 x2 j _ j rfl).trans (pay3_o x2 _))
    (fun j d => (vL1_at c arg5 harg5 arg7 x2 j _ _ rfl).trans (pay4_v x2 _ d)) (fun j => (vL1_at c arg5 harg5 arg7 x2 j _ j rfl).trans (pay4_o x2 _))
    (hc0 r) (hc1 r) l

/-- The context scores are real. -/
theorem scC_real (q k : Q) (hq : ∀ y, IsReal (q y)) (hk : ∀ y, IsReal (k y)) (y : S256x256.Idx) : IsReal (scC q k y) := by
  obtain ⟨r, j, rfl⟩ : ∃ (r j : Fin 256), y = ix2 r j := ⟨y 0, y 1, by blk_ext⟩
  rw [scC_at]; exact IsReal.sum _ _ fun e => (hq _).mul (hk _)

/-- The latent scores are real. -/
theorem scL_real (q : Q) (k : K) (hq : ∀ y, IsReal (q y)) (hk : ∀ y, IsReal (k y)) (y : S256x2304.Idx) : IsReal (scL q k y) := by
  obtain ⟨r, j, rfl⟩ : ∃ (r : Fin 256) (j : Fin 2304), y = ix2 r j := ⟨y 0, y 1, by blk_ext⟩
  rw [scL_at]; exact IsReal.sum _ _ fun e => (hq _).mul (hk _)

include hx0 in
/-- A tile's queries, as loaded, are real. -/
theorem qL_real (o h : ℕ) (inb : ∀ k, (![0, o, h] : Fin 3 → ℕ) k + S1x256x128.size k ≤ S1x2304x256.size k) (y : S1x256x128.Idx) : IsReal (qL arg3 harg3 x0 o h inb y) :=
  (congrArg IsReal (harg3.readAt_unread x0 (Rect.unit (s := S1x2304x256) ![0, o, h] S1x256x128.size inb).toLoadRect y)).mpr (hx0 _)

include hx1 in
/-- A head's keys, as loaded, are real. -/
theorem kL_real (h : ℕ) (inb : ∀ k, (![0, 0, h] : Fin 3 → ℕ) k + S1x2304x128.size k ≤ S1x2304x256.size k) (y : S1x2304x128.Idx) : IsReal (kL arg4 harg4 x1 h inb y) :=
  (congrArg IsReal (harg4.readAt_unread x1 (Rect.unit (s := S1x2304x256) ![0, 0, h] S1x2304x128.size inb).toLoadRect y)).mpr (hx1 _)

include hx1 in
/-- The keys of both heads, as loaded, are real. -/
theorem kAll_real (y : S1x2304x256.Idx) : IsReal (kAll arg4 harg4 x1 y) :=
  (congrArg IsReal (harg4.readAt_unread x1 (Rect.unit (s := S1x2304x256) ![0, 0, 0] S1x2304x256.size inb_S1x2304x256_S1x2304x256_0_0_0).toLoadRect y)).mpr (hx1 _)

include hx1 in
/-- The context's keys of both heads, as loaded, are real. -/
theorem kCtx_real (y : S1x256x256.Idx) : IsReal (kCtx arg4 harg4 x1 y) :=
  (congrArg IsReal (harg4.readAt_unread x1 (Rect.unit (s := S1x2304x256) ![0, 0, 0] S1x256x256.size inb_S1x2304x256_S1x256x256_0_0_0).toLoadRect y)).mpr (hx1 _)

/-- The block as a function of its index. -/
def GG (y : S1x2304x128.Idx) : Elt Ideal .bf16 := G T x2 (y 1) (y 2)

include hx0 hx1 hT in
/-- The first pass up to tile 0. -/
theorem fast0 : View.PiecesOf (GG x2 T) (bodyRun.sl.H3_1 c arg3 harg3 arg4 harg4 arg5 harg5 arg7 x0 x1 x2) := by
  refine ⟨fun (x : S1x256x128.Idx) => ?_, trivial⟩
  · obtain ⟨r, l, rfl⟩ : ∃ (r : Fin 256) (l : Fin 128), x = ix3 0 r l := ⟨x 1, x 2, by blk_ext⟩
    have e : (joinH (atC (scC (qL arg3 harg3 x0 0 0 inb_S1x2304x256_S1x256x128_0_0_0) (qL arg4 harg4 x1 0 0 inb_S1x2304x256_S1x256x128_0_0_0)) (fast (qL arg3 harg3 x0 0 0 inb_S1x2304x256_S1x256x128_0_0_0) (k0_pay30 (F := Ideal) (kCtx arg4 harg4 x1))) (vC c arg5 harg5 arg7 x2 0 inb_S2x2304x128_S1x256x128_0_0_0)) (atC (scC (qL arg3 harg3 x0 0 128 inb_S1x2304x256_S1x256x128_0_0_128) (qL arg4 harg4 x1 0 128 inb_S1x2304x256_S1x256x128_0_0_128)) (fast (qL arg3 harg3 x0 0 128 inb_S1x2304x256_S1x256x128_0_0_128) (k0_pay31 (F := Ideal) (kCtx arg4 harg4 x1))) (vC c arg5 harg5 arg7 x2 1 inb_S2x2304x128_S1x256x128_1_0_0))) (ix3 0 r l) = G T x2 ⟨r.1, by omega⟩ l := (pieceC c arg3 harg3 arg4 harg4 arg5 harg5 arg7 x0 x1 x2 T hT _ _ (fun r => fast_real _ _ (fun y => qL_real arg3 harg3 x0 hx0 _ _ _ y) (pay30_real _ (kCtx_real arg4 harg4 x1 hx1)) r) (fun r => fast_real _ _ (fun y => qL_real arg3 harg3 x0 hx0 _ _ _ y) (pay31_real _ (kCtx_real arg4 harg4 x1 hx1)) r) r l)
    refine Eq.trans ?_ (e.trans ?_)
    · rfl
    · refine congrArg (GG x2 T) (a₁ := ix3 0 ⟨r.1, by omega⟩ l) ?_
      blk_ext

include hx0 hx1 hT in
/-- The first pass up to tile 1. -/
theorem fast1 : View.PiecesOf (GG x2 T) (bodyRun.sl.H3_2 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 256 0 inb_S1x2304x256_S1x256x128_0_256_0) (kL arg4 harg4 x1 0 inb_S1x2304x256_S1x2304x128_0_0_0)) (fast (qL arg3 harg3 x0 256 0 inb_S1x2304x256_S1x256x128_0_256_0) (k0_pay33 (F := Ideal) (kAll arg4 harg4 x1))) (vL c arg5 harg5 arg7 x2 0 inb_S2x2304x128_S1x2304x128_0_0_0)) (atL (scL (qL arg3 harg3 x0 256 128 inb_S1x2304x256_S1x256x128_0_256_128) (kL arg4 harg4 x1 128 inb_S1x2304x256_S1x2304x128_0_0_128)) (fast (qL arg3 harg3 x0 256 128 inb_S1x2304x256_S1x256x128_0_256_128) (k0_pay34 (F := Ideal) (kAll arg4 harg4 x1))) (vL c arg5 harg5 arg7 x2 1 inb_S2x2304x128_S1x2304x128_1_0_0))) (ix3 0 r l) = G T x2 ⟨256 + r.1, by omega⟩ l := (pieceL c arg3 harg3 arg4 harg4 arg5 harg5 arg7 x0 x1 x2 T hT 256 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨256 + r.1, by omega⟩ l) ?_
      blk_ext
  · exact fast0 c arg3 harg3 arg4 harg4 arg5 harg5 arg7 x0 x1 x2 T hx0 hx1 hT

include hx0 hx1 hT in
/-- The first pass up to tile 2. -/
theorem fast2 : View.PiecesOf (GG x2 T) (bodyRun.sl.H3_3 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 512 0 inb_S1x2304x256_S1x256x128_0_512_0) (kL arg4 harg4 x1 0 inb_S1x2304x256_S1x2304x128_0_0_0)) (fast (qL arg3 harg3 x0 512 0 inb_S1x2304x256_S1x256x128_0_512_0) (k0_pay33 (F := Ideal) (kAll arg4 harg4 x1))) (vL c arg5 harg5 arg7 x2 0 inb_S2x2304x128_S1x2304x128_0_0_0)) (atL (scL (qL arg3 harg3 x0 512 128 inb_S1x2304x256_S1x256x128_0_512_128) (kL arg4 harg4 x1 128 inb_S1x2304x256_S1x2304x128_0_0_128)) (fast (qL arg3 harg3 x0 512 128 inb_S1x2304x256_S1x256x128_0_512_128) (k0_pay34 (F := Ideal) (kAll arg4 harg4 x1))) (vL c arg5 harg5 arg7 x2 1 inb_S2x2304x128_S1x2304x128_1_0_0))) (ix3 0 r l) = G T x2 ⟨512 + r.1, by omega⟩ l := (pieceL c arg3 harg3 arg4 harg4 arg5 harg5 arg7 x0 x1 x2 T hT 512 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨512 + r.1, by omega⟩ l) ?_
      blk_ext
  · exact fast1 c arg3 harg3 arg4 harg4 arg5 harg5 arg7 x0 x1 x2 T hx0 hx1 hT

include hx0 hx1 hT in
/-- The first pass up to tile 3. -/
theorem fast3 : View.PiecesOf (GG x2 T) (bodyRun.sl.H3_4 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 768 0 inb_S1x2304x256_S1x256x128_0_768_0) (kL arg4 harg4 x1 0 inb_S1x2304x256_S1x2304x128_0_0_0)) (fast (qL arg3 harg3 x0 768 0 inb_S1x2304x256_S1x256x128_0_768_0) (k0_pay33 (F := Ideal) (kAll arg4 harg4 x1))) (vL c arg5 harg5 arg7 x2 0 inb_S2x2304x128_S1x2304x128_0_0_0)) (atL (scL (qL arg3 harg3 x0 768 128 inb_S1x2304x256_S1x256x128_0_768_128) (kL arg4 harg4 x1 128 inb_S1x2304x256_S1x2304x128_0_0_128)) (fast (qL arg3 harg3 x0 768 128 inb_S1x2304x256_S1x256x128_0_768_128) (k0_pay34 (F := Ideal) (kAll arg4 harg4 x1))) (vL c arg5 harg5 arg7 x2 1 inb_S2x2304x128_S1x2304x128_1_0_0))) (ix3 0 r l) = G T x2 ⟨768 + r.1, by omega⟩ l := (pieceL c arg3 harg3 arg4 harg4 arg5 harg5 arg7 x0 x1 x2 T hT 768 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨768 + r.1, by omega⟩ l) ?_
      blk_ext
  · exact fast2 c arg3 harg3 arg4 harg4 arg5 harg5 arg7 x0 x1 x2 T hx0 hx1 hT

include hx0 hx1 hT in
/-- The first pass up to tile 4. -/
theorem fast4 : View.PiecesOf (GG x2 T) (bodyRun.sl.H3_5 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1024 0 inb_S1x2304x256_S1x256x128_0_1024_0) (kL arg4 harg4 x1 0 inb_S1x2304x256_S1x2304x128_0_0_0)) (fast (qL arg3 harg3 x0 1024 0 inb_S1x2304x256_S1x256x128_0_1024_0) (k0_pay33 (F := Ideal) (kAll arg4 harg4 x1))) (vL c arg5 harg5 arg7 x2 0 inb_S2x2304x128_S1x2304x128_0_0_0)) (atL (scL (qL arg3 harg3 x0 1024 128 inb_S1x2304x256_S1x256x128_0_1024_128) (kL arg4 harg4 x1 128 inb_S1x2304x256_S1x2304x128_0_0_128)) (fast (qL arg3 harg3 x0 1024 128 inb_S1x2304x256_S1x256x128_0_1024_128) (k0_pay34 (F := Ideal) (kAll arg4 harg4 x1))) (vL c arg5 harg5 arg7 x2 1 inb_S2x2304x128_S1x2304x128_1_0_0))) (ix3 0 r l) = G T x2 ⟨1024 + r.1, by omega⟩ l := (pieceL c arg3 harg3 arg4 harg4 arg5 harg5 arg7 x0 x1 x2 T hT 1024 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨1024 + r.1, by omega⟩ l) ?_
      blk_ext
  · exact fast3 c arg3 harg3 arg4 harg4 arg5 harg5 arg7 x0 x1 x2 T hx0 hx1 hT

include hx0 hx1 hT in
/-- The first pass up to tile 5. -/
theorem fast5 : View.PiecesOf (GG x2 T) (bodyRun.sl.H3_6 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1280 0 inb_S1x2304x256_S1x256x128_0_1280_0) (kL arg4 harg4 x1 0 inb_S1x2304x256_S1x2304x128_0_0_0)) (fast (qL arg3 harg3 x0 1280 0 inb_S1x2304x256_S1x256x128_0_1280_0) (k0_pay33 (F := Ideal) (kAll arg4 harg4 x1))) (vL c arg5 harg5 arg7 x2 0 inb_S2x2304x128_S1x2304x128_0_0_0)) (atL (scL (qL arg3 harg3 x0 1280 128 inb_S1x2304x256_S1x256x128_0_1280_128) (kL arg4 harg4 x1 128 inb_S1x2304x256_S1x2304x128_0_0_128)) (fast (qL arg3 harg3 x0 1280 128 inb_S1x2304x256_S1x256x128_0_1280_128) (k0_pay34 (F := Ideal) (kAll arg4 harg4 x1))) (vL c arg5 harg5 arg7 x2 1 inb_S2x2304x128_S1x2304x128_1_0_0))) (ix3 0 r l) = G T x2 ⟨1280 + r.1, by omega⟩ l := (pieceL c arg3 harg3 arg4 harg4 arg5 harg5 arg7 x0 x1 x2 T hT 1280 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨1280 + r.1, by omega⟩ l) ?_
      blk_ext
  · exact fast4 c arg3 harg3 arg4 harg4 arg5 harg5 arg7 x0 x1 x2 T hx0 hx1 hT

include hx0 hx1 hT in
/-- The first pass up to tile 6. -/
theorem fast6 : View.PiecesOf (GG x2 T) (bodyRun.sl.H3_7 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1536 0 inb_S1x2304x256_S1x256x128_0_1536_0) (kL arg4 harg4 x1 0 inb_S1x2304x256_S1x2304x128_0_0_0)) (fast (qL arg3 harg3 x0 1536 0 inb_S1x2304x256_S1x256x128_0_1536_0) (k0_pay33 (F := Ideal) (kAll arg4 harg4 x1))) (vL c arg5 harg5 arg7 x2 0 inb_S2x2304x128_S1x2304x128_0_0_0)) (atL (scL (qL arg3 harg3 x0 1536 128 inb_S1x2304x256_S1x256x128_0_1536_128) (kL arg4 harg4 x1 128 inb_S1x2304x256_S1x2304x128_0_0_128)) (fast (qL arg3 harg3 x0 1536 128 inb_S1x2304x256_S1x256x128_0_1536_128) (k0_pay34 (F := Ideal) (kAll arg4 harg4 x1))) (vL c arg5 harg5 arg7 x2 1 inb_S2x2304x128_S1x2304x128_1_0_0))) (ix3 0 r l) = G T x2 ⟨1536 + r.1, by omega⟩ l := (pieceL c arg3 harg3 arg4 harg4 arg5 harg5 arg7 x0 x1 x2 T hT 1536 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨1536 + r.1, by omega⟩ l) ?_
      blk_ext
  · exact fast5 c arg3 harg3 arg4 harg4 arg5 harg5 arg7 x0 x1 x2 T hx0 hx1 hT

include hx0 hx1 hT in
/-- The first pass up to tile 7. -/
theorem fast7 : View.PiecesOf (GG x2 T) (bodyRun.sl.H3_8 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1792 0 inb_S1x2304x256_S1x256x128_0_1792_0) (kL arg4 harg4 x1 0 inb_S1x2304x256_S1x2304x128_0_0_0)) (fast (qL arg3 harg3 x0 1792 0 inb_S1x2304x256_S1x256x128_0_1792_0) (k0_pay33 (F := Ideal) (kAll arg4 harg4 x1))) (vL c arg5 harg5 arg7 x2 0 inb_S2x2304x128_S1x2304x128_0_0_0)) (atL (scL (qL arg3 harg3 x0 1792 128 inb_S1x2304x256_S1x256x128_0_1792_128) (kL arg4 harg4 x1 128 inb_S1x2304x256_S1x2304x128_0_0_128)) (fast (qL arg3 harg3 x0 1792 128 inb_S1x2304x256_S1x256x128_0_1792_128) (k0_pay34 (F := Ideal) (kAll arg4 harg4 x1))) (vL c arg5 harg5 arg7 x2 1 inb_S2x2304x128_S1x2304x128_1_0_0))) (ix3 0 r l) = G T x2 ⟨1792 + r.1, by omega⟩ l := (pieceL c arg3 harg3 arg4 harg4 arg5 harg5 arg7 x0 x1 x2 T hT 1792 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨1792 + r.1, by omega⟩ l) ?_
      blk_ext
  · exact fast6 c arg3 harg3 arg4 harg4 arg5 harg5 arg7 x0 x1 x2 T hx0 hx1 hT

include hx0 hx1 hT in
/-- The first pass up to tile 8. -/
theorem fast8 : View.PiecesOf (GG x2 T) (bodyRun.sl.H3_9 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 2048 0 inb_S1x2304x256_S1x256x128_0_2048_0) (kL arg4 harg4 x1 0 inb_S1x2304x256_S1x2304x128_0_0_0)) (fast (qL arg3 harg3 x0 2048 0 inb_S1x2304x256_S1x256x128_0_2048_0) (k0_pay33 (F := Ideal) (kAll arg4 harg4 x1))) (vL c arg5 harg5 arg7 x2 0 inb_S2x2304x128_S1x2304x128_0_0_0)) (atL (scL (qL arg3 harg3 x0 2048 128 inb_S1x2304x256_S1x256x128_0_2048_128) (kL arg4 harg4 x1 128 inb_S1x2304x256_S1x2304x128_0_0_128)) (fast (qL arg3 harg3 x0 2048 128 inb_S1x2304x256_S1x256x128_0_2048_128) (k0_pay34 (F := Ideal) (kAll arg4 harg4 x1))) (vL c arg5 harg5 arg7 x2 1 inb_S2x2304x128_S1x2304x128_1_0_0))) (ix3 0 r l) = G T x2 ⟨2048 + r.1, by omega⟩ l := (pieceL c arg3 harg3 arg4 harg4 arg5 harg5 arg7 x0 x1 x2 T hT 2048 (by decide) (by decide) _ _ _ _ (fun r => fast_real _ _ (fun y => qL_real arg3 harg3 x0 hx0 _ _ _ y) (pay33_real _ (kAll_real arg4 harg4 x1 hx1)) r) (fun r => fast_real _ _ (fun y => qL_real arg3 harg3 x0 hx0 _ _ _ y) (pay34_real _ (kAll_real arg4 harg4 x1 hx1)) r) r l)
    refine Eq.trans ?_ (e.trans ?_)
    · rfl
    · refine congrArg (GG x2 T) (a₁ := ix3 0 ⟨2048 + r.1, by omega⟩ l) ?_
      blk_ext
  · exact fast7 c arg3 harg3 arg4 harg4 arg5 harg5 arg7 x0 x1 x2 T hx0 hx1 hT

include hx0 hx1 hT in
/-- The second pass up to tile 0. -/
theorem slow0 : View.PiecesOf (GG x2 T) (bodyRun.sl.H3_10 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atC (scC (qL arg3 harg3 x0 0 0 inb_S1x2304x256_S1x256x128_0_0_0) (qL arg4 harg4 x1 0 0 inb_S1x2304x256_S1x256x128_0_0_0)) (slowC (scC (qL arg3 harg3 x0 0 0 inb_S1x2304x256_S1x256x128_0_0_0) (qL arg4 harg4 x1 0 0 inb_S1x2304x256_S1x256x128_0_0_0))) (vC c arg5 harg5 arg7 x2 0 inb_S2x2304x128_S1x256x128_0_0_0)) (atC (scC (qL arg3 harg3 x0 0 128 inb_S1x2304x256_S1x256x128_0_0_128) (qL arg4 harg4 x1 0 128 inb_S1x2304x256_S1x256x128_0_0_128)) (slowC (scC (qL arg3 harg3 x0 0 128 inb_S1x2304x256_S1x256x128_0_0_128) (qL arg4 harg4 x1 0 128 inb_S1x2304x256_S1x256x128_0_0_128))) (vC c arg5 harg5 arg7 x2 1 inb_S2x2304x128_S1x256x128_1_0_0))) (ix3 0 r l) = G T x2 ⟨r.1, by omega⟩ l := (pieceC c arg3 harg3 arg4 harg4 arg5 harg5 arg7 x0 x1 x2 T hT _ _ (fun r => slowC_real _ (scC_real _ _ (fun y => qL_real arg3 harg3 x0 hx0 _ _ _ y) (fun y => qL_real arg4 harg4 x1 hx1 _ _ _ y)) r) (fun r => slowC_real _ (scC_real _ _ (fun y => qL_real arg3 harg3 x0 hx0 _ _ _ y) (fun y => qL_real arg4 harg4 x1 hx1 _ _ _ y)) r) r l)
    refine Eq.trans ?_ (e.trans ?_)
    · rfl
    · refine congrArg (GG x2 T) (a₁ := ix3 0 ⟨r.1, by omega⟩ l) ?_
      blk_ext
  · exact fast8 c arg3 harg3 arg4 harg4 arg5 harg5 arg7 x0 x1 x2 T hx0 hx1 hT

include hx0 hx1 hT in
/-- The second pass up to tile 1. -/
theorem slow1 : View.PiecesOf (GG x2 T) (bodyRun.sl.H3_11 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 256 0 inb_S1x2304x256_S1x256x128_0_256_0) (kL arg4 harg4 x1 0 inb_S1x2304x256_S1x2304x128_0_0_0)) (slowL (scL (qL arg3 harg3 x0 256 0 inb_S1x2304x256_S1x256x128_0_256_0) (kL arg4 harg4 x1 0 inb_S1x2304x256_S1x2304x128_0_0_0))) (vL c arg5 harg5 arg7 x2 0 inb_S2x2304x128_S1x2304x128_0_0_0)) (atL (scL (qL arg3 harg3 x0 256 128 inb_S1x2304x256_S1x256x128_0_256_128) (kL arg4 harg4 x1 128 inb_S1x2304x256_S1x2304x128_0_0_128)) (slowL (scL (qL arg3 harg3 x0 256 128 inb_S1x2304x256_S1x256x128_0_256_128) (kL arg4 harg4 x1 128 inb_S1x2304x256_S1x2304x128_0_0_128))) (vL c arg5 harg5 arg7 x2 1 inb_S2x2304x128_S1x2304x128_1_0_0))) (ix3 0 r l) = G T x2 ⟨256 + r.1, by omega⟩ l := (pieceL c arg3 harg3 arg4 harg4 arg5 harg5 arg7 x0 x1 x2 T hT 256 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨256 + r.1, by omega⟩ l) ?_
      blk_ext
  · exact slow0 c arg3 harg3 arg4 harg4 arg5 harg5 arg7 x0 x1 x2 T hx0 hx1 hT

include hx0 hx1 hT in
/-- The second pass up to tile 2. -/
theorem slow2 : View.PiecesOf (GG x2 T) (bodyRun.sl.H3_12 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 512 0 inb_S1x2304x256_S1x256x128_0_512_0) (kL arg4 harg4 x1 0 inb_S1x2304x256_S1x2304x128_0_0_0)) (slowL (scL (qL arg3 harg3 x0 512 0 inb_S1x2304x256_S1x256x128_0_512_0) (kL arg4 harg4 x1 0 inb_S1x2304x256_S1x2304x128_0_0_0))) (vL c arg5 harg5 arg7 x2 0 inb_S2x2304x128_S1x2304x128_0_0_0)) (atL (scL (qL arg3 harg3 x0 512 128 inb_S1x2304x256_S1x256x128_0_512_128) (kL arg4 harg4 x1 128 inb_S1x2304x256_S1x2304x128_0_0_128)) (slowL (scL (qL arg3 harg3 x0 512 128 inb_S1x2304x256_S1x256x128_0_512_128) (kL arg4 harg4 x1 128 inb_S1x2304x256_S1x2304x128_0_0_128))) (vL c arg5 harg5 arg7 x2 1 inb_S2x2304x128_S1x2304x128_1_0_0))) (ix3 0 r l) = G T x2 ⟨512 + r.1, by omega⟩ l := (pieceL c arg3 harg3 arg4 harg4 arg5 harg5 arg7 x0 x1 x2 T hT 512 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨512 + r.1, by omega⟩ l) ?_
      blk_ext
  · exact slow1 c arg3 harg3 arg4 harg4 arg5 harg5 arg7 x0 x1 x2 T hx0 hx1 hT

include hx0 hx1 hT in
/-- The second pass up to tile 3. -/
theorem slow3 : View.PiecesOf (GG x2 T) (bodyRun.sl.H3_13 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 768 0 inb_S1x2304x256_S1x256x128_0_768_0) (kL arg4 harg4 x1 0 inb_S1x2304x256_S1x2304x128_0_0_0)) (slowL (scL (qL arg3 harg3 x0 768 0 inb_S1x2304x256_S1x256x128_0_768_0) (kL arg4 harg4 x1 0 inb_S1x2304x256_S1x2304x128_0_0_0))) (vL c arg5 harg5 arg7 x2 0 inb_S2x2304x128_S1x2304x128_0_0_0)) (atL (scL (qL arg3 harg3 x0 768 128 inb_S1x2304x256_S1x256x128_0_768_128) (kL arg4 harg4 x1 128 inb_S1x2304x256_S1x2304x128_0_0_128)) (slowL (scL (qL arg3 harg3 x0 768 128 inb_S1x2304x256_S1x256x128_0_768_128) (kL arg4 harg4 x1 128 inb_S1x2304x256_S1x2304x128_0_0_128))) (vL c arg5 harg5 arg7 x2 1 inb_S2x2304x128_S1x2304x128_1_0_0))) (ix3 0 r l) = G T x2 ⟨768 + r.1, by omega⟩ l := (pieceL c arg3 harg3 arg4 harg4 arg5 harg5 arg7 x0 x1 x2 T hT 768 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨768 + r.1, by omega⟩ l) ?_
      blk_ext
  · exact slow2 c arg3 harg3 arg4 harg4 arg5 harg5 arg7 x0 x1 x2 T hx0 hx1 hT

include hx0 hx1 hT in
/-- The second pass up to tile 4. -/
theorem slow4 : View.PiecesOf (GG x2 T) (bodyRun.sl.H3_14 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1024 0 inb_S1x2304x256_S1x256x128_0_1024_0) (kL arg4 harg4 x1 0 inb_S1x2304x256_S1x2304x128_0_0_0)) (slowL (scL (qL arg3 harg3 x0 1024 0 inb_S1x2304x256_S1x256x128_0_1024_0) (kL arg4 harg4 x1 0 inb_S1x2304x256_S1x2304x128_0_0_0))) (vL c arg5 harg5 arg7 x2 0 inb_S2x2304x128_S1x2304x128_0_0_0)) (atL (scL (qL arg3 harg3 x0 1024 128 inb_S1x2304x256_S1x256x128_0_1024_128) (kL arg4 harg4 x1 128 inb_S1x2304x256_S1x2304x128_0_0_128)) (slowL (scL (qL arg3 harg3 x0 1024 128 inb_S1x2304x256_S1x256x128_0_1024_128) (kL arg4 harg4 x1 128 inb_S1x2304x256_S1x2304x128_0_0_128))) (vL c arg5 harg5 arg7 x2 1 inb_S2x2304x128_S1x2304x128_1_0_0))) (ix3 0 r l) = G T x2 ⟨1024 + r.1, by omega⟩ l := (pieceL c arg3 harg3 arg4 harg4 arg5 harg5 arg7 x0 x1 x2 T hT 1024 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨1024 + r.1, by omega⟩ l) ?_
      blk_ext
  · exact slow3 c arg3 harg3 arg4 harg4 arg5 harg5 arg7 x0 x1 x2 T hx0 hx1 hT

include hx0 hx1 hT in
/-- The second pass up to tile 5. -/
theorem slow5 : View.PiecesOf (GG x2 T) (bodyRun.sl.H3_15 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1280 0 inb_S1x2304x256_S1x256x128_0_1280_0) (kL arg4 harg4 x1 0 inb_S1x2304x256_S1x2304x128_0_0_0)) (slowL (scL (qL arg3 harg3 x0 1280 0 inb_S1x2304x256_S1x256x128_0_1280_0) (kL arg4 harg4 x1 0 inb_S1x2304x256_S1x2304x128_0_0_0))) (vL c arg5 harg5 arg7 x2 0 inb_S2x2304x128_S1x2304x128_0_0_0)) (atL (scL (qL arg3 harg3 x0 1280 128 inb_S1x2304x256_S1x256x128_0_1280_128) (kL arg4 harg4 x1 128 inb_S1x2304x256_S1x2304x128_0_0_128)) (slowL (scL (qL arg3 harg3 x0 1280 128 inb_S1x2304x256_S1x256x128_0_1280_128) (kL arg4 harg4 x1 128 inb_S1x2304x256_S1x2304x128_0_0_128))) (vL c arg5 harg5 arg7 x2 1 inb_S2x2304x128_S1x2304x128_1_0_0))) (ix3 0 r l) = G T x2 ⟨1280 + r.1, by omega⟩ l := (pieceL c arg3 harg3 arg4 harg4 arg5 harg5 arg7 x0 x1 x2 T hT 1280 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨1280 + r.1, by omega⟩ l) ?_
      blk_ext
  · exact slow4 c arg3 harg3 arg4 harg4 arg5 harg5 arg7 x0 x1 x2 T hx0 hx1 hT

include hx0 hx1 hT in
/-- The second pass up to tile 6. -/
theorem slow6 : View.PiecesOf (GG x2 T) (bodyRun.sl.H3_16 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1536 0 inb_S1x2304x256_S1x256x128_0_1536_0) (kL arg4 harg4 x1 0 inb_S1x2304x256_S1x2304x128_0_0_0)) (slowL (scL (qL arg3 harg3 x0 1536 0 inb_S1x2304x256_S1x256x128_0_1536_0) (kL arg4 harg4 x1 0 inb_S1x2304x256_S1x2304x128_0_0_0))) (vL c arg5 harg5 arg7 x2 0 inb_S2x2304x128_S1x2304x128_0_0_0)) (atL (scL (qL arg3 harg3 x0 1536 128 inb_S1x2304x256_S1x256x128_0_1536_128) (kL arg4 harg4 x1 128 inb_S1x2304x256_S1x2304x128_0_0_128)) (slowL (scL (qL arg3 harg3 x0 1536 128 inb_S1x2304x256_S1x256x128_0_1536_128) (kL arg4 harg4 x1 128 inb_S1x2304x256_S1x2304x128_0_0_128))) (vL c arg5 harg5 arg7 x2 1 inb_S2x2304x128_S1x2304x128_1_0_0))) (ix3 0 r l) = G T x2 ⟨1536 + r.1, by omega⟩ l := (pieceL c arg3 harg3 arg4 harg4 arg5 harg5 arg7 x0 x1 x2 T hT 1536 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨1536 + r.1, by omega⟩ l) ?_
      blk_ext
  · exact slow5 c arg3 harg3 arg4 harg4 arg5 harg5 arg7 x0 x1 x2 T hx0 hx1 hT

include hx0 hx1 hT in
/-- The second pass up to tile 7. -/
theorem slow7 : View.PiecesOf (GG x2 T) (bodyRun.sl.H3_17 c arg3 harg3 arg4 harg4 arg5 harg5 arg7 x0 x1 x2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 1792 0 inb_S1x2304x256_S1x256x128_0_1792_0) (kL arg4 harg4 x1 0 inb_S1x2304x256_S1x2304x128_0_0_0)) (slowL (scL (qL arg3 harg3 x0 1792 0 inb_S1x2304x256_S1x256x128_0_1792_0) (kL arg4 harg4 x1 0 inb_S1x2304x256_S1x2304x128_0_0_0))) (vL c arg5 harg5 arg7 x2 0 inb_S2x2304x128_S1x2304x128_0_0_0)) (atL (scL (qL arg3 harg3 x0 1792 128 inb_S1x2304x256_S1x256x128_0_1792_128) (kL arg4 harg4 x1 128 inb_S1x2304x256_S1x2304x128_0_0_128)) (slowL (scL (qL arg3 harg3 x0 1792 128 inb_S1x2304x256_S1x256x128_0_1792_128) (kL arg4 harg4 x1 128 inb_S1x2304x256_S1x2304x128_0_0_128))) (vL c arg5 harg5 arg7 x2 1 inb_S2x2304x128_S1x2304x128_1_0_0))) (ix3 0 r l) = G T x2 ⟨1792 + r.1, by omega⟩ l := (pieceL c arg3 harg3 arg4 harg4 arg5 harg5 arg7 x0 x1 x2 T hT 1792 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨1792 + r.1, by omega⟩ l) ?_
      blk_ext
  · exact slow6 c arg3 harg3 arg4 harg4 arg5 harg5 arg7 x0 x1 x2 T hx0 hx1 hT

include hx0 hx1 hT in
/-- The second pass up to tile 8. -/
theorem slow8 : View.PiecesOf (GG x2 T) ((bodyRun c i arg3 harg3 arg4 harg4 arg5 harg5 arg6 harg6 arg7 harg7 h1 h2 x0 x1 x2).1.1.2) := by
  refine ⟨fun (x : S1x256x128.Idx) => ?_, ?_⟩
  · obtain ⟨r, l, rfl⟩ : ∃ (r : Fin 256) (l : Fin 128), x = ix3 0 r l := ⟨x 1, x 2, by blk_ext⟩
    have e : (joinH (atL (scL (qL arg3 harg3 x0 2048 0 inb_S1x2304x256_S1x256x128_0_2048_0) (kL arg4 harg4 x1 0 inb_S1x2304x256_S1x2304x128_0_0_0)) (slowL (scL (qL arg3 harg3 x0 2048 0 inb_S1x2304x256_S1x256x128_0_2048_0) (kL arg4 harg4 x1 0 inb_S1x2304x256_S1x2304x128_0_0_0))) (vL c arg5 harg5 arg7 x2 0 inb_S2x2304x128_S1x2304x128_0_0_0)) (atL (scL (qL arg3 harg3 x0 2048 128 inb_S1x2304x256_S1x256x128_0_2048_128) (kL arg4 harg4 x1 128 inb_S1x2304x256_S1x2304x128_0_0_128)) (slowL (scL (qL arg3 harg3 x0 2048 128 inb_S1x2304x256_S1x256x128_0_2048_128) (kL arg4 harg4 x1 128 inb_S1x2304x256_S1x2304x128_0_0_128))) (vL c arg5 harg5 arg7 x2 1 inb_S2x2304x128_S1x2304x128_1_0_0))) (ix3 0 r l) = G T x2 ⟨2048 + r.1, by omega⟩ l := (pieceL c arg3 harg3 arg4 harg4 arg5 harg5 arg7 x0 x1 x2 T hT 2048 (by decide) (by decide) _ _ _ _ (fun r => slowL_real _ (scL_real _ _ (fun y => qL_real arg3 harg3 x0 hx0 _ _ _ y) (fun y => kL_real arg4 harg4 x1 hx1 _ _ y)) r) (fun r => slowL_real _ (scL_real _ _ (fun y => qL_real arg3 harg3 x0 hx0 _ _ _ y) (fun y => kL_real arg4 harg4 x1 hx1 _ _ y)) r) r l)
    refine Eq.trans ?_ (e.trans ?_)
    · rfl
    · refine congrArg (GG x2 T) (a₁ := ix3 0 ⟨2048 + r.1, by omega⟩ l) ?_
      blk_ext
  · exact slow7 c arg3 harg3 arg4 harg4 arg5 harg5 arg7 x0 x1 x2 T hx0 hx1 hT

include hx0 hx1 hT in
/-- The output block, whichever pass it ends with. -/
theorem outOf_eq (r : Fin 2304) (l : Fin 128) :
    outOf c i arg3 harg3 arg4 harg4 arg5 harg5 arg6 harg6 arg7 harg7 h1 h2 x0 x1 x2 (ix3 0 r l) = G T x2 r l := by
  unfold outOf
  split
  · have h := View.canon_append_of_piecesOf (GG x2 T) [] _ (slow8 c i arg3 harg3 arg4 harg4 arg5 harg5 arg6 harg6 arg7 harg7 h1 h2 x0 x1 x2 T hx0 hx1 hT) (ix3 0 r l)
      (cover_slow c i arg3 harg3 arg4 harg4 arg5 harg5 arg6 harg6 arg7 harg7 h1 h2 x0 x1 x2 _)
    rw [List.append_nil] at h
    exact h
  · have h := View.canon_append_of_piecesOf (GG x2 T) [] _ (fast8 c arg3 harg3 arg4 harg4 arg5 harg5 arg7 x0 x1 x2 T hx0 hx1 hT) (ix3 0 r l)
      (cover_fast c i arg3 harg3 arg4 harg4 arg5 harg5 arg6 harg6 arg7 harg7 h1 h2 x0 x1 x2 _)
    rw [List.append_nil] at h
    exact h

end Pieces

end Cert.AttnIdeal.Hand

end
-- ==== Proof.AttnHost.lean ====
/-
What the attention's windows read: the scaled and padded queries, the padded keys and the values, as functions of the
arguments; where the windows stand at every grid point.
-/
module

public import proofs.«01_k».proof.Proof.AttnPieces
public import proofs.«01_k».proof.Proof.AttnFrame
public import Idealize.ShloMosaic.Lib.Claim
public import Idealize.ShloMosaic.Lib.StableHlo.RunRead

@[expose] public section

set_option maxRecDepth 16384

noncomputable section

namespace Cert.AttnIdeal.Hand

open Idealize.ShloMosaic Idealize.ShloMosaic.Pointwise Cert.AttnIdeal Cert.AttnIdeal.Gen Cert.AttnMath Idealize.ShloMosaic.TcCoe Idealize.SL.Sem

/-- The queries' factor. -/
abbrev qscale : EReal := Ideal.div 1 (Ideal.sqrt (Ideal.ofBits FTy.f32 1119879168#32) * Ideal.log (Ideal.ofBits FTy.f32 1073741824#32))

/-- Ninety-six lanes a head padded by zeros to 128, the heads side by side. -/
def lanes (x : FVec Ideal S32x2304x8x96 .f32) : FVec Ideal S32x2304x1024 .bf16 :=
  truncf .bf16 (shapeCast S32x2304x1024 (pad S32x2304x8x128 ![0, 0, 0, 0] ![0, 0, 0, 32] ![0, 0, 0, 0] x (sitofp (F := Ideal) .f32 (constantI S_ 32 0#32)) pads_S32x2304x8x96_S32x2304x8x128_000_000_000_0320 h_S_) shapeCasts_S32x2304x8x128_S32x2304x1024) bitsLt_bf16_f32

/-- The two parts of a row joined, as one name. -/
def cat (a : FVec Ideal S32x2304x8x64 .f32) (b : FVec Ideal S32x2304x8x32 .f32) : FVec Ideal S32x2304x8x96 .f32 :=
  concatenate S32x2304x8x96 3 [⟨S32x2304x8x64, a⟩, ⟨S32x2304x8x32, b⟩] concatenates_S32x2304x8x64_S32x2304x8x32_S32x2304x8x96_d3

/-- The join under its name. -/
theorem cat_eq (a : FVec Ideal S32x2304x8x64 .f32) (b : FVec Ideal S32x2304x8x32 .f32) :
    concatenate S32x2304x8x96 3 [⟨S32x2304x8x64, a⟩, ⟨S32x2304x8x32, b⟩] concatenates_S32x2304x8x64_S32x2304x8x32_S32x2304x8x96_d3 = cat a b := rfl

/-- The queries: both parts of a row, times the factor. -/
def qHost (a0 : FVec Ideal S32x2304x8x64 .f32) (a1 : FVec Ideal S32x2304x8x32 .f32) : FVec Ideal S32x2304x8x96 .f32 :=
  mulf (cat a0 a1)
    (broadcastInDim S32x2304x8x96 ![] bcast_S_S32x2304x8x96 (Host.divf (constant S_ .f32 0x3F800000#32) (mulf (Host.sqrt (constant S_ .f32 0x42C00000#32)) (Host.log (constant S_ .f32 0x40000000#32)))))

/-- The keys: both parts of a row. -/
def kHost (a2 : FVec Ideal S32x2304x8x64 .f32) (a3 : FVec Ideal S32x2304x32 .f32) : FVec Ideal S32x2304x8x96 .f32 :=
  cat a2 (broadcastInDim S32x2304x8x32 ![0, 1, 2, 3] bcast_S32x2304x1x32_S32x2304x8x32_0_1_2_3 (broadcastInDim S32x2304x1x32 ![0, 1, 3] bcast_S32x2304x32_S32x2304x1x32_0_1_3 a3))

/-- The values, the heads side by side. -/
def vHost (a4 : FVec Ideal S32x2304x8x64 .f32) : FVec Ideal S32x2304x512 .bf16 :=
  truncf .bf16 (shapeCast S32x2304x512 a4 shapeCasts_S32x2304x8x64_S32x2304x512) bitsLt_bf16_f32

/-- A lane of the padded rows that holds a value. -/
theorem lanes_at (x : FVec Ideal S32x2304x8x96 .f32) (b : Fin 32) (i : Fin 2304) (h : Fin 8) (e : Fin 96) :
    lanes x (ix3 b i ⟨128 * h.1 + e.1, by omega⟩) = x (ix4 b i h e) := by
  have hm : (128 * h.1 + e.1) % 128 = e.1 := by omega
  pointwise [lanes]
  simp only [hm]
  rw [dif_pos e.2]

/-- A lane of the padding. -/
theorem lanes_pad (x : FVec Ideal S32x2304x8x96 .f32) (b : Fin 32) (i : Fin 2304) (h : Fin 8) (e : Fin 32) :
    lanes x (ix3 b i ⟨128 * h.1 + (96 + e.1), by omega⟩) = 0 := by
  pointwise [lanes]
  simp [FloatOps.sitofp]
  intro h
  omega

/-- The queries' first lanes. -/
theorem qHost_nope (a0 : FVec Ideal S32x2304x8x64 .f32) (a1 : FVec Ideal S32x2304x8x32 .f32) (b : Fin 32) (i : Fin 2304) (h : Fin 8) (e : Fin 64) :
    qHost a0 a1 (ix4 b i h ⟨e.1, by omega⟩) = a0 (ix4 b i h e) * qscale := by
  pointwise! [qHost, cat, qscale]

/-- The queries' last lanes. -/
theorem qHost_rope (a0 : FVec Ideal S32x2304x8x64 .f32) (a1 : FVec Ideal S32x2304x8x32 .f32) (b : Fin 32) (i : Fin 2304) (h : Fin 8) (e : Fin 32) :
    qHost a0 a1 (ix4 b i h ⟨64 + e.1, by omega⟩) = a1 (ix4 b i h e) * qscale := by
  pointwise! [qHost, cat, qscale]

/-- The keys' first lanes. -/
theorem kHost_nope (a2 : FVec Ideal S32x2304x8x64 .f32) (a3 : FVec Ideal S32x2304x32 .f32) (b : Fin 32) (i : Fin 2304) (h : Fin 8) (e : Fin 64) :
    kHost a2 a3 (ix4 b i h ⟨e.1, by omega⟩) = a2 (ix4 b i h e) := by
  pointwise! [kHost, cat]

/-- The keys' last lanes. -/
theorem kHost_rope (a2 : FVec Ideal S32x2304x8x64 .f32) (a3 : FVec Ideal S32x2304x32 .f32) (b : Fin 32) (i : Fin 2304) (h : Fin 8) (e : Fin 32) :
    kHost a2 a3 (ix4 b i h ⟨64 + e.1, by omega⟩) = a3 (ix3 b i e) := by
  pointwise! [kHost, cat]

/-- The values at an index. -/
theorem vHost_at (a4 : FVec Ideal S32x2304x8x64 .f32) (b : Fin 32) (i : Fin 2304) (h : Fin 8) (d : Fin 64) :
    vHost a4 (ix3 b i ⟨64 * h.1 + d.1, by omega⟩) = a4 (ix4 b i h d) := by
  pointwise! [vHost]

/-- Where the windows stand: point `t` is head pair `t % 4` of sequence `t / 4`. -/
theorem idx_all : ∀ t : Fin cfg0.N, (win0_0.index t = ![t.val / 4, 0, t.val % 4] ∧ win0_1.index t = ![t.val / 4, 0, t.val % 4]
      ∧ win0_2.index t = ![t.val / 4, 0, t.val % 4] ∧ win0_3.index t = ![t.val / 4, 0, t.val % 4]) :=
  (by decide +kernel : ∀ t : Fin grid0.N, _)

/-- The blocks written back cover the result. -/
theorem covers3 : (cfg0.win 3).Covers := by decide +kernel

variable (m : (ℓ : Loc nD τ sig) → Buf (Elt Ideal) ℓ)

/-- The array of window 0. -/
theorem V_q (c : Dev nD) : V m c main_v9 = lanes (qHost (m ((c : Thread nD τ).loc main_arg0)) (m ((c : Thread nD τ).loc main_arg1))) := by
  show StableHlo.after (List.flatten [hostOps0, hostOps0_1, hostOps0_2, hostOps0_3, hostOps0_4]) (fun b => m (c, b)) (Proc.devRef .tc main_v9) = _
  simp only [hostOps0, hostOps0_1, hostOps0_2, hostOps0_3, hostOps0_4, List.flatten_cons, List.flatten_nil, List.append_nil, List.cons_append, List.nil_append]
  simp only [cat_eq]
  after_results_simp
  try simp -implicitDefEqProofs only [StableHlo.TRef.toBuf, StableHlo.TRef.ofBuf, cast_cast, cast_eq]
  rfl

/-- The array of window 1. -/
theorem V_k (c : Dev nD) : V m c main_v15 = lanes (kHost (m ((c : Thread nD τ).loc main_arg2)) (m ((c : Thread nD τ).loc main_arg3))) := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append]
  simp only [cat_eq]
  after_results_simp
  try simp -implicitDefEqProofs only [StableHlo.TRef.toBuf, StableHlo.TRef.ofBuf, cast_cast, cast_eq]
  rfl

/-- The array of window 2. -/
theorem V_v (c : Dev nD) : V m c main_v17 = vHost (m ((c : Thread nD τ).loc main_arg4)) := by
  show StableHlo.after (List.flatten [hostOps0, hostOps0_1, hostOps0_2, hostOps0_3, hostOps0_4]) (fun b => m (c, b)) (Proc.devRef .tc main_v17) = _
  simp only [hostOps0, hostOps0_1, hostOps0_2, hostOps0_3, hostOps0_4, List.flatten_cons, List.flatten_nil, List.append_nil, List.cons_append, List.nil_append]
  simp only [cat_eq]
  after_results_simp
  try simp -implicitDefEqProofs only [StableHlo.TRef.toBuf, StableHlo.TRef.ofBuf, cast_cast, cast_eq]
  rfl

/-- Window 0's block at a point: two heads' lanes of one sequence. -/
theorem blk0 (t : Fin cfg0.N) (W : FVec Ideal S32x2304x1024 .bf16) (b : Fin 32) (hb : b.val = t.val / 4) (p : Fin 4) (hp : p.val = t.val % 4) (i : Fin 2304) (l : Fin 256) :
    (show FVec Ideal S1x2304x256 .bf16 from ((cfg0.win 0).blk t).view.read (Elt Ideal) W) (ix3 0 i l) = W (ix3 b i ⟨256 * p.1 + l.1, by omega⟩) := by
  have e := (idx_all t).1
  blk_ext [e]

/-- Window 1's block at a point: two heads' lanes of one sequence. -/
theorem blk1 (t : Fin cfg0.N) (W : FVec Ideal S32x2304x1024 .bf16) (b : Fin 32) (hb : b.val = t.val / 4) (p : Fin 4) (hp : p.val = t.val % 4) (i : Fin 2304) (l : Fin 256) :
    (show FVec Ideal S1x2304x256 .bf16 from ((cfg0.win 1).blk t).view.read (Elt Ideal) W) (ix3 0 i l) = W (ix3 b i ⟨256 * p.1 + l.1, by omega⟩) := by
  have e := (idx_all t).2.1
  blk_ext [e]

/-- Window 2's block at a point: two heads' lanes of one sequence. -/
theorem blk2 (t : Fin cfg0.N) (W : FVec Ideal S32x2304x512 .bf16) (b : Fin 32) (hb : b.val = t.val / 4) (p : Fin 4) (hp : p.val = t.val % 4) (i : Fin 2304) (l : Fin 128) :
    (show FVec Ideal S1x2304x128 .bf16 from ((cfg0.win 2).blk t).view.read (Elt Ideal) W) (ix3 0 i l) = W (ix3 b i ⟨128 * p.1 + l.1, by omega⟩) := by
  have e := (idx_all t).2.2.1
  blk_ext [e]

/-- Window 0 read at an index. -/
theorem read0 (c : Dev nD) (t : Fin cfg0.N) (b : Fin 32) (hb : b.val = t.val / 4) (p : Fin 4) (hp : p.val = t.val % 4) (i : Fin 2304) (l : Fin 256) :
    (show FVec Ideal S1x2304x256 .bf16 from iblk m c 0 t) (ix3 0 i l) = lanes (qHost (m ((c : Thread nD τ).loc main_arg0)) (m ((c : Thread nD τ).loc main_arg1))) (ix3 b i ⟨256 * p.1 + l.1, by omega⟩) := by
  have h : iblk m c 0 t = ((cfg0.win 0).blk t).view.read (Elt Ideal) (show Buf (Elt Ideal) ((c : Thread nD τ).loc main_v9) from lanes (qHost (m ((c : Thread nD τ).loc main_arg0)) (m ((c : Thread nD τ).loc main_arg1)))) :=
    congrArg (fun W => ((cfg0.win 0).blk t).view.read (Elt Ideal) W) (V_q m c)
  exact (congrFun h (ix3 0 i l)).trans (blk0 t _ b hb p hp i l)

/-- Window 1 read at an index. -/
theorem read1 (c : Dev nD) (t : Fin cfg0.N) (b : Fin 32) (hb : b.val = t.val / 4) (p : Fin 4) (hp : p.val = t.val % 4) (i : Fin 2304) (l : Fin 256) :
    (show FVec Ideal S1x2304x256 .bf16 from iblk m c 1 t) (ix3 0 i l) = lanes (kHost (m ((c : Thread nD τ).loc main_arg2)) (m ((c : Thread nD τ).loc main_arg3))) (ix3 b i ⟨256 * p.1 + l.1, by omega⟩) := by
  have h : iblk m c 1 t = ((cfg0.win 1).blk t).view.read (Elt Ideal) (show Buf (Elt Ideal) ((c : Thread nD τ).loc main_v15) from lanes (kHost (m ((c : Thread nD τ).loc main_arg2)) (m ((c : Thread nD τ).loc main_arg3)))) :=
    congrArg (fun W => ((cfg0.win 1).blk t).view.read (Elt Ideal) W) (V_k m c)
  exact (congrFun h (ix3 0 i l)).trans (blk1 t _ b hb p hp i l)

/-- Window 2 read at an index. -/
theorem read2 (c : Dev nD) (t : Fin cfg0.N) (b : Fin 32) (hb : b.val = t.val / 4) (p : Fin 4) (hp : p.val = t.val % 4) (i : Fin 2304) (l : Fin 128) :
    (show FVec Ideal S1x2304x128 .bf16 from iblk m c 2 t) (ix3 0 i l) = vHost (m ((c : Thread nD τ).loc main_arg4)) (ix3 b i ⟨128 * p.1 + l.1, by omega⟩) := by
  have h : iblk m c 2 t = ((cfg0.win 2).blk t).view.read (Elt Ideal) (show Buf (Elt Ideal) ((c : Thread nD τ).loc main_v17) from vHost (m ((c : Thread nD τ).loc main_arg4))) :=
    congrArg (fun W => ((cfg0.win 2).blk t).view.read (Elt Ideal) W) (V_v m c)
  exact (congrFun h (ix3 0 i l)).trans (blk2 t _ b hb p hp i l)

end Cert.AttnIdeal.Hand

end
-- ==== Proof.AttnScore.lean ====
/-
The scores over real queries and keys: the reference's scaled score is a real number, and the call's score, in units
of powers of two, is the same number over the logarithm of two.
-/
module

public import proofs.«01_k».proof.Proof.AttnRefAt
public import proofs.«01_k».proof.Proof.AttnHost

@[expose] public section

set_option maxRecDepth 16384

noncomputable section

namespace Cert.AttnIdeal.Hand

open Idealize.ShloMosaic Idealize.ShloMosaic.Pointwise Cert.AttnIdeal Cert.AttnMath
open Cert.AttnRefIdeal.Hand (scale score)

/-- The number 96. -/
theorem n96 : Ideal.ofBits FTy.f32 1119879168#32 = ((96 : ℝ) : EReal) := by
  simp [Ideal.ofBits, Ideal.ieee, -EReal.coe_mul]; norm_num

/-- The number 2. -/
theorem n2 : Ideal.ofBits FTy.f32 1073741824#32 = ((2 : ℝ) : EReal) := by
  simp [Ideal.ofBits, Ideal.ieee, -EReal.coe_mul]; norm_num

/-- The root of 96. -/
theorem sqrt96 : Ideal.sqrt (Ideal.ofBits FTy.f32 1119879168#32) = ((Real.sqrt 96 : ℝ) : EReal) := by
  rw [n96, Ideal.sqrt_coe, if_neg (by norm_num)]

/-- The logarithm of 2. -/
theorem log2 : Ideal.log (Ideal.ofBits FTy.f32 1073741824#32) = ((Real.log 2 : ℝ) : EReal) := by
  rw [n2, Ideal.log_coe, if_neg (by norm_num)]

/-- The square root of 96 is positive. -/
theorem sqrt96_pos : 0 < Real.sqrt 96 := Real.sqrt_pos.2 (by norm_num)
/-- So is the logarithm of two. -/
theorem log2_pos : 0 < Real.log 2 := Real.log_pos (by norm_num)

/-- The reference's scale is a real number. -/
theorem scale_real : scale = (((Real.sqrt 96)⁻¹ : ℝ) : EReal) := by
  unfold scale
  rw [sqrt96, div_coe_pos _ _ sqrt96_pos, one_mul]

/-- The queries' factor is a real number. -/
theorem qscale_real : qscale = (((Real.sqrt 96 * Real.log 2)⁻¹ : ℝ) : EReal) := by
  unfold qscale
  rw [sqrt96, log2, ← EReal.coe_mul, div_coe_pos _ _ (mul_pos sqrt96_pos log2_pos), one_mul]

/-- A sum over 128 lanes: the first 64, the next 32, the last 32. -/
theorem sum_lanes (f : Fin 128 → EReal) : (∑ e, f e) = ((∑ d : Fin 64, f ⟨d.1, by omega⟩) + ∑ r : Fin 32, f ⟨64 + r.1, by omega⟩) + ∑ s : Fin 32, f ⟨96 + s.1, by omega⟩ :=
  (Fin.sum_univ_add (a := 96) (b := 32) f).trans (congrArg (· + _) (Fin.sum_univ_add (a := 64) (b := 32) _))

variable (r0 : S32x2304x8x64.Idx → ℝ) (r1 : S32x2304x8x32.Idx → ℝ) (r2 : S32x2304x8x64.Idx → ℝ) (r3 : S32x2304x32.Idx → ℝ)

/-- The score as a real number. -/
def realScore (b : Fin 32) (g : Fin 8) (i j : Fin 2304) : ℝ :=
  ((∑ d : Fin 64, r0 (ix4 b i g d) * r2 (ix4 b j g d)) + ∑ r : Fin 32, r3 (ix3 b j r) * r1 (ix4 b i g r)) * (Real.sqrt 96)⁻¹

variable (a0 : FVec Ideal S32x2304x8x64 .f32) (a1 : FVec Ideal S32x2304x8x32 .f32) (a2 : FVec Ideal S32x2304x8x64 .f32) (a3 : FVec Ideal S32x2304x32 .f32)
  (h0 : ∀ k, a0 k = (r0 k : EReal)) (h1 : ∀ k, a1 k = (r1 k : EReal)) (h2 : ∀ k, a2 k = (r2 k : EReal)) (h3 : ∀ k, a3 k = (r3 k : EReal))

include h0 h1 h2 h3

/-- The reference's score is that number. -/
theorem score_real (b : Fin 32) (g : Fin 8) (i j : Fin 2304) : score a0 a1 a2 a3 b g i j = (realScore r0 r1 r2 r3 b g i j : EReal) := by
  unfold score realScore
  rw [scale_real]
  simp only [h0, h1, h2, h3, ← EReal.coe_mul]
  rw [sum_coe, sum_coe, ← EReal.coe_add, ← EReal.coe_mul]

/-- The call's score is that number over the logarithm of two. -/
theorem score_call (b : Fin 32) (g : Fin 8) (i j : Fin 2304) (f : Fin 128 → EReal)
    (hn : ∀ d : Fin 64, f ⟨d.1, by omega⟩ = a0 (ix4 b i g d) * qscale * a2 (ix4 b j g d))
    (hr : ∀ r : Fin 32, f ⟨64 + r.1, by omega⟩ = a1 (ix4 b i g r) * qscale * a3 (ix3 b j r))
    (hz : ∀ s : Fin 32, f ⟨96 + s.1, by omega⟩ = 0) :
    (∑ e, f e) = ((realScore r0 r1 r2 r3 b g i j / Real.log 2 : ℝ) : EReal) := by
  rw [sum_lanes f]
  simp only [hn, hr, hz, Finset.sum_const_zero, add_zero]
  rw [qscale_real]
  simp only [h0, h1, h2, h3, ← EReal.coe_mul]
  rw [sum_coe, sum_coe, ← EReal.coe_add]
  congr 1
  unfold realScore
  rw [mul_inv, add_mul, add_div, Finset.sum_mul, Finset.sum_mul, Finset.sum_div, Finset.sum_div]
  congr 1
  · exact Finset.sum_congr rfl fun d _ => by ring
  · exact Finset.sum_congr rfl fun d _ => by ring

end Cert.AttnIdeal.Hand

end
-- ==== Proof.AttnMax.lean ====
/-
The greatest score of a row is a real number when the scores are.
-/
module

public import proofs.«01_k».proof.Proof.AttnRef
public import proofs.«01_k».proof.Proof.AttnFold

@[expose] public section

set_option maxRecDepth 16384

noncomputable section

namespace Cert.AttnRefIdeal.Hand

open Idealize.ShloMosaic Idealize.ShloMosaic.Pointwise Cert.AttnRefIdeal Cert.AttnRefIdeal.Gen Cert.AttnMath

/-- The maximum of two arrays at an index. -/
theorem maximumf_at {s : Shape} (x y : FVec Ideal s .f32) (k : s.Idx) : maximumf x y k = max (x k) (y k) := rfl

/-- The larger of −∞ and a real number is real. -/
theorem max_real (x y : EReal) (hx : x = ⊥) (hy : IsReal y) : IsReal (max x y) := by
  rw [hx, max_eq_right bot_le]; exact hy

/-- The greatest score of a context row is real. -/
theorem mC_real (t : FVec Ideal S32x8x256x256 .f32) (ht : ∀ k, IsReal (t k)) (b : Fin 32) (h : Fin 8) (i : Fin 256) :
    IsReal (mC t (ix3 b h i)) := by
  rw [mC, maximumf_at]
  refine max_real _ _ ninf ?_
  refine reduce_real t _ _ _ _ ninf ht (ix4 b h i 0) ?_
  refine funext fun a => Fin.ext ?_
  fin_cases a <;> rfl

/-- The greatest score of a latent row is real. -/
theorem mL_real (t : FVec Ideal S32x8x2048x2304 .f32) (ht : ∀ k, IsReal (t k)) (b : Fin 32) (h : Fin 8) (i : Fin 2048) :
    IsReal (mL t (ix3 b h i)) := by
  rw [mL, maximumf_at]
  refine max_real _ _ ninf ?_
  refine reduce_real t _ _ _ _ ninf ht (ix4 b h i 0) ?_
  refine funext fun a => Fin.ext ?_
  fin_cases a <;> rfl

end Cert.AttnRefIdeal.Hand

end
-- ==== Proof.AttnRefValue.lean ====
/-
The attention's reference over real queries and keys: every entry is a softmax average of the values, over the
context's keys for the context rows and over all keys for the others.
-/
module

public import proofs.«01_k».proof.Proof.AttnScore
public import proofs.«01_k».proof.Proof.AttnMax

@[expose] public section

set_option maxRecDepth 16384

noncomputable section

namespace Cert.AttnIdeal.Hand

open Idealize.ShloMosaic Idealize.ShloMosaic.Pointwise Cert.AttnIdeal Cert.AttnMath
open Cert.AttnRefIdeal.Hand

/-- The softmax average does not change with the shift of the scores. -/
theorem soft_shift {n : ℕ} [NeZero n] (T : Fin n → ℝ) (t : Fin n → EReal) (ht : ∀ j, t j = T j) (g : EReal) (hg : IsReal g) (v : Fin n → EReal) :
    (∑ j, v j * Ideal.div (Ideal.exp (t j - g)) (∑ j, Ideal.exp (t j - g))) = soft T v := by
  unfold soft
  rw [← row (fun j => ((T j / Real.log 2 : ℝ) : EReal)) t T ht (fun _ => rfl) 0 g IsReal.zero hg v (fun _ => 1) (fun _ => rfl),
    ← row (fun j => ((T j / Real.log 2 : ℝ) : EReal)) (fun j => (T j : EReal)) T (fun _ => rfl) (fun _ => rfl) 0 0 IsReal.zero IsReal.zero v (fun _ => 1) (fun _ => rfl)]

variable (r0 : S32x2304x8x64.Idx → ℝ) (r1 : S32x2304x8x32.Idx → ℝ) (r2 : S32x2304x8x64.Idx → ℝ) (r3 : S32x2304x32.Idx → ℝ)
  (a0 : FVec Ideal S32x2304x8x64 .f32) (a1 : FVec Ideal S32x2304x8x32 .f32) (a2 : FVec Ideal S32x2304x8x64 .f32) (a3 : FVec Ideal S32x2304x32 .f32) (a4 : FVec Ideal S32x2304x8x64 .f32)
  (h0 : ∀ k, a0 k = (r0 k : EReal)) (h1 : ∀ k, a1 k = (r1 k : EReal)) (h2 : ∀ k, a2 k = (r2 k : EReal)) (h3 : ∀ k, a3 k = (r3 k : EReal))

include h0 h1 h2 h3 in
/-- A context row. -/
theorem refC_at (b : Fin 32) (g : Fin 8) (i : Fin 256) (d : Fin 64) :
    refC a0 a1 a2 a3 a4 (ix3 b i ⟨64 * g.1 + d.1, by omega⟩)
      = soft (fun j : Fin 256 => realScore r0 r1 r2 r3 b g ⟨i.1, by omega⟩ ⟨j.1, by omega⟩) (fun j : Fin 256 => a4 (ix4 b ⟨j.1, by omega⟩ g d)) := by
  have ht : ∀ (b : Fin 32) (g : Fin 8) (i j : Fin 256), tC a0 a1 a2 a3 (ix4 b g i j) = (realScore r0 r1 r2 r3 b g ⟨i.1, by omega⟩ ⟨j.1, by omega⟩ : EReal) :=
    fun b g i j => (tC_at a0 a1 a2 a3 b g i j).trans (score_real r0 r1 r2 r3 a0 a1 a2 a3 h0 h1 h2 h3 b g _ _)
  have hr : ∀ k, IsReal (tC a0 a1 a2 a3 k) := fun k => by
    obtain ⟨b, g, i, j, rfl⟩ : ∃ (b : Fin 32) (g : Fin 8) (i j : Fin 256), k = ix4 b g i j := ⟨k 0, k 1, k 2, k 3, by blk_ext⟩
    exact ⟨_, ht b g i j⟩
  have hm := mC_real (tC a0 a1 a2 a3) hr b g i
  unfold refC
  rw [oC_at]
  simp only [pC_at, eC_at]
  exact soft_shift _ _ (fun j => ht b g i j) _ hm _

include h0 h1 h2 h3 in
/-- A latent row. -/
theorem refL_at (b : Fin 32) (g : Fin 8) (i : Fin 2048) (d : Fin 64) :
    refL a0 a1 a2 a3 a4 (ix3 b i ⟨64 * g.1 + d.1, by omega⟩)
      = soft (fun j : Fin 2304 => realScore r0 r1 r2 r3 b g ⟨256 + i.1, by omega⟩ j) (fun j : Fin 2304 => a4 (ix4 b j g d)) := by
  have ht : ∀ (b : Fin 32) (g : Fin 8) (i : Fin 2048) (j : Fin 2304), tL a0 a1 a2 a3 (ix4 b g i j) = (realScore r0 r1 r2 r3 b g ⟨256 + i.1, by omega⟩ j : EReal) :=
    fun b g i j => (tL_at a0 a1 a2 a3 b g i j).trans (score_real r0 r1 r2 r3 a0 a1 a2 a3 h0 h1 h2 h3 b g _ _)
  have hr : ∀ k, IsReal (tL a0 a1 a2 a3 k) := fun k => by
    obtain ⟨b, g, i, j, rfl⟩ : ∃ (b : Fin 32) (g : Fin 8) (i : Fin 2048) (j : Fin 2304), k = ix4 b g i j := ⟨k 0, k 1, k 2, k 3, by blk_ext⟩
    exact ⟨_, ht b g i j⟩
  have hm := mL_real (tL a0 a1 a2 a3) hr b g i
  unfold refL
  rw [oL_at]
  simp only [pL_at, eL_at]
  exact soft_shift _ _ (fun j => ht b g i j) _ hm _

/-- A context row of the whole result. -/
theorem refAll_C (b : Fin 32) (i : Fin 256) (l : Fin 512) : refAll a0 a1 a2 a3 a4 (ix3 b ⟨i.1, by omega⟩ l) = refC a0 a1 a2 a3 a4 (ix3 b i l) := by
  unfold refAll
  generalize refC a0 a1 a2 a3 a4 = x
  generalize refL a0 a1 a2 a3 a4 = y
  pointwise!

/-- A latent row of the whole result. -/
theorem refAll_L (b : Fin 32) (i : Fin 2048) (l : Fin 512) : refAll a0 a1 a2 a3 a4 (ix3 b ⟨256 + i.1, by omega⟩ l) = refL a0 a1 a2 a3 a4 (ix3 b i l) := by
  unfold refAll
  generalize refC a0 a1 a2 a3 a4 = x
  generalize refL a0 a1 a2 a3 a4 = y
  pointwise!

end Cert.AttnIdeal.Hand

end
-- ==== Proof.AttnValue.lean ====
/-
The result of the attention's call over real queries and keys is the reference's.
-/
module

public import proofs.«01_k».proof.Proof.AttnRefValue

@[expose] public section

set_option maxRecDepth 16384

noncomputable section

namespace Cert.AttnIdeal.Hand

open Idealize.ShloMosaic Idealize.ShloMosaic.TcCoe Idealize.SL.Sem Idealize.ShloMosaic.Pointwise Cert.AttnIdeal Cert.AttnIdeal.Gen Cert.AttnMath
open Cert.AttnRefIdeal.Hand (refAll)
open Idealize.ShloMosaic.Pipeline (Dat)

variable (m : (ℓ : Loc nD τ sig) → Buf (Elt Ideal) ℓ) (c : Dev nD)

/-- The queries as launched. -/
abbrev A0 : FVec Ideal S32x2304x8x64 .f32 := m ((c : Thread nD τ).loc main_arg0)
/-- Their rotated lanes. -/
abbrev A1 : FVec Ideal S32x2304x8x32 .f32 := m ((c : Thread nD τ).loc main_arg1)
/-- The keys. -/
abbrev A2 : FVec Ideal S32x2304x8x64 .f32 := m ((c : Thread nD τ).loc main_arg2)
/-- Their rotated lanes, one row for all heads. -/
abbrev A3 : FVec Ideal S32x2304x32 .f32 := m ((c : Thread nD τ).loc main_arg3)
/-- The values. -/
abbrev A4 : FVec Ideal S32x2304x8x64 .f32 := m ((c : Thread nD τ).loc main_arg4)

/-- Every lane of the padded rows is real where the rows are. -/
theorem lanes_real (x : FVec Ideal S32x2304x8x96 .f32) (hx : ∀ k, IsReal (x k)) (b : Fin 32) (i : Fin 2304) (l : Fin 1024) : IsReal (lanes x (ix3 b i l)) := by
  by_cases h : l.1 % 128 < 96
  · have e : l = ⟨128 * (⟨l.1 / 128, by omega⟩ : Fin 8).1 + (⟨l.1 % 128, h⟩ : Fin 96).1, by (try dsimp only); omega⟩ := Fin.ext (by (try dsimp only); omega)
    rw [e, lanes_at]; exact hx _
  · have e : l = ⟨128 * (⟨l.1 / 128, by omega⟩ : Fin 8).1 + (96 + (⟨l.1 % 128 - 96, by omega⟩ : Fin 32).1), by (try dsimp only); omega⟩ := Fin.ext (by (try dsimp only); omega)
    rw [e, lanes_pad]; exact IsReal.zero

/-- The scaled queries are real where the queries are. -/
theorem qHost_real (a0 : FVec Ideal S32x2304x8x64 .f32) (a1 : FVec Ideal S32x2304x8x32 .f32) (h0 : ∀ k, IsReal (a0 k)) (h1 : ∀ k, IsReal (a1 k)) (k : S32x2304x8x96.Idx) : IsReal (qHost a0 a1 k) := by
  obtain ⟨b, i, g, e, rfl⟩ : ∃ (b : Fin 32) (i : Fin 2304) (g : Fin 8) (e : Fin 96), k = ix4 b i g e := ⟨k 0, k 1, k 2, k 3, by blk_ext⟩
  have hq : IsReal qscale := ⟨_, qscale_real⟩
  by_cases h : e.1 < 64
  · exact (qHost_nope a0 a1 b i g ⟨e.1, h⟩) ▸ (h0 _).mul hq
  · have e' : e = ⟨64 + (⟨e.1 - 64, by omega⟩ : Fin 32).1, by (try dsimp only); omega⟩ := Fin.ext (by (try dsimp only); omega)
    rw [e', qHost_rope]; exact (h1 _).mul hq

/-- The joined keys are real where the keys are. -/
theorem kHost_real (a2 : FVec Ideal S32x2304x8x64 .f32) (a3 : FVec Ideal S32x2304x32 .f32) (h2 : ∀ k, IsReal (a2 k)) (h3 : ∀ k, IsReal (a3 k)) (k : S32x2304x8x96.Idx) : IsReal (kHost a2 a3 k) := by
  obtain ⟨b, i, g, e, rfl⟩ : ∃ (b : Fin 32) (i : Fin 2304) (g : Fin 8) (e : Fin 96), k = ix4 b i g e := ⟨k 0, k 1, k 2, k 3, by blk_ext⟩
  by_cases h : e.1 < 64
  · exact (kHost_nope a2 a3 b i g ⟨e.1, h⟩) ▸ h2 _
  · have e' : e = ⟨64 + (⟨e.1 - 64, by omega⟩ : Fin 32).1, by (try dsimp only); omega⟩ := Fin.ext (by (try dsimp only); omega)
    rw [e', kHost_rope]; exact h3 _

variable (h0 : ∀ k, IsReal (A0 m c k)) (h1 : ∀ k, IsReal (A1 m c k)) (h2 : ∀ k, IsReal (A2 m c k)) (h3 : ∀ k, IsReal (A3 m c k))

include h0 h1 in
/-- The query block is real. -/
theorem block0_real (t : Fin cfg0.N) (b : Fin 32) (hb : b.val = t.val / 4) (p : Fin 4) (hp : p.val = t.val % 4) (k : S1x2304x256.Idx) :
    IsReal ((show FVec Ideal S1x2304x256 .bf16 from iblk m c 0 t) k) := by
  obtain ⟨i, l, rfl⟩ : ∃ (i : Fin 2304) (l : Fin 256), k = ix3 0 i l := ⟨k 1, k 2, by blk_ext⟩
  rw [read0 m c t b hb p hp i l]
  exact lanes_real _ (qHost_real _ _ h0 h1) _ _ _

include h2 h3 in
/-- The key block is real. -/
theorem block1_real (t : Fin cfg0.N) (b : Fin 32) (hb : b.val = t.val / 4) (p : Fin 4) (hp : p.val = t.val % 4) (k : S1x2304x256.Idx) :
    IsReal ((show FVec Ideal S1x2304x256 .bf16 from iblk m c 1 t) k) := by
  obtain ⟨i, l, rfl⟩ : ∃ (i : Fin 2304) (l : Fin 256), k = ix3 0 i l := ⟨k 1, k 2, by blk_ext⟩
  rw [read1 m c t b hb p hp i l]
  exact lanes_real _ (kHost_real _ _ h2 h3) _ _ _

/-- A lane of the query block, by head and lane of the head. -/
theorem block0_at (t : Fin cfg0.N) (b : Fin 32) (hb : b.val = t.val / 4) (p : Fin 4) (hp : p.val = t.val % 4) (h : Fin 2) (i : Fin 2304) (e : Fin 128) :
    (show FVec Ideal S1x2304x256 .bf16 from iblk m c 0 t) (ix3 0 i (lane2 h e))
      = lanes (qHost (A0 m c) (A1 m c)) (ix3 b i ⟨128 * (2 * p.1 + h.1) + e.1, by omega⟩) := by
  rw [read0 m c t b hb p hp i _]
  exact congrArg (fun l => lanes (qHost (A0 m c) (A1 m c)) (ix3 b i l)) (Fin.ext (by (try dsimp only); omega))

/-- A lane of the key block, by head and lane of the head. -/
theorem block1_at (t : Fin cfg0.N) (b : Fin 32) (hb : b.val = t.val / 4) (p : Fin 4) (hp : p.val = t.val % 4) (h : Fin 2) (i : Fin 2304) (e : Fin 128) :
    (show FVec Ideal S1x2304x256 .bf16 from iblk m c 1 t) (ix3 0 i (lane2 h e))
      = lanes (kHost (A2 m c) (A3 m c)) (ix3 b i ⟨128 * (2 * p.1 + h.1) + e.1, by omega⟩) := by
  rw [read1 m c t b hb p hp i _]
  exact congrArg (fun l => lanes (kHost (A2 m c) (A3 m c)) (ix3 b i l)) (Fin.ext (by (try dsimp only); omega))

/-- A lane of the value block. -/
theorem block2_at (t : Fin cfg0.N) (b : Fin 32) (hb : b.val = t.val / 4) (p : Fin 4) (hp : p.val = t.val % 4) (j : Fin 2304) (l : Fin 128) :
    (show FVec Ideal S1x2304x128 .bf16 from iblk m c 2 t) (ix3 0 j l) = A4 m c (ix4 b j ⟨2 * p.1 + l.1 / 64, by omega⟩ ⟨l.1 % 64, by omega⟩) := by
  refine (read2 m c t b hb p hp j l).trans ((congrArg (fun l => vHost (A4 m c) (ix3 b j l)) (Fin.ext ?_)).trans
    (vHost_at (A4 m c) b j ⟨2 * p.1 + l.1 / 64, by omega⟩ ⟨l.1 % 64, by omega⟩))
  (try dsimp only); omega

/-- A head's lanes of a padded row, as the head and the lane. -/
theorem score_block (r0 : S32x2304x8x64.Idx → ℝ) (r1 : S32x2304x8x32.Idx → ℝ) (r2 : S32x2304x8x64.Idx → ℝ) (r3 : S32x2304x32.Idx → ℝ)
    (e0 : ∀ k, A0 m c k = (r0 k : EReal)) (e1 : ∀ k, A1 m c k = (r1 k : EReal)) (e2 : ∀ k, A2 m c k = (r2 k : EReal)) (e3 : ∀ k, A3 m c k = (r3 k : EReal))
    (t : Fin cfg0.N) (b : Fin 32) (hb : b.val = t.val / 4) (p : Fin 4) (hp : p.val = t.val % 4) (h : Fin 2) (i j : Fin 2304) :
    (∑ e : Fin 128, (show FVec Ideal S1x2304x256 .bf16 from iblk m c 0 t) (ix3 0 i (lane2 h e))
        * (show FVec Ideal S1x2304x256 .bf16 from iblk m c 1 t) (ix3 0 j (lane2 h e)))
      = ((realScore r0 r1 r2 r3 b ⟨2 * p.1 + h.1, by omega⟩ i j / Real.log 2 : ℝ) : EReal) := by
  refine score_call r0 r1 r2 r3 (A0 m c) (A1 m c) (A2 m c) (A3 m c) e0 e1 e2 e3 b ⟨2 * p.1 + h.1, by omega⟩ i j _ (fun d => ?_) (fun d => ?_) (fun d => ?_)
  · refine congrArg₂ (· * ·) ((block0_at m c t b hb p hp h i ⟨d.1, by omega⟩).trans ?_) ((block1_at m c t b hb p hp h j ⟨d.1, by omega⟩).trans ?_)
    · exact (lanes_at _ b i ⟨2 * p.1 + h.1, by omega⟩ ⟨d.1, by omega⟩).trans (qHost_nope _ _ b i _ d)
    · exact (lanes_at _ b j ⟨2 * p.1 + h.1, by omega⟩ ⟨d.1, by omega⟩).trans (kHost_nope _ _ b j _ d)
  · refine congrArg₂ (· * ·) ((block0_at m c t b hb p hp h i ⟨64 + d.1, by omega⟩).trans ?_) ((block1_at m c t b hb p hp h j ⟨64 + d.1, by omega⟩).trans ?_)
    · exact (lanes_at _ b i ⟨2 * p.1 + h.1, by omega⟩ ⟨64 + d.1, by omega⟩).trans (qHost_rope _ _ b i _ d)
    · exact (lanes_at _ b j ⟨2 * p.1 + h.1, by omega⟩ ⟨64 + d.1, by omega⟩).trans (kHost_rope _ _ b j _ d)
  · refine (congrArg₂ (· * ·) ((block0_at m c t b hb p hp h i ⟨96 + d.1, by omega⟩).trans (lanes_pad _ b i ⟨2 * p.1 + h.1, by omega⟩ d))
      ((block1_at m c t b hb p hp h j ⟨96 + d.1, by omega⟩).trans (lanes_pad _ b j ⟨2 * p.1 + h.1, by omega⟩ d))).trans ?_
    exact mul_zero _

include h0 h1 h2 h3 in
/-- The block left at a point is the reference's. -/
theorem block_out (t : Fin cfg0.N) (b : Fin 32) (hb : b.val = t.val / 4) (p : Fin 4) (hp : p.val = t.val % 4) (r : Fin 2304) (l : Fin 128) :
    outAt m c t (ix3 0 r l) = refAll (A0 m c) (A1 m c) (A2 m c) (A3 m c) (A4 m c) (ix3 b r ⟨128 * p.1 + l.1, by omega⟩) := by
  have hx0 := block0_real m c h0 h1 t b hb p hp
  have hx1 := block1_real m c h2 h3 t b hb p hp
  choose r0 e0 using h0
  choose r1 e1 using h1
  choose r2 e2 using h2
  choose r3 e3 using h3
  have hl : (⟨128 * p.1 + l.1, by omega⟩ : Fin 512) = ⟨64 * (⟨2 * p.1 + l.1 / 64, by omega⟩ : Fin 8).1 + (⟨l.1 % 64, by omega⟩ : Fin 64).1, by (try dsimp only); omega⟩ :=
    Fin.ext (by (try dsimp only); omega)
  unfold outAt
  rw [outOf_eq (T := fun h i j => realScore r0 r1 r2 r3 b ⟨2 * p.1 + h.1, by omega⟩ i j) (hx0 := hx0) (hx1 := hx1)
    (hT := fun h i j => score_block m c r0 r1 r2 r3 e0 e1 e2 e3 t b hb p hp h i j), hl]
  unfold G
  by_cases hr : r.1 < 256
  · rw [if_pos hr]
    refine Eq.trans ?_ ((refAll_C _ _ _ _ _ b ⟨r.1, hr⟩ _).trans (refC_at r0 r1 r2 r3 _ _ _ _ _ e0 e1 e2 e3 b _ _ _)).symm
    exact congrArg (soft _) (funext fun j => block2_at m c t b hb p hp _ l)
  · rw [if_neg hr]
    obtain ⟨s, rfl⟩ : ∃ s : Fin 2048, r = ⟨256 + s.1, Nat.add_lt_add_left s.2 256⟩ := ⟨⟨r.1 - 256, by omega⟩, Fin.ext (by (try dsimp only); omega)⟩
    refine Eq.trans ?_ ((refAll_L _ _ _ _ _ b s _).trans (refL_at r0 r1 r2 r3 _ _ _ _ _ e0 e1 e2 e3 b _ _ _)).symm
    exact congrArg (soft _) (funext fun j => block2_at m c t b hb p hp _ l)

include h0 h1 h2 h3 in
/-- The result array after the call is the reference's term. -/
theorem final : (dats m 0 c).arrAt 3 (cfgs 0).N = refAll (A0 m c) (A1 m c) (A2 m c) (A3 m c) (A4 m c) := by
  refine (dats m 0 c).arrAt_eq_of_covers 3 _ covers3 fun t hf y => ?_
  blk_simp
  rw [after0_3]
  have hN : t.val < 128 := lt_of_lt_of_eq t.isLt N_0
  obtain ⟨r, l, rfl⟩ : ∃ (r : Fin 2304) (l : Fin 128), y = ix3 0 r l := ⟨y 1, y 2, by blk_ext⟩
  obtain ⟨b, hb⟩ : ∃ b : Fin 32, b.val = t.val / 4 := ⟨⟨t.val / 4, by omega⟩, rfl⟩
  obtain ⟨p, hp⟩ : ∃ p : Fin 4, p.val = t.val % 4 := ⟨⟨t.val % 4, by omega⟩, rfl⟩
  have hemb : ((View.whole main_v18).slice (win0_3.rect t)).emb (ix3 0 r l) = ix3 b r ⟨128 * p.1 + l.1, by omega⟩ := by
    have e := (idx_all t).2.2.2
    blk_ext [e]
  rw [hemb]
  exact block_out m c h0 h1 h2 h3 t b hb p hp r l

/-- The run, with the result array after the call named; the arguments unchanged. -/
theorem run (g : Dev nD → PrngReg) : θ_run defs (onTc (τ := τ) (main (F := Ideal))) ⟨m, fun _ => 0, g⟩ (fun r => ∀ c : Dev nD,
      r.2.mem ((c.tc : Thread nD τ).loc main_v18) = (dats m 0 c).arrAt 3 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 3, h.2 c⟩) (θ_run_and (run_main m g) (unchanged m g))

end Cert.AttnIdeal.Hand

end
-- ==== Proof.PostRef.lean ====
/-
The mathematics of the last step of the layer, as the reference writes it, stage by stage over named arrays.
-/
module

public import Idealize.ShloMosaic.PureOps.Ideal
public import proofs.«01_k».proof.Proof.Gen.PostRefIdeal.Run

@[expose] public section

set_option maxRecDepth 16384

noncomputable section

namespace Cert.PostRefIdeal.Hand

open Cert.PostRefIdeal Cert.PostRefIdeal.Gen Idealize.ShloMosaic Idealize.ShloMosaic.TcCoe Idealize.SL.Sem Idealize.ShloMosaic.StableHlo

/-- The short convolution's inputs on the latent rows. -/
def sx (a3 : FVec Ideal S32x2304x1536 .bf16) : FVec Ideal S32x2048x1536 .f32 :=
  extf .f32 (extractStridedSlice S32x2048x1536 ![0, 256, 0] a3 slices_S32x2304x1536_S32x2048x1536_0_256_0) bitsLt_bf16_f32

/-- The gates on the latent rows. -/
def gates (a6 : FVec Ideal S32x2304x4096 .bf16) : FVec Ideal S32x2048x4096 .f32 :=
  extf .f32 (extractStridedSlice S32x2048x4096 ![0, 256, 0] a6 slices_S32x2304x4096_S32x2048x4096_0_256_0) bitsLt_bf16_f32

/-- The product the convolution runs over, one zero row either side. -/
def scx (a3 : FVec Ideal S32x2304x1536 .bf16) : FVec Ideal S32x2050x512 .f32 :=
  pad S32x2050x512 ![0, 1, 0] ![0, 1, 0] ![0, 0, 0] (mulf (extractStridedSlice S32x2048x512 ![0, 0, 512] (sx a3) slices_S32x2048x1536_S32x2048x512_0_0_512) (extractStridedSlice S32x2048x512 ![0, 0, 1024] (sx a3) slices_S32x2048x1536_S32x2048x512_0_0_1024)) (sitofp .f32 (constantI S_ 32 0#32)) pads_S32x2048x512_S32x2050x512_000_110_000 h_S_

/-- The short convolution's branch. -/
def refSc (a3 : FVec Ideal S32x2304x1536 .bf16) (a7 : FVec Ideal S3x512 .f32) : FVec Ideal S32x2048x512 .f32 :=
  mulf (extractStridedSlice S32x2048x512 ![0, 0, 0] (sx a3) slices_S32x2048x1536_S32x2048x512_0_0_0) (addf (addf (addf (broadcastInDim S32x2048x512 ![] bcast_S_S32x2048x512 (constant S_ .f32 0x00000000#32)) (mulf (extractStridedSlice S32x2048x512 ![0, 0, 0] (scx a3) slices_S32x2050x512_S32x2048x512_0_0_0) (broadcastInDim S32x2048x512 ![0, 1, 2] bcast_S1x1x512_S32x2048x512_0_1_2 (broadcastInDim S1x1x512 ![2] bcast_S512_S1x1x512_2 (shapeCast _ (extractStridedSlice S1x512 ![0, 0] a7 slices_S3x512_S1x512_0_0) shapeCasts_S1x512_S512))))) (mulf (extractStridedSlice S32x2048x512 ![0, 1, 0] (scx a3) slices_S32x2050x512_S32x2048x512_0_1_0) (broadcastInDim S32x2048x512 ![0, 1, 2] bcast_S1x1x512_S32x2048x512_0_1_2 (broadcastInDim S1x1x512 ![2] bcast_S512_S1x1x512_2 (shapeCast _ (extractStridedSlice S1x512 ![1, 0] a7 slices_S3x512_S1x512_1_0) shapeCasts_S1x512_S512))))) (mulf (extractStridedSlice S32x2048x512 ![0, 2, 0] (scx a3) slices_S32x2050x512_S32x2048x512_0_2_0) (broadcastInDim S32x2048x512 ![0, 1, 2] bcast_S1x1x512_S32x2048x512_0_1_2 (broadcastInDim S1x1x512 ![2] bcast_S512_S1x1x512_2 (shapeCast _ (extractStridedSlice S1x512 ![2, 0] a7 slices_S3x512_S1x512_2_0) shapeCasts_S1x512_S512)))))

/-- The residual stream after the gated sum of the four branches, the convolution's branch `sc` given. -/
def refX1 (sc : FVec Ideal S32x2048x512 .f32) (a0 : FVec Ideal S32x2304x1024 .f32) (a1 : FVec Ideal S33x6x1024 .f32) (a2 : FVec Ideal S32x2304x512 .bf16) (a4 : FVec Ideal S32x2304x512 .bf16) (a5 : FVec Ideal S32x2304x512 .bf16) (a6 : FVec Ideal S32x2304x4096 .bf16) (a8 : FVec Ideal S4x512x1024 .f32) (a9 : FVec Ideal S1024x1024 .f32) : FVec Ideal S32x2048x1024 .f32 :=
  addf (extractStridedSlice S32x2048x1024 ![0, 256, 0] a0 slices_S32x2304x1024_S32x2048x1024_0_256_0) (mulf (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 2, 0] a1 slices_S33x6x1024_S32x1x1024_0_2_0) shapeCasts_S32x1x1024_S32x1024))) (Host.dotGeneral dot_S32x2048x1024_S1024x1024_S32x2048x1024_2_0_01_1_n_n none (addf (addf (addf (mulf (extractStridedSlice S32x2048x1024 ![0, 0, 0] (gates a6) slices_S32x2048x4096_S32x2048x1024_0_0_0) (Host.dotGeneral dot_S32x2048x512_S512x1024_S32x2048x1024_2_0_01_1_n_n none (extf .f32 (extractStridedSlice S32x2048x512 ![0, 256, 0] a2 slices_S32x2304x512_S32x2048x512_0_256_0) bitsLt_bf16_f32) (shapeCast _ (extractStridedSlice S1x512x1024 ![0, 0, 0] a8 slices_S4x512x1024_S1x512x1024_0_0_0) shapeCasts_S1x512x1024_S512x1024))) (mulf (extractStridedSlice S32x2048x1024 ![0, 0, 1024] (gates a6) slices_S32x2048x4096_S32x2048x1024_0_0_1024) (Host.dotGeneral dot_S32x2048x512_S512x1024_S32x2048x1024_2_0_01_1_n_n none sc (shapeCast _ (extractStridedSlice S1x512x1024 ![1, 0, 0] a8 slices_S4x512x1024_S1x512x1024_1_0_0) shapeCasts_S1x512x1024_S512x1024)))) (mulf (extractStridedSlice S32x2048x1024 ![0, 0, 2048] (gates a6) slices_S32x2048x4096_S32x2048x1024_0_0_2048) (Host.dotGeneral dot_S32x2048x512_S512x1024_S32x2048x1024_2_0_01_1_n_n none (extf .f32 (extractStridedSlice S32x2048x512 ![0, 256, 0] a4 slices_S32x2304x512_S32x2048x512_0_256_0) bitsLt_bf16_f32) (shapeCast _ (extractStridedSlice S1x512x1024 ![2, 0, 0] a8 slices_S4x512x1024_S1x512x1024_2_0_0) shapeCasts_S1x512x1024_S512x1024)))) (mulf (extractStridedSlice S32x2048x1024 ![0, 0, 3072] (gates a6) slices_S32x2048x4096_S32x2048x1024_0_0_3072) (Host.dotGeneral dot_S32x2048x512_S512x1024_S32x2048x1024_2_0_01_1_n_n none (extf .f32 (extractStridedSlice S32x2048x512 ![0, 256, 0] a5 slices_S32x2304x512_S32x2048x512_0_256_0) bitsLt_bf16_f32) (shapeCast _ (extractStridedSlice S1x512x1024 ![3, 0, 0] a8 slices_S4x512x1024_S1x512x1024_3_0_0) shapeCasts_S1x512x1024_S512x1024)))) a9))

/-- The hidden layer of the feed-forward step. -/
def refH (x1 : FVec Ideal S32x2048x1024 .f32) (a1 : FVec Ideal S33x6x1024 .f32) (a10 : FVec Ideal S1024 .f32) (a11 : FVec Ideal S1024x4096 .f32) : FVec Ideal S32x2048x4096 .f32 :=
  maximumf (Host.dotGeneral dot_S32x2048x1024_S1024x4096_S32x2048x4096_2_0_01_1_n_n none (addf (mulf (mulf (mulf x1 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x1 x1) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 a10))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (shapeCast _ (extractStridedSlice S32x1x1024 ![0, 4, 0] a1 slices_S33x6x1024_S32x1x1024_0_4_0) shapeCasts_S32x1x1024_S32x1024))))) (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 3, 0] a1 slices_S33x6x1024_S32x1x1024_0_3_0) shapeCasts_S32x1x1024_S32x1024)))) a11) (broadcastInDim S32x2048x4096 ![] bcast_S_S32x2048x4096 (constant S_ .f32 0x00000000#32))

/-- The residual stream after the feed-forward step. -/
def refX2 (x1 : FVec Ideal S32x2048x1024 .f32) (h : FVec Ideal S32x2048x4096 .f32) (a1 : FVec Ideal S33x6x1024 .f32) (a12 : FVec Ideal S4096x1024 .f32) : FVec Ideal S32x2048x1024 .f32 :=
  addf x1 (mulf (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 5, 0] a1 slices_S33x6x1024_S32x1x1024_0_5_0) shapeCasts_S32x1x1024_S32x1024))) (Host.dotGeneral dot_S32x2048x4096_S4096x1024_S32x2048x1024_2_0_01_1_n_n none (mulf h h) a12))

/-- The final normalisation. -/
def refOut (x2 : FVec Ideal S32x2048x1024 .f32) (a13 : FVec Ideal S1024 .f32) : FVec Ideal S32x2048x1024 .f32 :=
  mulf (mulf x2 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x2 x2) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 a13))

/-- The whole step. -/
def refAll (a0 : FVec Ideal S32x2304x1024 .f32) (a1 : FVec Ideal S33x6x1024 .f32) (a2 : FVec Ideal S32x2304x512 .bf16) (a3 : FVec Ideal S32x2304x1536 .bf16) (a4 : FVec Ideal S32x2304x512 .bf16) (a5 : FVec Ideal S32x2304x512 .bf16) (a6 : FVec Ideal S32x2304x4096 .bf16) (a7 : FVec Ideal S3x512 .f32) (a8 : FVec Ideal S4x512x1024 .f32) (a9 : FVec Ideal S1024x1024 .f32) (a10 : FVec Ideal S1024 .f32) (a11 : FVec Ideal S1024x4096 .f32) (a12 : FVec Ideal S4096x1024 .f32) (a13 : FVec Ideal S1024 .f32) : FVec Ideal S32x2048x1024 .f32 :=
  refOut (refX2 (refX1 (refSc a3 a7) a0 a1 a2 a4 a5 a6 a8 a9) (refH (refX1 (refSc a3 a7) a0 a1 a2 a4 a5 a6 a8 a9) a1 a10 a11) a1 a12) a13

end Cert.PostRefIdeal.Hand

end
-- ==== Proof.PostConv.lean ====
/-
The short convolution of one tile of 256 rows, with its two neighbouring rows, is the reference's.
-/
module

public import proofs.«01_k».proof.Proof.PostRef
public import proofs.«01_k».proof.Proof.Gen.PostIdeal.Skeleton
public import Idealize.ShloMosaic.Lib.Pipeline.ValueKit

@[expose] public section

set_option maxRecDepth 16384

noncomputable section

namespace Cert.PostIdeal.Hand

open Cert.PostIdeal Cert.PostIdeal.Gen Idealize.ShloMosaic Idealize.ShloMosaic.TcCoe Idealize.SL.Sem
open Cert.PostRefIdeal.Hand (sx gates scx refSc refX1 refH refX2 refOut refAll)

/-- The convolution's branch of a tile, its padded inputs given row by row. -/
theorem conv_point (a3 : FVec Ideal Cert.PostRefIdeal.S32x2304x1536 .bf16) (a7 : FVec Ideal Cert.PostRefIdeal.S3x512 .f32)
    (b : Fin 32) (q : Fin 8) (v10 : BitVec 1) (v24 : FVec Ideal S256x512 .f32) (v31 : FVec Ideal S16x512 .f32)
    (v32 : Vec Ideal S3x512 .f32) (v34 : FVec Ideal S16x512 .f32) (v56 : Vec Ideal S1x256x512 .bf16)
    (h34 : ∀ k : Fin 512, v34 (ix2 15 k) = scx a3 (ix3 b ⟨256 * q.val, by omega⟩ k))
    (h24 : ∀ (r : Fin 256) (k : Fin 512), v24 (ix2 r k) = scx a3 (ix3 b ⟨256 * q.val + r.val + 1, by omega⟩ k))
    (h31 : ∀ k : Fin 512, Scalar.select v10 (v31 (ix2 0 k)) (0 : EReal) = scx a3 (ix3 b ⟨256 * q.val + 257, by omega⟩ k))
    (h32 : ∀ (w : Fin 3) (k : Fin 512), v32 (ix2 w k) = a7 (ix2 w k))
    (h56 : ∀ (r : Fin 256) (k : Fin 512), v56 (ix3 0 r k) = a3 (ix3 b ⟨256 + (256 * q.val + r.val), by omega⟩ ⟨k.val, by omega⟩))
    (r : Fin 256) (k : Fin 512) :
    k0_pay6 (F := Ideal) v10 v24 v31 v32 v34 v56 (ix2 r k) = refSc a3 a7 (ix3 b ⟨256 * q.val + r.val, by omega⟩ k) := by
  have hp : ∀ (p p' : Fin 2050), p.val = p'.val → scx a3 (ix3 b p k) = scx a3 (ix3 b p' k) := fun p p' h => by
    rw [Fin.ext h]
  pointwise [k0_pay6, refSc, sx, h32, h56]
  refine congrArg₂ (· * ·) rfl (congrArg₂ (· + ·) (congrArg₂ (· + ·) (congrArg₂ (· * ·) ?_ rfl) (congrArg₂ (· * ·) ?_ rfl)) (congrArg₂ (· * ·) ?_ rfl))
  · by_cases h0 : (16 + r.val + 288 - 1) % 288 < 16
    · rw [dif_pos h0]
      refine (congrArg (fun i => v34 (ix2 i k)) (Fin.ext (?_ : _ = 15))).trans ((h34 k).trans (hp _ _ ?_))
      · show (16 + r.val + 288 - 1) % 288 = 15; omega
      · show 256 * q.val = 256 * q.val + r.val; omega
    · have h1 : (16 + r.val + 288 - 1) % 288 - 16 < 256 := by omega
      rw [dif_neg h0, dif_pos h1]
      refine (h24 _ k).trans (hp _ _ ?_)
      show 256 * q.val + ((16 + r.val + 288 - 1) % 288 - 16) + 1 = 256 * q.val + r.val; omega
  · refine (h24 _ k).trans (hp _ _ ?_)
    show 256 * q.val + r.val + 1 = 1 + (256 * q.val + r.val); omega
  · have h0 : ¬ (16 + r.val + 288 - 287) % 288 < 16 := by omega
    rw [dif_neg h0]
    by_cases h1 : (16 + r.val + 288 - 287) % 288 - 16 < 256
    · rw [dif_pos h1]
      refine (h24 _ k).trans (hp _ _ ?_)
      show 256 * q.val + ((16 + r.val + 288 - 287) % 288 - 16) + 1 = 2 + (256 * q.val + r.val); omega
    · rw [dif_neg h1]
      refine (congrArg (fun i => Scalar.select v10 (v31 (ix2 i k)) (0 : EReal)) (Fin.ext (?_ : _ = 0))).trans ((h31 k).trans (hp _ _ ?_))
      · show (16 + r.val + 288 - 287) % 288 - 16 - 256 = 0; omega
      · show 256 * q.val + 257 = 2 + (256 * q.val + r.val); omega

/-- The padded inputs: a product of two columns of the row before, and zero on the two rows outside. -/
theorem scx_at (a3 : FVec Ideal Cert.PostRefIdeal.S32x2304x1536 .bf16) (b : Fin 32) (p : Fin 2050) (k : Fin 512) :
    scx a3 (ix3 b p k) = if h : 1 ≤ p.val ∧ p.val - 1 < 2048 then
      a3 (ix3 b ⟨256 + (p.val - 1), by omega⟩ ⟨512 + k.val, by omega⟩) * a3 (ix3 b ⟨256 + (p.val - 1), by omega⟩ ⟨1024 + k.val, by omega⟩)
    else 0 := by
  pointwise [scx, sx]
  simp [FloatOps.sitofp]

end Cert.PostIdeal.Hand

end
-- ==== Proof.PostPure.lean ====
/-
The rest of the step on one tile: the gated sum of the branches, the feed-forward step, the final normalisation.
-/
module

public import proofs.«01_k».proof.Proof.PostRef
public import proofs.«01_k».proof.Proof.Gen.PostIdeal.Skeleton
public import Idealize.ShloMosaic.Lib.Pipeline.ValueKit

@[expose] public section

set_option maxRecDepth 16384

noncomputable section

namespace Cert.PostIdeal.Hand

open Cert.PostIdeal Cert.PostIdeal.Gen Idealize.ShloMosaic Idealize.ShloMosaic.TcCoe Idealize.SL.Sem
open Cert.PostRefIdeal.Hand (sx gates scx refSc refX1 refH refX2 refOut refAll)

/-- The residual stream of a tile after the gated sum of its four branches. -/
theorem x1_point (sc : FVec Ideal Cert.PostRefIdeal.S32x2048x512 .f32) (a0 : FVec Ideal Cert.PostRefIdeal.S32x2304x1024 .f32)
    (a1 : FVec Ideal Cert.PostRefIdeal.S33x6x1024 .f32) (a2 a4 a5 : FVec Ideal Cert.PostRefIdeal.S32x2304x512 .bf16)
    (a6 : FVec Ideal Cert.PostRefIdeal.S32x2304x4096 .bf16) (a8 : FVec Ideal Cert.PostRefIdeal.S4x512x1024 .f32)
    (a9 : FVec Ideal Cert.PostRefIdeal.S1024x1024 .f32) (b : Fin 32) (q : Fin 8)
    (v3 : Vec Ideal S1x6x1024 .f32) (v60 : FVec Ideal S256x512 .bf16) (v61 v63 v54 : Vec Ideal S1x256x512 .bf16)
    (v65 v72 v80 v88 : Vec Ideal S1x256x1024 .bf16) (v68 v75 v83 v91 : Vec Ideal S1x512x1024 .bf16)
    (v96 : Vec Ideal S1x256x1024 .f32) (v100 : Vec Ideal S1024x1024 .bf16)
    (h3 : ∀ (s : Fin 6) (d : Fin 1024), v3 (ix3 0 s d) = a1 (ix3 ⟨b.val, by omega⟩ s d))
    (h60 : ∀ (r : Fin 256) (k : Fin 512), v60 (ix2 r k) = sc (ix3 b ⟨256 * q.val + r.val, by omega⟩ k))
    (h61 : ∀ (r : Fin 256) (k : Fin 512), v61 (ix3 0 r k) = a4 (ix3 b ⟨256 + (256 * q.val + r.val), by omega⟩ k))
    (h63 : ∀ (r : Fin 256) (k : Fin 512), v63 (ix3 0 r k) = a5 (ix3 b ⟨256 + (256 * q.val + r.val), by omega⟩ k))
    (h54 : ∀ (r : Fin 256) (k : Fin 512), v54 (ix3 0 r k) = a2 (ix3 b ⟨256 + (256 * q.val + r.val), by omega⟩ k))
    (h65 : ∀ (r : Fin 256) (d : Fin 1024), v65 (ix3 0 r d) = a6 (ix3 b ⟨256 + (256 * q.val + r.val), by omega⟩ ⟨d.val, by omega⟩))
    (h72 : ∀ (r : Fin 256) (d : Fin 1024), v72 (ix3 0 r d) = a6 (ix3 b ⟨256 + (256 * q.val + r.val), by omega⟩ ⟨1024 + d.val, by omega⟩))
    (h80 : ∀ (r : Fin 256) (d : Fin 1024), v80 (ix3 0 r d) = a6 (ix3 b ⟨256 + (256 * q.val + r.val), by omega⟩ ⟨2048 + d.val, by omega⟩))
    (h88 : ∀ (r : Fin 256) (d : Fin 1024), v88 (ix3 0 r d) = a6 (ix3 b ⟨256 + (256 * q.val + r.val), by omega⟩ ⟨3072 + d.val, by omega⟩))
    (h68 : ∀ (k : Fin 512) (d : Fin 1024), v68 (ix3 0 k d) = a8 (ix3 0 k d))
    (h75 : ∀ (k : Fin 512) (d : Fin 1024), v75 (ix3 0 k d) = a8 (ix3 1 k d))
    (h83 : ∀ (k : Fin 512) (d : Fin 1024), v83 (ix3 0 k d) = a8 (ix3 2 k d))
    (h91 : ∀ (k : Fin 512) (d : Fin 1024), v91 (ix3 0 k d) = a8 (ix3 3 k d))
    (h96 : ∀ (r : Fin 256) (d : Fin 1024), v96 (ix3 0 r d) = a0 (ix3 b ⟨256 + (256 * q.val + r.val), by omega⟩ d))
    (h100 : ∀ (e d : Fin 1024), v100 (ix2 e d) = a9 (ix2 e d))
    (r : Fin 256) (d : Fin 1024) :
    k0_pay10 (F := Ideal) (k0_pay2 v3) v60 (k0_pay7 v61) (k0_pay8 v63) (k0_pay9 v54 v65 v68) v72 v75 v80 v83 v88 v91 v96 v100 (ix2 r d)
      = refX1 sc a0 a1 a2 a4 a5 a6 a8 a9 (ix3 b ⟨256 * q.val + r.val, by omega⟩ d) := by
  pointwise! [k0_pay10, k0_pay2, k0_pay7, k0_pay8, k0_pay9, refX1, gates, h3, h60, h61, h63, h54, h65, h72, h80, h88, h68, h75, h83, h91, h96, h100]

/-- The residual stream of a tile after the feed-forward step. -/
theorem x2_point (x1 : FVec Ideal Cert.PostRefIdeal.S32x2048x1024 .f32) (a1 : FVec Ideal Cert.PostRefIdeal.S33x6x1024 .f32)
    (a10 : FVec Ideal Cert.PostRefIdeal.S1024 .f32) (a11 : FVec Ideal Cert.PostRefIdeal.S1024x4096 .f32)
    (a12 : FVec Ideal Cert.PostRefIdeal.S4096x1024 .f32) (b : Fin 32) (q : Fin 8)
    (v3 : Vec Ideal S1x6x1024 .f32) (v105 : FVec Ideal S256x1024 .f32) (v106 : Vec Ideal S1x1024 .f32)
    (v129 : Vec Ideal S1024x4096 .bf16) (v137 : Vec Ideal S4096x1024 .bf16)
    (h3 : ∀ (s : Fin 6) (d : Fin 1024), v3 (ix3 0 s d) = a1 (ix3 ⟨b.val, by omega⟩ s d))
    (h105 : ∀ (r : Fin 256) (d : Fin 1024), v105 (ix2 r d) = x1 (ix3 b ⟨256 * q.val + r.val, by omega⟩ d))
    (h106 : ∀ d : Fin 1024, v106 (ix2 0 d) = a10 (ix1 d))
    (h129 : ∀ (e : Fin 1024) (f : Fin 4096), v129 (ix2 e f) = a11 (ix2 e f))
    (h137 : ∀ (f : Fin 4096) (d : Fin 1024), v137 (ix2 f d) = a12 (ix2 f d))
    (r : Fin 256) (d : Fin 1024) :
    k0_pay11 (F := Ideal) (k0_pay2 v3) v105 v106 v129 v137 (ix2 r d)
      = refX2 x1 (refH x1 a1 a10 a11) a1 a12 (ix3 b ⟨256 * q.val + r.val, by omega⟩ d) := by
  pointwise! [k0_pay11, k0_pay2, refX2, refH, h3, h105, h106, h129, h137]

/-- The normalised output of a tile. -/
theorem out_point (x2 : FVec Ideal Cert.PostRefIdeal.S32x2048x1024 .f32) (a13 : FVec Ideal Cert.PostRefIdeal.S1024 .f32)
    (b : Fin 32) (q : Fin 8) (v4 : FVec Ideal S6x1024 .f32) (v105 : FVec Ideal S256x1024 .f32) (v106 : Vec Ideal S1x1024 .f32)
    (v129 : Vec Ideal S1024x4096 .bf16) (v137 : Vec Ideal S4096x1024 .bf16) (v143 : Vec Ideal S1x1024 .f32)
    (h142 : ∀ (r : Fin 256) (d : Fin 1024), k0_pay11 (F := Ideal) v4 v105 v106 v129 v137 (ix2 r d) = x2 (ix3 b ⟨256 * q.val + r.val, by omega⟩ d))
    (h143 : ∀ d : Fin 1024, v143 (ix2 0 d) = a13 (ix1 d))
    (r : Fin 256) (d : Fin 1024) :
    k0_pay1 (F := Ideal) (k0_pay11 v4 v105 v106 v129 v137) (k0_pay12 v143) (k0_pay13 v4 v105 v106 v129 v137) (k0_pay14 (F := Ideal)) (ix3 0 r d)
      = refOut x2 a13 (ix3 b ⟨256 * q.val + r.val, by omega⟩ d) := by
  pointwise! [k0_pay1, k0_pay12, k0_pay13, k0_pay14, refOut, h142, h143]

end Cert.PostIdeal.Hand

end
-- ==== Proof.PostIdx.lean ====
/-
Where the step's windows stand at every grid point: point `t` is row block `t % 9` of sequence `t / 9`.
-/
module

public import proofs.«01_k».proof.Proof.Gen.PostIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostIdeal.Hand

open Cert.PostIdeal Cert.PostIdeal.Gen

/-- The row blocks: streams, branches, gates, and the two 16-row neighbours of the convolution's inputs. -/
theorem idx_rows : ∀ t : Fin cfg0.N, 1 ≤ t.val % 9 →
    (win0_0.index t = ![t.val / 9, t.val % 9, 0] ∧ win0_1.index t = ![t.val / 9, 0, 0]
      ∧ win0_2.index t = ![t.val / 9, t.val % 9, 0] ∧ win0_3.index t = ![t.val / 9, t.val % 9, 0]
      ∧ win0_4.index t = ![t.val / 9, 16 * (t.val % 9) - 1, 0]
      ∧ win0_5.index t = ![t.val / 9, if t.val % 9 = 8 then 143 else 16 * (t.val % 9) + 16, 0]
      ∧ win0_6.index t = ![t.val / 9, t.val % 9, 0] ∧ win0_7.index t = ![t.val / 9, t.val % 9, 0]
      ∧ win0_8.index t = ![t.val / 9, t.val % 9, 0]
      ∧ win0_16.index t = ![t.val / 9, t.val % 9 - 1, 0]) :=
  (by decide +kernel : ∀ t : Fin grid0.N, 1 ≤ t.val % 9 → _)

/-- The weights' windows: the whole arrays at every point. -/
theorem idx_whole : ∀ t : Fin cfg0.N,
    (win0_9.index t = ![0, 0] ∧ win0_10.index t = ![0, 0, 0] ∧ win0_11.index t = ![0, 0] ∧ win0_12.index t = ![0, 0]
      ∧ win0_13.index t = ![0, 0] ∧ win0_14.index t = ![0, 0] ∧ win0_15.index t = ![0, 0]) :=
  (by decide +kernel : ∀ t : Fin grid0.N, _)

/-- The result block is written back exactly at the points past the first of a sequence. -/
theorem flush_mod : ∀ t : Fin cfg0.N, (cfg0.win 16).flush t = true → 1 ≤ t.val % 9 :=
  (by decide +kernel : ∀ t : Fin grid0.N, _)

/-- The grid's second coordinate. -/
theorem coord1 : ∀ t : Fin cfg0.N, (grid0.coords t 1).val = t.val % 9 :=
  (by decide +kernel : ∀ t : Fin grid0.N, _)

/-- The blocks written back cover the result. -/
theorem covers16 : (cfg0.win 16).Covers := by decide +kernel

end Cert.PostIdeal.Hand

end
-- ==== Proof.PostReads.lean ====
/-
The step's windows read at every point past the first of a sequence: each entry of a block is an entry of an argument.
-/
module

public import proofs.«01_k».proof.Proof.PostIdx
public import proofs.«01_k».proof.Proof.PostConv
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostIdeal.Hand

open Cert.PostIdeal Cert.PostIdeal.Gen

open Cert.PostRefIdeal.Hand (scx)

variable (m : (ℓ : Loc nD τ sig) → Buf (Elt Ideal) ℓ)

/-- Window 0: 256 rows of argument 0. -/
theorem read0 (c : Dev nD) (t : Fin cfg0.N) (b : Fin 32) (q : Fin 8) (hb : b.val = t.val / 9) (hq : q.val = t.val % 9 - 1) (h0 : 1 ≤ t.val % 9) (r : Fin 256) (d : Fin 1024) :
    (show FVec Ideal S1x256x1024 .f32 from iblk m c 0 t) (ix3 0 r d)
      = (m ((c : Thread nD τ).loc main_arg0)) (ix3 b ⟨256 + (256 * q.val + r.val), by omega⟩ d) := by
  have e := (idx_rows t h0).1
  blk_ext [iblk, V, e]

/-- Window 2: 256 rows of argument 2. -/
theorem read2 (c : Dev nD) (t : Fin cfg0.N) (b : Fin 32) (q : Fin 8) (hb : b.val = t.val / 9) (hq : q.val = t.val % 9 - 1) (h0 : 1 ≤ t.val % 9) (r : Fin 256) (d : Fin 512) :
    (show FVec Ideal S1x256x512 .bf16 from iblk m c 2 t) (ix3 0 r d)
      = (m ((c : Thread nD τ).loc main_arg2)) (ix3 b ⟨256 + (256 * q.val + r.val), by omega⟩ d) := by
  have e := (idx_rows t h0).2.2.1
  blk_ext [iblk, V, e]

/-- Window 3: 256 rows of argument 3. -/
theorem read3 (c : Dev nD) (t : Fin cfg0.N) (b : Fin 32) (q : Fin 8) (hb : b.val = t.val / 9) (hq : q.val = t.val % 9 - 1) (h0 : 1 ≤ t.val % 9) (r : Fin 256) (d : Fin 1536) :
    (show FVec Ideal S1x256x1536 .bf16 from iblk m c 3 t) (ix3 0 r d)
      = (m ((c : Thread nD τ).loc main_arg3)) (ix3 b ⟨256 + (256 * q.val + r.val), by omega⟩ d) := by
  have e := (idx_rows t h0).2.2.2.1
  blk_ext [iblk, V, e]

/-- Window 6: 256 rows of argument 4. -/
theorem read6 (c : Dev nD) (t : Fin cfg0.N) (b : Fin 32) (q : Fin 8) (hb : b.val = t.val / 9) (hq : q.val = t.val % 9 - 1) (h0 : 1 ≤ t.val % 9) (r : Fin 256) (d : Fin 512) :
    (show FVec Ideal S1x256x512 .bf16 from iblk m c 6 t) (ix3 0 r d)
      = (m ((c : Thread nD τ).loc main_arg4)) (ix3 b ⟨256 + (256 * q.val + r.val), by omega⟩ d) := by
  have e := (idx_rows t h0).2.2.2.2.2.2.1
  blk_ext [iblk, V, e]

/-- Window 7: 256 rows of argument 5. -/
theorem read7 (c : Dev nD) (t : Fin cfg0.N) (b : Fin 32) (q : Fin 8) (hb : b.val = t.val / 9) (hq : q.val = t.val % 9 - 1) (h0 : 1 ≤ t.val % 9) (r : Fin 256) (d : Fin 512) :
    (show FVec Ideal S1x256x512 .bf16 from iblk m c 7 t) (ix3 0 r d)
      = (m ((c : Thread nD τ).loc main_arg5)) (ix3 b ⟨256 + (256 * q.val + r.val), by omega⟩ d) := by
  have e := (idx_rows t h0).2.2.2.2.2.2.2.1
  blk_ext [iblk, V, e]

/-- Window 8: 256 rows of argument 6. -/
theorem read8 (c : Dev nD) (t : Fin cfg0.N) (b : Fin 32) (q : Fin 8) (hb : b.val = t.val / 9) (hq : q.val = t.val % 9 - 1) (h0 : 1 ≤ t.val % 9) (r : Fin 256) (d : Fin 4096) :
    (show FVec Ideal S1x256x4096 .bf16 from iblk m c 8 t) (ix3 0 r d)
      = (m ((c : Thread nD τ).loc main_arg6)) (ix3 b ⟨256 + (256 * q.val + r.val), by omega⟩ d) := by
  have e := (idx_rows t h0).2.2.2.2.2.2.2.2.1
  blk_ext [iblk, V, e]

/-- Window 1: the modulation of sequence `t / 9`. -/
theorem read1 (c : Dev nD) (t : Fin cfg0.N) (b : Fin 32) (q : Fin 8) (hb : b.val = t.val / 9) (hq : q.val = t.val % 9 - 1) (h0 : 1 ≤ t.val % 9) (s : Fin 6) (d : Fin 1024) :
    (show FVec Ideal S1x6x1024 .f32 from iblk m c 1 t) (ix3 0 s d) = (m ((c : Thread nD τ).loc main_arg1)) (ix3 ⟨b.val, by omega⟩ s d) := by
  have e := (idx_rows t h0).2.1
  blk_ext [iblk, V, e]

/-- Window 4: the last of the sixteen rows before the tile. -/
theorem read4 (c : Dev nD) (t : Fin cfg0.N) (b : Fin 32) (q : Fin 8) (hb : b.val = t.val / 9) (hq : q.val = t.val % 9 - 1) (h0 : 1 ≤ t.val % 9) (h1 : 1 ≤ q.val) (d : Fin 1536) :
    (show FVec Ideal S1x16x1536 .bf16 from iblk m c 4 t) (ix3 0 15 d) = (m ((c : Thread nD τ).loc main_arg3)) (ix3 b ⟨256 + (256 * q.val - 1), by omega⟩ d) := by
  have e := (idx_rows t h0).2.2.2.2.1
  have e15 : ((15 : Fin 16) : ℕ) = 15 := rfl
  blk_ext [iblk, V, e]

/-- Window 5: the first of the sixteen rows after the tile, where there is one. -/
theorem read5 (c : Dev nD) (t : Fin cfg0.N) (b : Fin 32) (q : Fin 8) (hb : b.val = t.val / 9) (hq : q.val = t.val % 9 - 1) (h0 : 1 ≤ t.val % 9) (h8 : q.val < 7) (d : Fin 1536) :
    (show FVec Ideal S1x16x1536 .bf16 from iblk m c 5 t) (ix3 0 0 d) = (m ((c : Thread nD τ).loc main_arg3)) (ix3 b ⟨256 + (256 * q.val + 257 - 1), by omega⟩ d) := by
  have e := (idx_rows t h0).2.2.2.2.2.1
  rw [if_neg (by omega)] at e
  blk_ext [iblk, V, e]

/-- Window 9: argument 7, whole. -/
theorem read9 (c : Dev nD) (t : Fin cfg0.N) (a : Fin 3) (e : Fin 512) :
    (show FVec Ideal S3x512 .f32 from iblk m c 9 t) (ix2 a e) = (m ((c : Thread nD τ).loc main_arg7)) (ix2 a e) := by
  have e := (idx_whole t).1
  blk_ext [iblk, V, e]

/-- Window 10: argument 8, whole. -/
theorem read10 (c : Dev nD) (t : Fin cfg0.N) (s : Fin 4) (a : Fin 512) (e : Fin 1024) :
    (show FVec Ideal S4x512x1024 .bf16 from iblk m c 10 t) (ix3 s a e) = (m ((c : Thread nD τ).loc main_arg8)) (ix3 s a e) := by
  have e := (idx_whole t).2.1
  blk_point [iblk, V, e]

/-- Window 11: argument 9, whole. -/
theorem read11 (c : Dev nD) (t : Fin cfg0.N) (a e : Fin 1024) :
    (show FVec Ideal S1024x1024 .bf16 from iblk m c 11 t) (ix2 a e) = (m ((c : Thread nD τ).loc main_arg9)) (ix2 a e) := by
  have e := (idx_whole t).2.2.1
  blk_point [iblk, V, e]

/-- Window 13: argument 11, whole. -/
theorem read13 (c : Dev nD) (t : Fin cfg0.N) (a : Fin 1024) (e : Fin 4096) :
    (show FVec Ideal S1024x4096 .bf16 from iblk m c 13 t) (ix2 a e) = (m ((c : Thread nD τ).loc main_arg11)) (ix2 a e) := by
  have e := (idx_whole t).2.2.2.2.1
  blk_point [iblk, V, e]

/-- Window 14: argument 12, whole. -/
theorem read14 (c : Dev nD) (t : Fin cfg0.N) (a : Fin 4096) (e : Fin 1024) :
    (show FVec Ideal S4096x1024 .bf16 from iblk m c 14 t) (ix2 a e) = (m ((c : Thread nD τ).loc main_arg12)) (ix2 a e) := by
  have e := (idx_whole t).2.2.2.2.2.1
  blk_point [iblk, V, e]

/-- Window 12: argument 10 as one row. -/
theorem read12 (c : Dev nD) (t : Fin cfg0.N) (e : Fin 1024) :
    (show FVec Ideal S1x1024 .f32 from iblk m c 12 t) (ix2 0 e) = (m ((c : Thread nD τ).loc main_arg10)) (ix1 e) := by
  have e := (idx_whole t).2.2.2.1
  blk_point [iblk, V, e]

/-- Window 15: argument 13 as one row. -/
theorem read15 (c : Dev nD) (t : Fin cfg0.N) (e : Fin 1024) :
    (show FVec Ideal S1x1024 .f32 from iblk m c 15 t) (ix2 0 e) = (m ((c : Thread nD τ).loc main_arg13)) (ix1 e) := by
  have e := (idx_whole t).2.2.2.2.2.2
  blk_point [iblk, V, e]

/-- The bit of the rows before: set from the second latent tile on. -/
theorem bit_top : ∀ t : Fin cfg0.N, 1 ≤ t.val % 9 →
    Scalar.andi (Scalar.cmpi CmpIPredicate.ne (BitVec.ofNat 32 ↑(grid0.coords t 1)) 0#32) (Scalar.cmpi CmpIPredicate.ne (BitVec.ofNat 32 ↑(grid0.coords t 1)) 1#32)
      = if t.val % 9 = 1 then 0#1 else 1#1 :=
  (by decide +kernel : ∀ t : Fin grid0.N, 1 ≤ t.val % 9 → _)

/-- The bit of the rows after: set up to the last tile but one. -/
theorem bit_bottom : ∀ t : Fin cfg0.N, 1 ≤ t.val % 9 →
    Scalar.andi (Scalar.cmpi CmpIPredicate.ne (BitVec.ofNat 32 ↑(grid0.coords t 1)) 0#32) (Scalar.cmpi CmpIPredicate.ne (BitVec.ofNat 32 ↑(grid0.coords t 1)) 8#32)
      = if t.val % 9 = 8 then 0#1 else 1#1 :=
  (by decide +kernel : ∀ t : Fin grid0.N, 1 ≤ t.val % 9 → _)

end Cert.PostIdeal.Hand

end
-- ==== Proof.PostValue.lean ====
/-
What the step's call leaves in its result array: the reference's term.
-/
module

public import proofs.«01_k».proof.Proof.PostConv
public import proofs.«01_k».proof.Proof.PostPure
public import proofs.«01_k».proof.Proof.PostReads
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostIdeal.Hand

open Cert.PostIdeal Cert.PostIdeal.Gen
open Cert.PostRefIdeal.Hand (sx gates scx refSc refX1 refH refX2 refOut refAll)

variable (m : (ℓ : Loc nD τ sig) → Buf (Elt Ideal) ℓ)

/-- The whole step over the call's argument arrays. -/
abbrev target (c : Dev nD) : FVec Ideal Cert.PostRefIdeal.S32x2048x1024 .f32 :=
  refAll (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-- The result array after the call is the reference's term. -/
theorem final (c : Dev nD) : (dats m 0 c).arrAt 16 (cfgs 0).N = target m c := by
  refine (dats m 0 c).arrAt_eq_of_covers 16 _ covers16 fun t hf y => ?_
  have h0 := flush_mod t hf
  blk_simp
  rw [after0_16, outsAt0_B m c t h0]
  frame_out
  have hN : t.val < 288 := lt_of_lt_of_eq t.isLt N_0
  obtain ⟨r, d, rfl⟩ : ∃ (r : Fin 256) (d : Fin 1024), y = ix3 0 r d := ⟨y 1, y 2, by blk_ext⟩
  obtain ⟨b, hb⟩ : ∃ b : Fin 32, b.val = t.val / 9 := ⟨⟨t.val / 9, by omega⟩, rfl⟩
  obtain ⟨q, hq⟩ : ∃ q : Fin 8, q.val = t.val % 9 - 1 := ⟨⟨t.val % 9 - 1, by omega⟩, rfl⟩
  have hemb : ((View.whole main_v6).slice (win0_16.rect t)).emb (ix3 0 r d) = ix3 b ⟨256 * q.val + r.val, by omega⟩ d := by
    have e := (idx_rows t h0).2.2.2.2.2.2.2.2.2
    blk_ext [e]
  rw [hemb]
  refine out_point _ _ b q _ _ _ _ _ _ (fun r d => x2_point _ _ _ _ _ b q _ _ _ _ _ ?_ (fun r d => x1_point _ _ _ _ _ _ _ _ _ b q _ _ _ _ _ _ _ _ _ _ _ _ _ _ _ ?_
    (fun r k => conv_point _ _ b q _ _ _ _ _ _ ?_ ?_ ?_ ?_ ?_ r k) ?_ ?_ ?_ ?_ ?_ ?_ ?_ ?_ ?_ ?_ ?_ ?_ ?_ r d) ?_ ?_ ?_ r d) ?_ r d
  case refine_1 => exact fun s d => read1 m c t b q hb hq h0 s d
  case refine_2 => exact fun s d => read1 m c t b q hb hq h0 s d
  case refine_3 =>
    intro k
    rw [scx_at]
    pointwise [k0_pay5]
    rw [bit_top t h0]
    by_cases h1 : 1 ≤ q.val
    · rw [if_neg (by omega), dif_pos (by omega)]
      exact congrArg₂ (· * ·) (read4 m c t b q hb hq h0 h1 _) (read4 m c t b q hb hq h0 h1 _)
    · rw [if_pos (by omega), dif_neg (by omega)]
      rfl
  case refine_4 =>
    intro r k
    rw [scx_at, dif_pos (by simp only []; omega)]
    pointwise [k0_pay3]
    exact congrArg₂ (· * ·) (read3 m c t b q hb hq h0 r _) (read3 m c t b q hb hq h0 r _)
  case refine_5 =>
    intro k
    rw [scx_at]
    pointwise [k0_pay4]
    rw [bit_bottom t h0]
    by_cases h1 : q.val < 7
    · rw [if_neg (by omega), dif_pos (by omega)]
      exact congrArg₂ (· * ·) (read5 m c t b q hb hq h0 h1 _) (read5 m c t b q hb hq h0 h1 _)
    · rw [if_pos (by omega), dif_neg (by omega)]
      rfl
  case refine_6 => exact fun a e => read9 m c t a e
  case refine_7 => exact fun r k => by pointwise; exact read3 m c t b q hb hq h0 r _
  case refine_8 => exact fun r k => read6 m c t b q hb hq h0 r k
  case refine_9 => exact fun r k => read7 m c t b q hb hq h0 r k
  case refine_10 => exact fun r k => read2 m c t b q hb hq h0 r k
  case refine_11 => exact fun r k => by pointwise; exact read8 m c t b q hb hq h0 r _
  case refine_12 => exact fun r k => by pointwise; exact read8 m c t b q hb hq h0 r _
  case refine_13 => exact fun r k => by pointwise; exact read8 m c t b q hb hq h0 r _
  case refine_14 => exact fun r k => by pointwise; exact read8 m c t b q hb hq h0 r _
  case refine_15 => exact fun r k => by pointwise; exact read10 m c t _ r k
  case refine_16 => exact fun r k => by pointwise; exact read10 m c t _ r k
  case refine_17 => exact fun r k => by pointwise; exact read10 m c t _ r k
  case refine_18 => exact fun r k => by pointwise; exact read10 m c t _ r k
  case refine_19 => exact fun r k => read0 m c t b q hb hq h0 r k
  case refine_20 => exact fun a e => read11 m c t a e
  case refine_21 => exact fun e => read12 m c t e
  case refine_22 => exact fun a e => read13 m c t a e
  case refine_23 => exact fun a e => read14 m c t a e
  case refine_24 => exact fun e => read15 m c t e

end Cert.PostIdeal.Hand

end
-- ==== Proof.PostRefRun.lean ====
/-
The reference of the last step, run: its result is the composed mathematics of its arguments.
-/
module

public import proofs.«01_k».proof.Proof.PostRef

@[expose] public section

set_option maxRecDepth 16384

noncomputable section

namespace Cert.PostRefIdeal.Hand

open Cert.PostRefIdeal Cert.PostRefIdeal.Gen Cert.PostRefIdeal.Value Idealize.ShloMosaic Idealize.ShloMosaic.TcCoe Idealize.SL.Sem
  Idealize.ShloMosaic.StableHlo

section stages

variable (V : Valuation τ sig (Elt Ideal))

/-- The padded inputs of the convolution. -/
theorem stage_scx : res_main_v33 V = scx (V (Proc.devRef .tc main_arg3)) := rfl

/-- The residual stream after the branches. -/
theorem stage_x1 : res_main_v83 V = (refX1 (refSc (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9))) := rfl

/-- The hidden layer. -/
theorem stage_h : res_main_v104 V = (refH (refX1 (refSc (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9))) (V (Proc.devRef .tc main_arg1)) (V (Proc.devRef .tc main_arg10)) (V (Proc.devRef .tc main_arg11))) := by
  unfold res_main_v104; rw [stage_x1 V]; rfl

/-- The residual stream after the feed-forward step. -/
theorem stage_x2 : res_main_v109 V = (refX2 (refX1 (refSc (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9))) (refH (refX1 (refSc (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9))) (V (Proc.devRef .tc main_arg1)) (V (Proc.devRef .tc main_arg10)) (V (Proc.devRef .tc main_arg11))) (V (Proc.devRef .tc main_arg1)) (V (Proc.devRef .tc main_arg12))) := by
  unfold res_main_v109; rw [stage_h V, stage_x1 V]; rfl

end stages

variable (m : (ℓ : Loc nD τ sig) → Buf (Elt Ideal) ℓ) (ρ : Dev nD → PrngReg)

/-- The reference terminates with the whole step in its result, its arguments unchanged. -/
theorem run : θ_run defs (onTc (τ := τ) (main (F := Ideal))) ⟨m, fun _ => 0, ρ⟩ fun r => ∀ c : Dev nD,
    r.2.mem ((c.tc : Thread nD τ).loc main_v122) = refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) := by
  refine (θ_run defs _ _).mono (fun r h c => ?_) (Value.run m ρ)
  obtain ⟨h, hargs⟩ := h c
  exact ⟨h.trans (by rw [stage_x2]; rfl), hargs⟩

end Cert.PostRefIdeal.Hand

end
-- ==== Proof.MidRef.lean ====
/-
The mathematics of the step that closes an inner layer, as the reference writes it, stage by stage over named arrays: the context rows
(C) and the latent rows (L).
-/
module

public import Idealize.ShloMosaic.PureOps.Ideal
public import proofs.«01_k».proof.Proof.Gen.MidRefIdeal.Run

@[expose] public section

set_option maxRecDepth 16384

noncomputable section

namespace Cert.MidRefIdeal.Hand

open Cert.MidRefIdeal Cert.MidRefIdeal.Gen Idealize.ShloMosaic Idealize.ShloMosaic.TcCoe Idealize.SL.Sem Idealize.ShloMosaic.StableHlo

/-- The modulation of the context rows. -/
def modC (a1 : FVec Ideal S33x6x1024 .f32) : FVec Ideal S1x6x1024 .f32 :=
  extractStridedSlice S1x6x1024 ![32, 0, 0] a1 slices_S33x6x1024_S1x6x1024_32_0_0

/-- The short convolution's inputs on the context rows. -/
def sxC (a3 : FVec Ideal S32x2304x1536 .bf16) : FVec Ideal S32x256x1536 .f32 :=
  extf .f32 (extractStridedSlice S32x256x1536 ![0, 0, 0] a3 slices_S32x2304x1536_S32x256x1536_0_0_0) bitsLt_bf16_f32

/-- The gates on the context rows. -/
def gatesC (a6 : FVec Ideal S32x2304x4096 .bf16) : FVec Ideal S32x256x4096 .f32 :=
  extf .f32 (extractStridedSlice S32x256x4096 ![0, 0, 0] a6 slices_S32x2304x4096_S32x256x4096_0_0_0) bitsLt_bf16_f32

/-- The product the convolution runs over, one zero row either side. -/
def scxC (a3 : FVec Ideal S32x2304x1536 .bf16) : FVec Ideal S32x258x512 .f32 :=
  pad S32x258x512 ![0, 1, 0] ![0, 1, 0] ![0, 0, 0] (mulf (extractStridedSlice S32x256x512 ![0, 0, 512] (sxC a3) slices_S32x256x1536_S32x256x512_0_0_512) (extractStridedSlice S32x256x512 ![0, 0, 1024] (sxC a3) slices_S32x256x1536_S32x256x512_0_0_1024)) (sitofp .f32 (constantI S_ 32 0#32)) pads_S32x256x512_S32x258x512_000_110_000 h_S_

/-- The short convolution's branch on the context rows. -/
def refScC (a3 : FVec Ideal S32x2304x1536 .bf16) (a7 : FVec Ideal S3x512 .f32) : FVec Ideal S32x256x512 .f32 :=
  mulf (extractStridedSlice S32x256x512 ![0, 0, 0] (sxC a3) slices_S32x256x1536_S32x256x512_0_0_0) (addf (addf (addf (broadcastInDim S32x256x512 ![] bcast_S_S32x256x512 (constant S_ .f32 0x00000000#32)) (mulf (extractStridedSlice S32x256x512 ![0, 0, 0] (scxC a3) slices_S32x258x512_S32x256x512_0_0_0) (broadcastInDim S32x256x512 ![0, 1, 2] bcast_S1x1x512_S32x256x512_0_1_2 (broadcastInDim S1x1x512 ![2] bcast_S512_S1x1x512_2 (shapeCast _ (extractStridedSlice S1x512 ![0, 0] a7 slices_S3x512_S1x512_0_0) shapeCasts_S1x512_S512))))) (mulf (extractStridedSlice S32x256x512 ![0, 1, 0] (scxC a3) slices_S32x258x512_S32x256x512_0_1_0) (broadcastInDim S32x256x512 ![0, 1, 2] bcast_S1x1x512_S32x256x512_0_1_2 (broadcastInDim S1x1x512 ![2] bcast_S512_S1x1x512_2 (shapeCast _ (extractStridedSlice S1x512 ![1, 0] a7 slices_S3x512_S1x512_1_0) shapeCasts_S1x512_S512))))) (mulf (extractStridedSlice S32x256x512 ![0, 2, 0] (scxC a3) slices_S32x258x512_S32x256x512_0_2_0) (broadcastInDim S32x256x512 ![0, 1, 2] bcast_S1x1x512_S32x256x512_0_1_2 (broadcastInDim S1x1x512 ![2] bcast_S512_S1x1x512_2 (shapeCast _ (extractStridedSlice S1x512 ![2, 0] a7 slices_S3x512_S1x512_2_0) shapeCasts_S1x512_S512)))))

/-- The context rows after the gated sum of the four branches, the convolution's branch `sc` given. -/
def refX1C (sc : FVec Ideal S32x256x512 .f32) (a0 : FVec Ideal S32x2304x1024 .f32) (a1 : FVec Ideal S33x6x1024 .f32) (a2 : FVec Ideal S32x2304x512 .bf16) (a4 : FVec Ideal S32x2304x512 .bf16) (a5 : FVec Ideal S32x2304x512 .bf16) (a6 : FVec Ideal S32x2304x4096 .bf16) (a8 : FVec Ideal S4x512x1024 .f32) (a9 : FVec Ideal S1024x1024 .f32) : FVec Ideal S32x256x1024 .f32 :=
  addf (extractStridedSlice S32x256x1024 ![0, 0, 0] a0 slices_S32x2304x1024_S32x256x1024_0_0_0) (mulf (broadcastInDim S32x256x1024 ![0, 1, 2] bcast_S1x1x1024_S32x256x1024_0_1_2 (broadcastInDim S1x1x1024 ![0, 2] bcast_S1x1024_S1x1x1024_0_2 (shapeCast _ (extractStridedSlice S1x1x1024 ![0, 2, 0] (modC a1) slices_S1x6x1024_S1x1x1024_0_2_0) shapeCasts_S1x1x1024_S1x1024))) (Host.dotGeneral dot_S32x256x1024_S1024x1024_S32x256x1024_2_0_01_1_n_n none (addf (addf (addf (mulf (extractStridedSlice S32x256x1024 ![0, 0, 0] (gatesC a6) slices_S32x256x4096_S32x256x1024_0_0_0) (Host.dotGeneral dot_S32x256x512_S512x1024_S32x256x1024_2_0_01_1_n_n none (extf .f32 (extractStridedSlice S32x256x512 ![0, 0, 0] a2 slices_S32x2304x512_S32x256x512_0_0_0) bitsLt_bf16_f32) (shapeCast _ (extractStridedSlice S1x512x1024 ![0, 0, 0] a8 slices_S4x512x1024_S1x512x1024_0_0_0) shapeCasts_S1x512x1024_S512x1024))) (mulf (extractStridedSlice S32x256x1024 ![0, 0, 1024] (gatesC a6) slices_S32x256x4096_S32x256x1024_0_0_1024) (Host.dotGeneral dot_S32x256x512_S512x1024_S32x256x1024_2_0_01_1_n_n none sc (shapeCast _ (extractStridedSlice S1x512x1024 ![1, 0, 0] a8 slices_S4x512x1024_S1x512x1024_1_0_0) shapeCasts_S1x512x1024_S512x1024)))) (mulf (extractStridedSlice S32x256x1024 ![0, 0, 2048] (gatesC a6) slices_S32x256x4096_S32x256x1024_0_0_2048) (Host.dotGeneral dot_S32x256x512_S512x1024_S32x256x1024_2_0_01_1_n_n none (extf .f32 (extractStridedSlice S32x256x512 ![0, 0, 0] a4 slices_S32x2304x512_S32x256x512_0_0_0) bitsLt_bf16_f32) (shapeCast _ (extractStridedSlice S1x512x1024 ![2, 0, 0] a8 slices_S4x512x1024_S1x512x1024_2_0_0) shapeCasts_S1x512x1024_S512x1024)))) (mulf (extractStridedSlice S32x256x1024 ![0, 0, 3072] (gatesC a6) slices_S32x256x4096_S32x256x1024_0_0_3072) (Host.dotGeneral dot_S32x256x512_S512x1024_S32x256x1024_2_0_01_1_n_n none (extf .f32 (extractStridedSlice S32x256x512 ![0, 0, 0] a5 slices_S32x2304x512_S32x256x512_0_0_0) bitsLt_bf16_f32) (shapeCast _ (extractStridedSlice S1x512x1024 ![3, 0, 0] a8 slices_S4x512x1024_S1x512x1024_3_0_0) shapeCasts_S1x512x1024_S512x1024)))) a9))

/-- The hidden layer of the feed-forward step on the context rows. -/
def refHC (x1 : FVec Ideal S32x256x1024 .f32) (a1 : FVec Ideal S33x6x1024 .f32) (a10 : FVec Ideal S1024 .f32) (a11 : FVec Ideal S1024x4096 .f32) : FVec Ideal S32x256x4096 .f32 :=
  maximumf (Host.dotGeneral dot_S32x256x1024_S1024x4096_S32x256x4096_2_0_01_1_n_n none (addf (mulf (mulf (mulf x1 (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x1 x1) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 a10))) (broadcastInDim S32x256x1024 ![0, 1, 2] bcast_S1x1x1024_S32x256x1024_0_1_2 (addf (broadcastInDim S1x1x1024 ![] bcast_S_S1x1x1024 (constant S_ .f32 0x3F800000#32)) (broadcastInDim S1x1x1024 ![0, 2] bcast_S1x1024_S1x1x1024_0_2 (shapeCast _ (extractStridedSlice S1x1x1024 ![0, 4, 0] (modC a1) slices_S1x6x1024_S1x1x1024_0_4_0) shapeCasts_S1x1x1024_S1x1024))))) (broadcastInDim S32x256x1024 ![0, 1, 2] bcast_S1x1x1024_S32x256x1024_0_1_2 (broadcastInDim S1x1x1024 ![0, 2] bcast_S1x1024_S1x1x1024_0_2 (shapeCast _ (extractStridedSlice S1x1x1024 ![0, 3, 0] (modC a1) slices_S1x6x1024_S1x1x1024_0_3_0) shapeCasts_S1x1x1024_S1x1024)))) a11) (broadcastInDim S32x256x4096 ![] bcast_S_S32x256x4096 (constant S_ .f32 0x00000000#32))

/-- The context rows after the feed-forward step. -/
def refX2C (x1 : FVec Ideal S32x256x1024 .f32) (h : FVec Ideal S32x256x4096 .f32) (a1 : FVec Ideal S33x6x1024 .f32) (a12 : FVec Ideal S4096x1024 .f32) : FVec Ideal S32x256x1024 .f32 :=
  addf x1 (mulf (broadcastInDim S32x256x1024 ![0, 1, 2] bcast_S1x1x1024_S32x256x1024_0_1_2 (broadcastInDim S1x1x1024 ![0, 2] bcast_S1x1024_S1x1x1024_0_2 (shapeCast _ (extractStridedSlice S1x1x1024 ![0, 5, 0] (modC a1) slices_S1x6x1024_S1x1x1024_0_5_0) shapeCasts_S1x1x1024_S1x1024))) (Host.dotGeneral dot_S32x256x4096_S4096x1024_S32x256x1024_2_0_01_1_n_n none (mulf h h) a12))

/-- The context rows after the whole step. -/
def refC (a0 : FVec Ideal S32x2304x1024 .f32) (a1 : FVec Ideal S33x6x1024 .f32) (a2 : FVec Ideal S32x2304x512 .bf16) (a3 : FVec Ideal S32x2304x1536 .bf16) (a4 : FVec Ideal S32x2304x512 .bf16) (a5 : FVec Ideal S32x2304x512 .bf16) (a6 : FVec Ideal S32x2304x4096 .bf16) (a7 : FVec Ideal S3x512 .f32) (a8 : FVec Ideal S4x512x1024 .f32) (a9 : FVec Ideal S1024x1024 .f32) (a10 : FVec Ideal S1024 .f32) (a11 : FVec Ideal S1024x4096 .f32) (a12 : FVec Ideal S4096x1024 .f32) : FVec Ideal S32x256x1024 .f32 :=
  refX2C (refX1C (refScC a3 a7) a0 a1 a2 a4 a5 a6 a8 a9) (refHC (refX1C (refScC a3 a7) a0 a1 a2 a4 a5 a6 a8 a9) a1 a10 a11) a1 a12

/-- The modulation of the latent rows. -/
def modL (a1 : FVec Ideal S33x6x1024 .f32) : FVec Ideal S32x6x1024 .f32 :=
  extractStridedSlice S32x6x1024 ![0, 0, 0] a1 slices_S33x6x1024_S32x6x1024_0_0_0

/-- The short convolution's inputs on the latent rows. -/
def sxL (a3 : FVec Ideal S32x2304x1536 .bf16) : FVec Ideal S32x2048x1536 .f32 :=
  extf .f32 (extractStridedSlice S32x2048x1536 ![0, 256, 0] a3 slices_S32x2304x1536_S32x2048x1536_0_256_0) bitsLt_bf16_f32

/-- The gates on the latent rows. -/
def gatesL (a6 : FVec Ideal S32x2304x4096 .bf16) : FVec Ideal S32x2048x4096 .f32 :=
  extf .f32 (extractStridedSlice S32x2048x4096 ![0, 256, 0] a6 slices_S32x2304x4096_S32x2048x4096_0_256_0) bitsLt_bf16_f32

/-- The product the convolution runs over, one zero row either side. -/
def scxL (a3 : FVec Ideal S32x2304x1536 .bf16) : FVec Ideal S32x2050x512 .f32 :=
  pad S32x2050x512 ![0, 1, 0] ![0, 1, 0] ![0, 0, 0] (mulf (extractStridedSlice S32x2048x512 ![0, 0, 512] (sxL a3) slices_S32x2048x1536_S32x2048x512_0_0_512) (extractStridedSlice S32x2048x512 ![0, 0, 1024] (sxL a3) slices_S32x2048x1536_S32x2048x512_0_0_1024)) (sitofp .f32 (constantI S_ 32 0#32)) pads_S32x2048x512_S32x2050x512_000_110_000 h_S_

/-- The short convolution's branch on the latent rows. -/
def refScL (a3 : FVec Ideal S32x2304x1536 .bf16) (a7 : FVec Ideal S3x512 .f32) : FVec Ideal S32x2048x512 .f32 :=
  mulf (extractStridedSlice S32x2048x512 ![0, 0, 0] (sxL a3) slices_S32x2048x1536_S32x2048x512_0_0_0) (addf (addf (addf (broadcastInDim S32x2048x512 ![] bcast_S_S32x2048x512 (constant S_ .f32 0x00000000#32)) (mulf (extractStridedSlice S32x2048x512 ![0, 0, 0] (scxL a3) slices_S32x2050x512_S32x2048x512_0_0_0) (broadcastInDim S32x2048x512 ![0, 1, 2] bcast_S1x1x512_S32x2048x512_0_1_2 (broadcastInDim S1x1x512 ![2] bcast_S512_S1x1x512_2 (shapeCast _ (extractStridedSlice S1x512 ![0, 0] a7 slices_S3x512_S1x512_0_0) shapeCasts_S1x512_S512))))) (mulf (extractStridedSlice S32x2048x512 ![0, 1, 0] (scxL a3) slices_S32x2050x512_S32x2048x512_0_1_0) (broadcastInDim S32x2048x512 ![0, 1, 2] bcast_S1x1x512_S32x2048x512_0_1_2 (broadcastInDim S1x1x512 ![2] bcast_S512_S1x1x512_2 (shapeCast _ (extractStridedSlice S1x512 ![1, 0] a7 slices_S3x512_S1x512_1_0) shapeCasts_S1x512_S512))))) (mulf (extractStridedSlice S32x2048x512 ![0, 2, 0] (scxL a3) slices_S32x2050x512_S32x2048x512_0_2_0) (broadcastInDim S32x2048x512 ![0, 1, 2] bcast_S1x1x512_S32x2048x512_0_1_2 (broadcastInDim S1x1x512 ![2] bcast_S512_S1x1x512_2 (shapeCast _ (extractStridedSlice S1x512 ![2, 0] a7 slices_S3x512_S1x512_2_0) shapeCasts_S1x512_S512)))))

/-- The latent rows after the gated sum of the four branches, the convolution's branch `sc` given. -/
def refX1L (sc : FVec Ideal S32x2048x512 .f32) (a0 : FVec Ideal S32x2304x1024 .f32) (a1 : FVec Ideal S33x6x1024 .f32) (a2 : FVec Ideal S32x2304x512 .bf16) (a4 : FVec Ideal S32x2304x512 .bf16) (a5 : FVec Ideal S32x2304x512 .bf16) (a6 : FVec Ideal S32x2304x4096 .bf16) (a8 : FVec Ideal S4x512x1024 .f32) (a9 : FVec Ideal S1024x1024 .f32) : FVec Ideal S32x2048x1024 .f32 :=
  addf (extractStridedSlice S32x2048x1024 ![0, 256, 0] a0 slices_S32x2304x1024_S32x2048x1024_0_256_0) (mulf (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 2, 0] (modL a1) slices_S32x6x1024_S32x1x1024_0_2_0) shapeCasts_S32x1x1024_S32x1024))) (Host.dotGeneral dot_S32x2048x1024_S1024x1024_S32x2048x1024_2_0_01_1_n_n none (addf (addf (addf (mulf (extractStridedSlice S32x2048x1024 ![0, 0, 0] (gatesL a6) slices_S32x2048x4096_S32x2048x1024_0_0_0) (Host.dotGeneral dot_S32x2048x512_S512x1024_S32x2048x1024_2_0_01_1_n_n none (extf .f32 (extractStridedSlice S32x2048x512 ![0, 256, 0] a2 slices_S32x2304x512_S32x2048x512_0_256_0) bitsLt_bf16_f32) (shapeCast _ (extractStridedSlice S1x512x1024 ![0, 0, 0] a8 slices_S4x512x1024_S1x512x1024_0_0_0) shapeCasts_S1x512x1024_S512x1024))) (mulf (extractStridedSlice S32x2048x1024 ![0, 0, 1024] (gatesL a6) slices_S32x2048x4096_S32x2048x1024_0_0_1024) (Host.dotGeneral dot_S32x2048x512_S512x1024_S32x2048x1024_2_0_01_1_n_n none sc (shapeCast _ (extractStridedSlice S1x512x1024 ![1, 0, 0] a8 slices_S4x512x1024_S1x512x1024_1_0_0) shapeCasts_S1x512x1024_S512x1024)))) (mulf (extractStridedSlice S32x2048x1024 ![0, 0, 2048] (gatesL a6) slices_S32x2048x4096_S32x2048x1024_0_0_2048) (Host.dotGeneral dot_S32x2048x512_S512x1024_S32x2048x1024_2_0_01_1_n_n none (extf .f32 (extractStridedSlice S32x2048x512 ![0, 256, 0] a4 slices_S32x2304x512_S32x2048x512_0_256_0) bitsLt_bf16_f32) (shapeCast _ (extractStridedSlice S1x512x1024 ![2, 0, 0] a8 slices_S4x512x1024_S1x512x1024_2_0_0) shapeCasts_S1x512x1024_S512x1024)))) (mulf (extractStridedSlice S32x2048x1024 ![0, 0, 3072] (gatesL a6) slices_S32x2048x4096_S32x2048x1024_0_0_3072) (Host.dotGeneral dot_S32x2048x512_S512x1024_S32x2048x1024_2_0_01_1_n_n none (extf .f32 (extractStridedSlice S32x2048x512 ![0, 256, 0] a5 slices_S32x2304x512_S32x2048x512_0_256_0) bitsLt_bf16_f32) (shapeCast _ (extractStridedSlice S1x512x1024 ![3, 0, 0] a8 slices_S4x512x1024_S1x512x1024_3_0_0) shapeCasts_S1x512x1024_S512x1024)))) a9))

/-- The hidden layer of the feed-forward step on the latent rows. -/
def refHL (x1 : FVec Ideal S32x2048x1024 .f32) (a1 : FVec Ideal S33x6x1024 .f32) (a10 : FVec Ideal S1024 .f32) (a11 : FVec Ideal S1024x4096 .f32) : FVec Ideal S32x2048x4096 .f32 :=
  maximumf (Host.dotGeneral dot_S32x2048x1024_S1024x4096_S32x2048x4096_2_0_01_1_n_n none (addf (mulf (mulf (mulf x1 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x1 x1) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 a10))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (shapeCast _ (extractStridedSlice S32x1x1024 ![0, 4, 0] (modL a1) slices_S32x6x1024_S32x1x1024_0_4_0) shapeCasts_S32x1x1024_S32x1024))))) (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 3, 0] (modL a1) slices_S32x6x1024_S32x1x1024_0_3_0) shapeCasts_S32x1x1024_S32x1024)))) a11) (broadcastInDim S32x2048x4096 ![] bcast_S_S32x2048x4096 (constant S_ .f32 0x00000000#32))

/-- The latent rows after the feed-forward step. -/
def refX2L (x1 : FVec Ideal S32x2048x1024 .f32) (h : FVec Ideal S32x2048x4096 .f32) (a1 : FVec Ideal S33x6x1024 .f32) (a12 : FVec Ideal S4096x1024 .f32) : FVec Ideal S32x2048x1024 .f32 :=
  addf x1 (mulf (broadcastInDim S32x2048x1024 ![0, 1, 2] bcast_S32x1x1024_S32x2048x1024_0_1_2 (broadcastInDim S32x1x1024 ![0, 2] bcast_S32x1024_S32x1x1024_0_2 (shapeCast _ (extractStridedSlice S32x1x1024 ![0, 5, 0] (modL a1) slices_S32x6x1024_S32x1x1024_0_5_0) shapeCasts_S32x1x1024_S32x1024))) (Host.dotGeneral dot_S32x2048x4096_S4096x1024_S32x2048x1024_2_0_01_1_n_n none (mulf h h) a12))

/-- The latent rows after the whole step. -/
def refL (a0 : FVec Ideal S32x2304x1024 .f32) (a1 : FVec Ideal S33x6x1024 .f32) (a2 : FVec Ideal S32x2304x512 .bf16) (a3 : FVec Ideal S32x2304x1536 .bf16) (a4 : FVec Ideal S32x2304x512 .bf16) (a5 : FVec Ideal S32x2304x512 .bf16) (a6 : FVec Ideal S32x2304x4096 .bf16) (a7 : FVec Ideal S3x512 .f32) (a8 : FVec Ideal S4x512x1024 .f32) (a9 : FVec Ideal S1024x1024 .f32) (a10 : FVec Ideal S1024 .f32) (a11 : FVec Ideal S1024x4096 .f32) (a12 : FVec Ideal S4096x1024 .f32) : FVec Ideal S32x2048x1024 .f32 :=
  refX2L (refX1L (refScL a3 a7) a0 a1 a2 a4 a5 a6 a8 a9) (refHL (refX1L (refScL a3 a7) a0 a1 a2 a4 a5 a6 a8 a9) a1 a10 a11) a1 a12

/-- The whole step on both streams. -/
def refAll (a0 : FVec Ideal S32x2304x1024 .f32) (a1 : FVec Ideal S33x6x1024 .f32) (a2 : FVec Ideal S32x2304x512 .bf16) (a3 : FVec Ideal S32x2304x1536 .bf16) (a4 : FVec Ideal S32x2304x512 .bf16) (a5 : FVec Ideal S32x2304x512 .bf16) (a6 : FVec Ideal S32x2304x4096 .bf16) (a7 : FVec Ideal S3x512 .f32) (a8 : FVec Ideal S4x512x1024 .f32) (a9 : FVec Ideal S1024x1024 .f32) (a10 : FVec Ideal S1024 .f32) (a11 : FVec Ideal S1024x4096 .f32) (a12 : FVec Ideal S4096x1024 .f32) : FVec Ideal S32x2304x1024 .f32 :=
  concatenate S32x2304x1024 1 [⟨S32x256x1024, refC a0 a1 a2 a3 a4 a5 a6 a7 a8 a9 a10 a11 a12⟩, ⟨S32x2048x1024, refL a0 a1 a2 a3 a4 a5 a6 a7 a8 a9 a10 a11 a12⟩] concatenates_S32x256x1024_S32x2048x1024_S32x2304x1024_d1

end Cert.MidRefIdeal.Hand

end
-- ==== Proof.MidConv.lean ====
/-
The short convolution of one tile of 256 rows, with its two neighbouring rows, is the reference's: on the context and on the latent
rows.
-/
module

public import proofs.«01_k».proof.Proof.MidRef
public import proofs.«01_k».proof.Proof.Gen.MidIdeal.Skeleton
public import Idealize.ShloMosaic.Lib.Pipeline.ValueKit

@[expose] public section

set_option maxRecDepth 16384

noncomputable section

namespace Cert.MidIdeal.Hand

open Cert.MidIdeal Cert.MidIdeal.Gen Idealize.ShloMosaic Idealize.ShloMosaic.TcCoe Idealize.SL.Sem
open Idealize.ShloMosaic.Pipeline (Dat)
open Cert.MidRefIdeal.Hand

/-- The convolution's branch of a tile of the context rows, its padded inputs given row by row. -/
theorem convC (a3 : FVec Ideal Cert.MidRefIdeal.S32x2304x1536 .bf16) (a7 : FVec Ideal Cert.MidRefIdeal.S3x512 .f32)
    (b : Fin 32) (v4 v7 : BitVec 1) (v14 : FVec Ideal S16x512 .f32) (v21 : FVec Ideal S256x512 .f32) (v28 : FVec Ideal S16x512 .f32)
    (v29 : Vec Ideal S3x512 .f32) (v53 : Vec Ideal S1x256x512 .bf16)
    (h14 : ∀ k : Fin 512, Scalar.select v4 (v14 (ix2 15 k)) (0 : EReal) = scxC a3 (ix3 b ⟨0, by omega⟩ k))
    (h21 : ∀ (r : Fin 256) (k : Fin 512), v21 (ix2 r k) = scxC a3 (ix3 b ⟨r.val + 1, by omega⟩ k))
    (h28 : ∀ k : Fin 512, Scalar.select v7 (v28 (ix2 0 k)) (0 : EReal) = scxC a3 (ix3 b ⟨257, by omega⟩ k))
    (h29 : ∀ (w : Fin 3) (k : Fin 512), v29 (ix2 w k) = a7 (ix2 w k))
    (h53 : ∀ (r : Fin 256) (k : Fin 512), v53 (ix3 0 r k) = a3 (ix3 b ⟨r.val, by omega⟩ ⟨k.val, by omega⟩))
    (r : Fin 256) (k : Fin 512) :
    k0_pay6 (F := Ideal) v4 v7 v14 v21 v28 v29 (Scalar.ofBits .f32 0x00000000#32) v53 (ix2 r k) = refScC a3 a7 (ix3 b r k) := by
  have hp : ∀ (p p' : Fin 258), p.val = p'.val → scxC a3 (ix3 b p k) = scxC a3 (ix3 b p' k) := fun p p' h => by
    rw [Fin.ext h]
  pointwise [k0_pay6, refScC, sxC, h29, h53]
  refine congrArg₂ (· * ·) rfl (congrArg₂ (· + ·) (congrArg₂ (· + ·) (congrArg₂ (· * ·) ?_ rfl) (congrArg₂ (· * ·) ?_ rfl)) (congrArg₂ (· * ·) ?_ rfl))
  · by_cases h0 : (16 + r.val + 288 - 1) % 288 < 16
    · rw [dif_pos h0]
      refine (congrArg (fun i => Scalar.select v4 (v14 (ix2 i k)) (0 : EReal)) (Fin.ext (?_ : _ = 15))).trans ((h14 k).trans (hp _ _ ?_))
      · show (16 + r.val + 288 - 1) % 288 = 15; omega
      · show 0 = r.val; omega
    · have h1 : (16 + r.val + 288 - 1) % 288 - 16 < 256 := by omega
      rw [dif_neg h0, dif_pos h1]
      refine (h21 _ k).trans (hp _ _ ?_)
      show ((16 + r.val + 288 - 1) % 288 - 16) + 1 = r.val; omega
  · refine (h21 _ k).trans (hp _ _ ?_)
    show r.val + 1 = 1 + (r.val); omega
  · have h0 : ¬ (16 + r.val + 288 - 287) % 288 < 16 := by omega
    rw [dif_neg h0]
    by_cases h1 : (16 + r.val + 288 - 287) % 288 - 16 < 256
    · rw [dif_pos h1]
      refine (h21 _ k).trans (hp _ _ ?_)
      show ((16 + r.val + 288 - 287) % 288 - 16) + 1 = 2 + (r.val); omega
    · rw [dif_neg h1]
      refine (congrArg (fun i => Scalar.select v7 (v28 (ix2 i k)) (0 : EReal)) (Fin.ext (?_ : _ = 0))).trans ((h28 k).trans (hp _ _ ?_))
      · show (16 + r.val + 288 - 287) % 288 - 16 - 256 = 0; omega
      · show 257 = 2 + (r.val); omega

/-- The padded inputs: a product of two columns of the row before, and zero on the two rows outside. -/
theorem scxC_at (a3 : FVec Ideal Cert.MidRefIdeal.S32x2304x1536 .bf16) (b : Fin 32) (p : Fin 258) (k : Fin 512) :
    scxC a3 (ix3 b p k) = if h : 1 ≤ p.val ∧ p.val - 1 < 256 then
      a3 (ix3 b ⟨p.val - 1, by omega⟩ ⟨512 + k.val, by omega⟩) * a3 (ix3 b ⟨p.val - 1, by omega⟩ ⟨1024 + k.val, by omega⟩)
    else 0 := by
  pointwise [scxC, sxC]
  simp [FloatOps.sitofp]

/-- The convolution's branch of a tile of the latent rows, its padded inputs given row by row. -/
theorem convL (a3 : FVec Ideal Cert.MidRefIdeal.S32x2304x1536 .bf16) (a7 : FVec Ideal Cert.MidRefIdeal.S3x512 .f32)
    (b : Fin 32) (q : Fin 8) (v4 v7 : BitVec 1) (v14 : FVec Ideal S16x512 .f32) (v21 : FVec Ideal S256x512 .f32) (v28 : FVec Ideal S16x512 .f32)
    (v29 : Vec Ideal S3x512 .f32) (v53 : Vec Ideal S1x256x512 .bf16)
    (h14 : ∀ k : Fin 512, Scalar.select v4 (v14 (ix2 15 k)) (0 : EReal) = scxL a3 (ix3 b ⟨256 * q.val, by omega⟩ k))
    (h21 : ∀ (r : Fin 256) (k : Fin 512), v21 (ix2 r k) = scxL a3 (ix3 b ⟨256 * q.val + r.val + 1, by omega⟩ k))
    (h28 : ∀ k : Fin 512, Scalar.select v7 (v28 (ix2 0 k)) (0 : EReal) = scxL a3 (ix3 b ⟨256 * q.val + 257, by omega⟩ k))
    (h29 : ∀ (w : Fin 3) (k : Fin 512), v29 (ix2 w k) = a7 (ix2 w k))
    (h53 : ∀ (r : Fin 256) (k : Fin 512), v53 (ix3 0 r k) = a3 (ix3 b ⟨256 + (256 * q.val + r.val), by omega⟩ ⟨k.val, by omega⟩))
    (r : Fin 256) (k : Fin 512) :
    k0_pay6 (F := Ideal) v4 v7 v14 v21 v28 v29 (Scalar.ofBits .f32 0x00000000#32) v53 (ix2 r k) = refScL a3 a7 (ix3 b ⟨256 * q.val + r.val, by omega⟩ k) := by
  have hp : ∀ (p p' : Fin 2050), p.val = p'.val → scxL a3 (ix3 b p k) = scxL a3 (ix3 b p' k) := fun p p' h => by
    rw [Fin.ext h]
  pointwise [k0_pay6, refScL, sxL, h29, h53]
  refine congrArg₂ (· * ·) rfl (congrArg₂ (· + ·) (congrArg₂ (· + ·) (congrArg₂ (· * ·) ?_ rfl) (congrArg₂ (· * ·) ?_ rfl)) (congrArg₂ (· * ·) ?_ rfl))
  · by_cases h0 : (16 + r.val + 288 - 1) % 288 < 16
    · rw [dif_pos h0]
      refine (congrArg (fun i => Scalar.select v4 (v14 (ix2 i k)) (0 : EReal)) (Fin.ext (?_ : _ = 15))).trans ((h14 k).trans (hp _ _ ?_))
      · show (16 + r.val + 288 - 1) % 288 = 15; omega
      · show 256 * q.val = 256 * q.val + r.val; omega
    · have h1 : (16 + r.val + 288 - 1) % 288 - 16 < 256 := by omega
      rw [dif_neg h0, dif_pos h1]
      refine (h21 _ k).trans (hp _ _ ?_)
      show 256 * q.val + ((16 + r.val + 288 - 1) % 288 - 16) + 1 = 256 * q.val + r.val; omega
  · refine (h21 _ k).trans (hp _ _ ?_)
    show 256 * q.val + r.val + 1 = 1 + (256 * q.val + r.val); omega
  · have h0 : ¬ (16 + r.val + 288 - 287) % 288 < 16 := by omega
    rw [dif_neg h0]
    by_cases h1 : (16 + r.val + 288 - 287) % 288 - 16 < 256
    · rw [dif_pos h1]
      refine (h21 _ k).trans (hp _ _ ?_)
      show 256 * q.val + ((16 + r.val + 288 - 287) % 288 - 16) + 1 = 2 + (256 * q.val + r.val); omega
    · rw [dif_neg h1]
      refine (congrArg (fun i => Scalar.select v7 (v28 (ix2 i k)) (0 : EReal)) (Fin.ext (?_ : _ = 0))).trans ((h28 k).trans (hp _ _ ?_))
      · show (16 + r.val + 288 - 287) % 288 - 16 - 256 = 0; omega
      · show 256 * q.val + 257 = 2 + (256 * q.val + r.val); omega

/-- The padded inputs: a product of two columns of the row before, and zero on the two rows outside. -/
theorem scxL_at (a3 : FVec Ideal Cert.MidRefIdeal.S32x2304x1536 .bf16) (b : Fin 32) (p : Fin 2050) (k : Fin 512) :
    scxL a3 (ix3 b p k) = if h : 1 ≤ p.val ∧ p.val - 1 < 2048 then
      a3 (ix3 b ⟨256 + (p.val - 1), by omega⟩ ⟨512 + k.val, by omega⟩) * a3 (ix3 b ⟨256 + (p.val - 1), by omega⟩ ⟨1024 + k.val, by omega⟩)
    else 0 := by
  pointwise [scxL, sxL]
  simp [FloatOps.sitofp]

end Cert.MidIdeal.Hand

end
-- ==== Proof.MidPure.lean ====
/-
The rest of the step on one tile: the gated sum of the branches and the feed-forward step, on the context and on the latent rows.
-/
module

public import proofs.«01_k».proof.Proof.MidRef
public import proofs.«01_k».proof.Proof.Gen.MidIdeal.Skeleton
public import Idealize.ShloMosaic.Lib.Pipeline.ValueKit

@[expose] public section

set_option maxRecDepth 16384

noncomputable section

namespace Cert.MidIdeal.Hand

open Cert.MidIdeal Cert.MidIdeal.Gen Idealize.ShloMosaic Idealize.ShloMosaic.TcCoe Idealize.SL.Sem
open Idealize.ShloMosaic.Pipeline (Dat)
open Cert.MidRefIdeal.Hand

/-- A tile of the context rows after the gated sum of its four branches. -/
theorem x1C (sc : FVec Ideal Cert.MidRefIdeal.S32x256x512 .f32) (a0 : FVec Ideal Cert.MidRefIdeal.S32x2304x1024 .f32)
    (a1 : FVec Ideal Cert.MidRefIdeal.S33x6x1024 .f32) (a2 a4 a5 : FVec Ideal Cert.MidRefIdeal.S32x2304x512 .bf16)
    (a6 : FVec Ideal Cert.MidRefIdeal.S32x2304x4096 .bf16) (a8 : FVec Ideal Cert.MidRefIdeal.S4x512x1024 .f32)
    (a9 : FVec Ideal Cert.MidRefIdeal.S1024x1024 .f32) (b : Fin 32)
    (v0 : Vec Ideal S1x6x1024 .f32) (v57 : FVec Ideal S256x512 .bf16) (v58 v60 v51 : Vec Ideal S1x256x512 .bf16)
    (v62 v69 v77 v85 : Vec Ideal S1x256x1024 .bf16) (v65 v72 v80 v88 : Vec Ideal S1x512x1024 .bf16)
    (v93 : Vec Ideal S1x256x1024 .f32) (v97 : Vec Ideal S1024x1024 .bf16)
    (h0 : ∀ (s : Fin 6) (d : Fin 1024), v0 (ix3 0 s d) = a1 (ix3 32 s d))
    (h57 : ∀ (r : Fin 256) (k : Fin 512), v57 (ix2 r k) = sc (ix3 b r k))
    (h58 : ∀ (r : Fin 256) (k : Fin 512), v58 (ix3 0 r k) = a4 (ix3 b ⟨r.val, by omega⟩ k))
    (h60 : ∀ (r : Fin 256) (k : Fin 512), v60 (ix3 0 r k) = a5 (ix3 b ⟨r.val, by omega⟩ k))
    (h51 : ∀ (r : Fin 256) (k : Fin 512), v51 (ix3 0 r k) = a2 (ix3 b ⟨r.val, by omega⟩ k))
    (h62 : ∀ (r : Fin 256) (d : Fin 1024), v62 (ix3 0 r d) = a6 (ix3 b ⟨r.val, by omega⟩ ⟨d.val, by omega⟩))
    (h69 : ∀ (r : Fin 256) (d : Fin 1024), v69 (ix3 0 r d) = a6 (ix3 b ⟨r.val, by omega⟩ ⟨1024 + d.val, by omega⟩))
    (h77 : ∀ (r : Fin 256) (d : Fin 1024), v77 (ix3 0 r d) = a6 (ix3 b ⟨r.val, by omega⟩ ⟨2048 + d.val, by omega⟩))
    (h85 : ∀ (r : Fin 256) (d : Fin 1024), v85 (ix3 0 r d) = a6 (ix3 b ⟨r.val, by omega⟩ ⟨3072 + d.val, by omega⟩))
    (h65 : ∀ (k : Fin 512) (d : Fin 1024), v65 (ix3 0 k d) = a8 (ix3 0 k d))
    (h72 : ∀ (k : Fin 512) (d : Fin 1024), v72 (ix3 0 k d) = a8 (ix3 1 k d))
    (h80 : ∀ (k : Fin 512) (d : Fin 1024), v80 (ix3 0 k d) = a8 (ix3 2 k d))
    (h88 : ∀ (k : Fin 512) (d : Fin 1024), v88 (ix3 0 k d) = a8 (ix3 3 k d))
    (h93 : ∀ (r : Fin 256) (d : Fin 1024), v93 (ix3 0 r d) = a0 (ix3 b ⟨r.val, by omega⟩ d))
    (h97 : ∀ (e d : Fin 1024), v97 (ix2 e d) = a9 (ix2 e d))
    (r : Fin 256) (d : Fin 1024) :
    (k0_pay11 (F := Ideal) v93 (ix2 r d) : EReal) + (k0_pay13 (F := Ideal) (k0_pay2 v0) (ix2 r d) : EReal)
        * (k0_pay12 (F := Ideal) v57 (k0_pay7 v58) (k0_pay8 v60) (k0_pay9 v62) (k0_pay10 v51 v65) v69 v72 v77 v80 v85 v88 v97 (ix2 r d) : EReal)
      = refX1C sc a0 a1 a2 a4 a5 a6 a8 a9 (ix3 b r d) := by
  pointwise! [k0_pay2, k0_pay7, k0_pay8, k0_pay9, k0_pay10, k0_pay11, k0_pay12, k0_pay13, refX1C, gatesC, modC, h0, h57, h58, h60, h51, h62, h69, h77, h85, h65, h72, h80, h88, h93, h97]

/-- A tile of the context rows after the feed-forward step. -/
theorem outC (x1 : FVec Ideal Cert.MidRefIdeal.S32x256x1024 .f32) (a1 : FVec Ideal Cert.MidRefIdeal.S33x6x1024 .f32)
    (a10 : FVec Ideal Cert.MidRefIdeal.S1024 .f32) (a11 : FVec Ideal Cert.MidRefIdeal.S1024x4096 .f32)
    (a12 : FVec Ideal Cert.MidRefIdeal.S4096x1024 .f32) (b : Fin 32)
    (v0 : Vec Ideal S1x6x1024 .f32) (v94 v99 v100 : FVec Ideal S256x1024 .f32) (v103 : Vec Ideal S1x1024 .f32)
    (v126 : Vec Ideal S1024x4096 .bf16) (v134 : Vec Ideal S4096x1024 .bf16)
    (h0 : ∀ (s : Fin 6) (d : Fin 1024), v0 (ix3 0 s d) = a1 (ix3 32 s d))
    (h1 : ∀ (r : Fin 256) (d : Fin 1024), (v94 (ix2 r d) : EReal) + (v100 (ix2 r d) : EReal) * (v99 (ix2 r d) : EReal) = x1 (ix3 b r d))
    (h103 : ∀ d : Fin 1024, v103 (ix2 0 d) = a10 (ix1 d))
    (h126 : ∀ (e : Fin 1024) (f : Fin 4096), v126 (ix2 e f) = a11 (ix2 e f))
    (h134 : ∀ (f : Fin 4096) (d : Fin 1024), v134 (ix2 f d) = a12 (ix2 f d))
    (r : Fin 256) (d : Fin 1024) :
    k0_pay1 (F := Ideal) (k0_pay14 (k0_pay2 v0) v94 v99 v100 v103 v126 v134) (ix3 0 r d)
      = refX2C x1 (refHC x1 a1 a10 a11) a1 a12 (ix3 b r d) := by
  pointwise! [k0_pay1, k0_pay14, k0_pay2, refX2C, refHC, modC, h0, h1, h103, h126, h134]

/-- A tile of the latent rows after the gated sum of its four branches. -/
theorem x1L (sc : FVec Ideal Cert.MidRefIdeal.S32x2048x512 .f32) (a0 : FVec Ideal Cert.MidRefIdeal.S32x2304x1024 .f32)
    (a1 : FVec Ideal Cert.MidRefIdeal.S33x6x1024 .f32) (a2 a4 a5 : FVec Ideal Cert.MidRefIdeal.S32x2304x512 .bf16)
    (a6 : FVec Ideal Cert.MidRefIdeal.S32x2304x4096 .bf16) (a8 : FVec Ideal Cert.MidRefIdeal.S4x512x1024 .f32)
    (a9 : FVec Ideal Cert.MidRefIdeal.S1024x1024 .f32) (b : Fin 32) (q : Fin 8)
    (v0 : Vec Ideal S1x6x1024 .f32) (v57 : FVec Ideal S256x512 .bf16) (v58 v60 v51 : Vec Ideal S1x256x512 .bf16)
    (v62 v69 v77 v85 : Vec Ideal S1x256x1024 .bf16) (v65 v72 v80 v88 : Vec Ideal S1x512x1024 .bf16)
    (v93 : Vec Ideal S1x256x1024 .f32) (v97 : Vec Ideal S1024x1024 .bf16)
    (h0 : ∀ (s : Fin 6) (d : Fin 1024), v0 (ix3 0 s d) = a1 (ix3 ⟨b.val, by omega⟩ s d))
    (h57 : ∀ (r : Fin 256) (k : Fin 512), v57 (ix2 r k) = sc (ix3 b ⟨256 * q.val + r.val, by omega⟩ k))
    (h58 : ∀ (r : Fin 256) (k : Fin 512), v58 (ix3 0 r k) = a4 (ix3 b ⟨256 + (256 * q.val + r.val), by omega⟩ k))
    (h60 : ∀ (r : Fin 256) (k : Fin 512), v60 (ix3 0 r k) = a5 (ix3 b ⟨256 + (256 * q.val + r.val), by omega⟩ k))
    (h51 : ∀ (r : Fin 256) (k : Fin 512), v51 (ix3 0 r k) = a2 (ix3 b ⟨256 + (256 * q.val + r.val), by omega⟩ k))
    (h62 : ∀ (r : Fin 256) (d : Fin 1024), v62 (ix3 0 r d) = a6 (ix3 b ⟨256 + (256 * q.val + r.val), by omega⟩ ⟨d.val, by omega⟩))
    (h69 : ∀ (r : Fin 256) (d : Fin 1024), v69 (ix3 0 r d) = a6 (ix3 b ⟨256 + (256 * q.val + r.val), by omega⟩ ⟨1024 + d.val, by omega⟩))
    (h77 : ∀ (r : Fin 256) (d : Fin 1024), v77 (ix3 0 r d) = a6 (ix3 b ⟨256 + (256 * q.val + r.val), by omega⟩ ⟨2048 + d.val, by omega⟩))
    (h85 : ∀ (r : Fin 256) (d : Fin 1024), v85 (ix3 0 r d) = a6 (ix3 b ⟨256 + (256 * q.val + r.val), by omega⟩ ⟨3072 + d.val, by omega⟩))
    (h65 : ∀ (k : Fin 512) (d : Fin 1024), v65 (ix3 0 k d) = a8 (ix3 0 k d))
    (h72 : ∀ (k : Fin 512) (d : Fin 1024), v72 (ix3 0 k d) = a8 (ix3 1 k d))
    (h80 : ∀ (k : Fin 512) (d : Fin 1024), v80 (ix3 0 k d) = a8 (ix3 2 k d))
    (h88 : ∀ (k : Fin 512) (d : Fin 1024), v88 (ix3 0 k d) = a8 (ix3 3 k d))
    (h93 : ∀ (r : Fin 256) (d : Fin 1024), v93 (ix3 0 r d) = a0 (ix3 b ⟨256 + (256 * q.val + r.val), by omega⟩ d))
    (h97 : ∀ (e d : Fin 1024), v97 (ix2 e d) = a9 (ix2 e d))
    (r : Fin 256) (d : Fin 1024) :
    (k0_pay11 (F := Ideal) v93 (ix2 r d) : EReal) + (k0_pay13 (F := Ideal) (k0_pay2 v0) (ix2 r d) : EReal)
        * (k0_pay12 (F := Ideal) v57 (k0_pay7 v58) (k0_pay8 v60) (k0_pay9 v62) (k0_pay10 v51 v65) v69 v72 v77 v80 v85 v88 v97 (ix2 r d) : EReal)
      = refX1L sc a0 a1 a2 a4 a5 a6 a8 a9 (ix3 b ⟨256 * q.val + r.val, by omega⟩ d) := by
  pointwise! [k0_pay2, k0_pay7, k0_pay8, k0_pay9, k0_pay10, k0_pay11, k0_pay12, k0_pay13, refX1L, gatesL, modL, h0, h57, h58, h60, h51, h62, h69, h77, h85, h65, h72, h80, h88, h93, h97]

/-- A tile of the latent rows after the feed-forward step. -/
theorem outL (x1 : FVec Ideal Cert.MidRefIdeal.S32x2048x1024 .f32) (a1 : FVec Ideal Cert.MidRefIdeal.S33x6x1024 .f32)
    (a10 : FVec Ideal Cert.MidRefIdeal.S1024 .f32) (a11 : FVec Ideal Cert.MidRefIdeal.S1024x4096 .f32)
    (a12 : FVec Ideal Cert.MidRefIdeal.S4096x1024 .f32) (b : Fin 32) (q : Fin 8)
    (v0 : Vec Ideal S1x6x1024 .f32) (v94 v99 v100 : FVec Ideal S256x1024 .f32) (v103 : Vec Ideal S1x1024 .f32)
    (v126 : Vec Ideal S1024x4096 .bf16) (v134 : Vec Ideal S4096x1024 .bf16)
    (h0 : ∀ (s : Fin 6) (d : Fin 1024), v0 (ix3 0 s d) = a1 (ix3 ⟨b.val, by omega⟩ s d))
    (h1 : ∀ (r : Fin 256) (d : Fin 1024), (v94 (ix2 r d) : EReal) + (v100 (ix2 r d) : EReal) * (v99 (ix2 r d) : EReal) = x1 (ix3 b ⟨256 * q.val + r.val, by omega⟩ d))
    (h103 : ∀ d : Fin 1024, v103 (ix2 0 d) = a10 (ix1 d))
    (h126 : ∀ (e : Fin 1024) (f : Fin 4096), v126 (ix2 e f) = a11 (ix2 e f))
    (h134 : ∀ (f : Fin 4096) (d : Fin 1024), v134 (ix2 f d) = a12 (ix2 f d))
    (r : Fin 256) (d : Fin 1024) :
    k0_pay1 (F := Ideal) (k0_pay14 (k0_pay2 v0) v94 v99 v100 v103 v126 v134) (ix3 0 r d)
      = refX2L x1 (refHL x1 a1 a10 a11) a1 a12 (ix3 b ⟨256 * q.val + r.val, by omega⟩ d) := by
  pointwise! [k0_pay1, k0_pay14, k0_pay2, refX2L, refHL, modL, h0, h1, h103, h126, h134]

end Cert.MidIdeal.Hand

end
-- ==== Proof.MidReads.lean ====
/-
Where the step's windows stand at every grid point (point `t` is row block `t % 9` of sequence `t / 9`), and what each block holds: each entry
is an entry of an argument.
-/
module

public import proofs.«01_k».proof.Proof.Gen.MidIdeal.Value
public import Idealize.ShloMosaic.Lib.Pipeline.ValueKit
public import Idealize.ShloMosaic.Lib.Claim

@[expose] public section

set_option maxRecDepth 16384

noncomputable section

namespace Cert.MidIdeal.Hand

open Cert.MidIdeal Cert.MidIdeal.Gen Idealize.ShloMosaic Idealize.ShloMosaic.TcCoe Idealize.SL.Sem
open Idealize.ShloMosaic.Pipeline (Dat)

/-- The row blocks: stream, branches, gates, and the two 16-row neighbours of the convolution's inputs. -/
theorem idx_rows : ∀ t : Fin cfg0.N,
    (win0_0.index t = ![t.val / 9, t.val % 9, 0] ∧ win0_1.index t = ![if t.val % 9 = 0 then 32 else t.val / 9, 0, 0]
      ∧ win0_2.index t = ![t.val / 9, t.val % 9, 0] ∧ win0_3.index t = ![t.val / 9, t.val % 9, 0]
      ∧ win0_4.index t = ![t.val / 9, 16 * (t.val % 9) - 1, 0]
      ∧ win0_5.index t = ![t.val / 9, if t.val % 9 = 8 then 143 else 16 * (t.val % 9) + 16, 0]
      ∧ win0_6.index t = ![t.val / 9, t.val % 9, 0] ∧ win0_7.index t = ![t.val / 9, t.val % 9, 0]
      ∧ win0_8.index t = ![t.val / 9, t.val % 9, 0]
      ∧ win0_16.index t = ![t.val / 9, t.val % 9, 0]) :=
  (by decide +kernel : ∀ t : Fin grid0.N, _)

/-- The weights' windows: the whole arrays at every point. -/
theorem idx_whole : ∀ t : Fin cfg0.N,
    (win0_9.index t = ![0, 0] ∧ win0_10.index t = ![0, 0, 0] ∧ win0_11.index t = ![0, 0] ∧ win0_12.index t = ![0, 0]
      ∧ win0_13.index t = ![0, 0] ∧ win0_14.index t = ![0, 0] ∧ win0_15.index t = ![0, 0]) :=
  (by decide +kernel : ∀ t : Fin grid0.N, _)

/-- The grid's second coordinate. -/
theorem coord1 : ∀ t : Fin cfg0.N, (grid0.coords t 1).val = t.val % 9 :=
  (by decide +kernel : ∀ t : Fin grid0.N, _)

/-- The blocks written back cover the result. -/
theorem covers16 : (cfg0.win 16).Covers := by decide +kernel

/-- The row before the tile is the stream's own but at each stream's first tile. -/
theorem bit_top : ∀ t : Fin cfg0.N, Scalar.andi (Scalar.cmpi .ne (BitVec.ofNat 32 (grid0.coords t 1).val) 0#32) (Scalar.cmpi .ne (BitVec.ofNat 32 (grid0.coords t 1).val) 1#32)
    = if t.val % 9 ≤ 1 then 0#1 else 1#1 :=
  (by decide +kernel : ∀ t : Fin grid0.N, _)

/-- The row after the tile is the stream's own but at each stream's last tile. -/
theorem bit_bottom : ∀ t : Fin cfg0.N, Scalar.andi (Scalar.cmpi .ne (BitVec.ofNat 32 (grid0.coords t 1).val) 0#32) (Scalar.cmpi .ne (BitVec.ofNat 32 (grid0.coords t 1).val) 8#32)
    = if t.val % 9 = 0 ∨ t.val % 9 = 8 then 0#1 else 1#1 :=
  (by decide +kernel : ∀ t : Fin grid0.N, _)

variable (m : (ℓ : Loc nD τ sig) → Buf (Elt Ideal) ℓ)

/-- Window 0: 256 rows of argument 0. -/
theorem read0 (c : Dev nD) (t : Fin cfg0.N) (b : Fin 32) (hb : b.val = t.val / 9) (r : Fin 256) (p : Fin 2304) (hp : p.val = 256 * (t.val % 9) + r.val) (d : Fin 1024) :
    (show FVec Ideal S1x256x1024 .f32 from iblk m c 0 t) (ix3 0 r d) = (m ((c : Thread nD τ).loc main_arg0)) (ix3 b p d) := by
  have e := (idx_rows t).1
  blk_ext [iblk, V, e]

/-- Window 2: 256 rows of argument 2. -/
theorem read2 (c : Dev nD) (t : Fin cfg0.N) (b : Fin 32) (hb : b.val = t.val / 9) (r : Fin 256) (p : Fin 2304) (hp : p.val = 256 * (t.val % 9) + r.val) (d : Fin 512) :
    (show FVec Ideal S1x256x512 .bf16 from iblk m c 2 t) (ix3 0 r d) = (m ((c : Thread nD τ).loc main_arg2)) (ix3 b p d) := by
  have e := (idx_rows t).2.2.1
  blk_ext [iblk, V, e]

/-- Window 3: 256 rows of argument 3. -/
theorem read3 (c : Dev nD) (t : Fin cfg0.N) (b : Fin 32) (hb : b.val = t.val / 9) (r : Fin 256) (p : Fin 2304) (hp : p.val = 256 * (t.val % 9) + r.val) (d : Fin 1536) :
    (show FVec Ideal S1x256x1536 .bf16 from iblk m c 3 t) (ix3 0 r d) = (m ((c : Thread nD τ).loc main_arg3)) (ix3 b p d) := by
  have e := (idx_rows t).2.2.2.1
  blk_ext [iblk, V, e]

/-- Window 6: 256 rows of argument 4. -/
theorem read6 (c : Dev nD) (t : Fin cfg0.N) (b : Fin 32) (hb : b.val = t.val / 9) (r : Fin 256) (p : Fin 2304) (hp : p.val = 256 * (t.val % 9) + r.val) (d : Fin 512) :
    (show FVec Ideal S1x256x512 .bf16 from iblk m c 6 t) (ix3 0 r d) = (m ((c : Thread nD τ).loc main_arg4)) (ix3 b p d) := by
  have e := (idx_rows t).2.2.2.2.2.2.1
  blk_ext [iblk, V, e]

/-- Window 7: 256 rows of argument 5. -/
theorem read7 (c : Dev nD) (t : Fin cfg0.N) (b : Fin 32) (hb : b.val = t.val / 9) (r : Fin 256) (p : Fin 2304) (hp : p.val = 256 * (t.val % 9) + r.val) (d : Fin 512) :
    (show FVec Ideal S1x256x512 .bf16 from iblk m c 7 t) (ix3 0 r d) = (m ((c : Thread nD τ).loc main_arg5)) (ix3 b p d) := by
  have e := (idx_rows t).2.2.2.2.2.2.2.1
  blk_ext [iblk, V, e]

/-- Window 8: 256 rows of argument 6. -/
theorem read8 (c : Dev nD) (t : Fin cfg0.N) (b : Fin 32) (hb : b.val = t.val / 9) (r : Fin 256) (p : Fin 2304) (hp : p.val = 256 * (t.val % 9) + r.val) (d : Fin 4096) :
    (show FVec Ideal S1x256x4096 .bf16 from iblk m c 8 t) (ix3 0 r d) = (m ((c : Thread nD τ).loc main_arg6)) (ix3 b p d) := by
  have e := (idx_rows t).2.2.2.2.2.2.2.2.1
  blk_ext [iblk, V, e]

/-- Window 1: the modulation of the sequence, or of the context. -/
theorem read1 (c : Dev nD) (t : Fin cfg0.N) (u : Fin 33) (hu : u.val = if t.val % 9 = 0 then 32 else t.val / 9) (s : Fin 6) (d : Fin 1024) :
    (show FVec Ideal S1x6x1024 .f32 from iblk m c 1 t) (ix3 0 s d) = (m ((c : Thread nD τ).loc main_arg1)) (ix3 u s d) := by
  have e := (idx_rows t).2.1
  rw [← hu] at e
  blk_ext [iblk, V, e]

/-- Window 4: the last of the sixteen rows before the tile. -/
theorem read4 (c : Dev nD) (t : Fin cfg0.N) (b : Fin 32) (hb : b.val = t.val / 9) (h1 : 1 ≤ t.val % 9) (p : Fin 2304) (hp : p.val + 1 = 256 * (t.val % 9)) (d : Fin 1536) :
    (show FVec Ideal S1x16x1536 .bf16 from iblk m c 4 t) (ix3 0 15 d) = (m ((c : Thread nD τ).loc main_arg3)) (ix3 b p d) := by
  have e := (idx_rows t).2.2.2.2.1
  have e15 : ((15 : Fin 16) : ℕ) = 15 := rfl
  blk_ext [iblk, V, e]

/-- Window 5: the first of the sixteen rows after the tile, where there is one. -/
theorem read5 (c : Dev nD) (t : Fin cfg0.N) (b : Fin 32) (hb : b.val = t.val / 9) (h8 : t.val % 9 ≠ 8) (p : Fin 2304) (hp : p.val = 256 * (t.val % 9) + 256) (d : Fin 1536) :
    (show FVec Ideal S1x16x1536 .bf16 from iblk m c 5 t) (ix3 0 0 d) = (m ((c : Thread nD τ).loc main_arg3)) (ix3 b p d) := by
  have e := (idx_rows t).2.2.2.2.2.1
  rw [if_neg (by omega)] at e
  blk_ext [iblk, V, e]

/-- Window 9: argument 7, whole. -/
theorem read9 (c : Dev nD) (t : Fin cfg0.N) (a : Fin 3) (e : Fin 512) :
    (show FVec Ideal S3x512 .f32 from iblk m c 9 t) (ix2 a e) = (m ((c : Thread nD τ).loc main_arg7)) (ix2 a e) := by
  have e := (idx_whole t).1
  blk_ext [iblk, V, e]

/-- Window 10: argument 8, whole. -/
theorem read10 (c : Dev nD) (t : Fin cfg0.N) (s : Fin 4) (a : Fin 512) (e : Fin 1024) :
    (show FVec Ideal S4x512x1024 .bf16 from iblk m c 10 t) (ix3 s a e) = (m ((c : Thread nD τ).loc main_arg8)) (ix3 s a e) := by
  have e := (idx_whole t).2.1
  blk_point [iblk, V, e]

/-- Window 11: argument 9, whole. -/
theorem read11 (c : Dev nD) (t : Fin cfg0.N) (a e : Fin 1024) :
    (show FVec Ideal S1024x1024 .bf16 from iblk m c 11 t) (ix2 a e) = (m ((c : Thread nD τ).loc main_arg9)) (ix2 a e) := by
  have e := (idx_whole t).2.2.1
  blk_point [iblk, V, e]

/-- Window 13: argument 11, whole. -/
theorem read13 (c : Dev nD) (t : Fin cfg0.N) (a : Fin 1024) (e : Fin 4096) :
    (show FVec Ideal S1024x4096 .bf16 from iblk m c 13 t) (ix2 a e) = (m ((c : Thread nD τ).loc main_arg11)) (ix2 a e) := by
  have e := (idx_whole t).2.2.2.2.1
  blk_point [iblk, V, e]

/-- Window 14: argument 12, whole. -/
theorem read14 (c : Dev nD) (t : Fin cfg0.N) (a : Fin 4096) (e : Fin 1024) :
    (show FVec Ideal S4096x1024 .bf16 from iblk m c 14 t) (ix2 a e) = (m ((c : Thread nD τ).loc main_arg12)) (ix2 a e) := by
  have e := (idx_whole t).2.2.2.2.2.1
  blk_point [iblk, V, e]

/-- Window 12: argument 10 as one row. -/
theorem read12 (c : Dev nD) (t : Fin cfg0.N) (e : Fin 1024) :
    (show FVec Ideal S1x1024 .f32 from iblk m c 12 t) (ix2 0 e) = (m ((c : Thread nD τ).loc main_arg10)) (ix1 e) := by
  have e' := (idx_whole t).2.2.2.1
  blk_point [iblk, V, e']

end Cert.MidIdeal.Hand

end
-- ==== Proof.MidValue.lean ====
/-
What the call of an inner layer leaves in its result array: the reference's term.
-/
module

public import proofs.«01_k».proof.Proof.MidConv
public import proofs.«01_k».proof.Proof.MidPure
public import proofs.«01_k».proof.Proof.MidReads
public import Idealize.ShloMosaic.Lib.Claim

@[expose] public section

set_option maxRecDepth 16384

noncomputable section

namespace Cert.MidIdeal.Hand

open Cert.MidIdeal Cert.MidIdeal.Gen Idealize.ShloMosaic Idealize.ShloMosaic.TcCoe Idealize.SL.Sem
open Idealize.ShloMosaic.Pipeline (Dat)
open Cert.MidRefIdeal.Hand

variable (m : (ℓ : Loc nD τ sig) → Buf (Elt Ideal) ℓ)

/-- The whole step over the call's argument arrays. -/
abbrev target (c : Dev nD) : FVec Ideal Cert.MidRefIdeal.S32x2304x1024 .f32 :=
  refAll (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))

/-- The step on the context rows. -/
abbrev targetC (c : Dev nD) : FVec Ideal Cert.MidRefIdeal.S32x256x1024 .f32 :=
  refC (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))

/-- The step on the latent rows. -/
abbrev targetL (c : Dev nD) : FVec Ideal Cert.MidRefIdeal.S32x2048x1024 .f32 :=
  refL (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))

/-- A context row of the step. -/
theorem target_C (c : Dev nD) (b : Fin 32) (p : Fin 2304) (r : Fin 256) (hp : p.val = r.val) (d : Fin 1024) :
    target m c (ix3 b p d) = targetC m c (ix3 b r d) := by
  have h : p.val < 256 := by omega
  pointwise [target, refAll]
  rw [dif_pos h]
  congr 2
  exact Fin.ext hp

/-- A latent row of the step. -/
theorem target_L (c : Dev nD) (b : Fin 32) (p : Fin 2304) (r : Fin 2048) (hp : p.val = 256 + r.val) (d : Fin 1024) :
    target m c (ix3 b p d) = targetL m c (ix3 b r d) := by
  have h : ¬ p.val < 256 := by omega
  pointwise [target, refAll]
  rw [dif_neg h]
  congr 2
  exact Fin.ext (by show p.val - 256 = r.val; omega)

/-- A context tile of the body's result. -/
theorem tile_C (c : Dev nD) (t : Fin cfg0.N) (b : Fin 32) (hb : b.val = t.val / 9) (h0 : t.val % 9 = 0) (r : Fin 256) (d : Fin 1024) :
    out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r d)
      = targetC m c (ix3 b r d) := by
  frame_out
  refine outC _ _ _ _ _ b _ _ _ _ _ _ _ ?_ (fun r d => x1C _ _ _ _ _ _ _ _ _ b _ _ _ _ _ _ _ _ _ _ _ _ _ _ _ ?_
    (fun r k => convC _ _ b _ _ _ _ _ _ _ ?_ ?_ ?_ ?_ ?_ r k) ?_ ?_ ?_ ?_ ?_ ?_ ?_ ?_ ?_ ?_ ?_ ?_ ?_ r d) ?_ ?_ ?_ r d
  case refine_1 => exact fun s d => by pointwise; exact read1 m c t 32 (by rw [if_pos h0]; rfl) s d
  case refine_2 => exact fun s d => by pointwise; exact read1 m c t 32 (by rw [if_pos h0]; rfl) s d
  case refine_3 =>
    intro k
    rw [scxC_at, dif_neg (by simp only []; omega), bit_top t, if_pos (by omega)]
    rfl
  case refine_4 =>
    intro r k
    rw [scxC_at, dif_pos (by simp only []; omega)]
    pointwise [k0_pay4]
    exact congrArg₂ (· * ·) (read3 m c t b hb r _ (by (try dsimp only); omega) _) (read3 m c t b hb r _ (by (try dsimp only); omega) _)
  case refine_5 =>
    intro k
    rw [scxC_at, dif_neg (by simp only []; omega), bit_bottom t, if_pos (Or.inl h0)]
    rfl
  case refine_6 => exact fun a e => read9 m c t a e
  case refine_7 => exact fun r k => by pointwise; exact read3 m c t b hb r _ (by (try dsimp only); omega) _
  case refine_8 => exact fun r k => read6 m c t b hb r _ (by (try dsimp only); omega) k
  case refine_9 => exact fun r k => read7 m c t b hb r _ (by (try dsimp only); omega) k
  case refine_10 => exact fun r k => read2 m c t b hb r _ (by (try dsimp only); omega) k
  case refine_11 => exact fun r k => by pointwise; exact read8 m c t b hb r _ (by (try dsimp only); omega) _
  case refine_12 => exact fun r k => by pointwise; exact read8 m c t b hb r _ (by (try dsimp only); omega) _
  case refine_13 => exact fun r k => by pointwise; exact read8 m c t b hb r _ (by (try dsimp only); omega) _
  case refine_14 => exact fun r k => by pointwise; exact read8 m c t b hb r _ (by (try dsimp only); omega) _
  case refine_15 => exact fun r k => by pointwise; exact read10 m c t _ r k
  case refine_16 => exact fun r k => by pointwise; exact read10 m c t _ r k
  case refine_17 => exact fun r k => by pointwise; exact read10 m c t _ r k
  case refine_18 => exact fun r k => by pointwise; exact read10 m c t _ r k
  case refine_19 => exact fun r k => read0 m c t b hb r _ (by (try dsimp only); omega) k
  case refine_20 => exact fun a e => read11 m c t a e
  case refine_21 => exact fun e => read12 m c t e
  case refine_22 => exact fun a e => read13 m c t a e
  case refine_23 => exact fun a e => read14 m c t a e

/-- A latent tile of the body's result. -/
theorem tile_L (c : Dev nD) (t : Fin cfg0.N) (b : Fin 32) (hb : b.val = t.val / 9) (h0 : 1 ≤ t.val % 9) (q : Fin 8) (hq : q.val = t.val % 9 - 1) (r : Fin 256) (d : Fin 1024) :
    out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r d)
      = targetL m c (ix3 b ⟨256 * q.val + r.val, by omega⟩ d) := by
  frame_out
  refine outL _ _ _ _ _ b q _ _ _ _ _ _ _ ?_ (fun r d => x1L _ _ _ _ _ _ _ _ _ b q _ _ _ _ _ _ _ _ _ _ _ _ _ _ _ ?_
    (fun r k => convL _ _ b q _ _ _ _ _ _ _ ?_ ?_ ?_ ?_ ?_ r k) ?_ ?_ ?_ ?_ ?_ ?_ ?_ ?_ ?_ ?_ ?_ ?_ ?_ r d) ?_ ?_ ?_ r d
  case refine_1 => exact fun s d => by pointwise; exact read1 m c t _ (by rw [if_neg (by omega)]; exact hb) s d
  case refine_2 => exact fun s d => by pointwise; exact read1 m c t _ (by rw [if_neg (by omega)]; exact hb) s d
  case refine_3 =>
    intro k
    rw [scxL_at, bit_top t]
    by_cases h1 : 1 ≤ q.val
    · rw [if_neg (by omega), dif_pos (by simp only []; omega)]
      pointwise [k0_pay3]
      exact congrArg₂ (· * ·) (read4 m c t b hb h0 _ (by (try dsimp only); omega) _) (read4 m c t b hb h0 _ (by (try dsimp only); omega) _)
    · rw [if_pos (by omega), dif_neg (by simp only []; omega)]
      rfl
  case refine_4 =>
    intro r k
    rw [scxL_at, dif_pos (by simp only []; omega)]
    pointwise [k0_pay4]
    exact congrArg₂ (· * ·) (read3 m c t b hb r _ (by (try dsimp only); omega) _) (read3 m c t b hb r _ (by (try dsimp only); omega) _)
  case refine_5 =>
    intro k
    rw [scxL_at, bit_bottom t]
    by_cases h1 : q.val < 7
    · rw [if_neg (by omega), dif_pos (by simp only []; omega)]
      pointwise [k0_pay5]
      exact congrArg₂ (· * ·) (read5 m c t b hb (by omega) _ (by (try dsimp only); omega) _) (read5 m c t b hb (by omega) _ (by (try dsimp only); omega) _)
    · rw [if_pos (by omega), dif_neg (by simp only []; omega)]
      rfl
  case refine_6 => exact fun a e => read9 m c t a e
  case refine_7 => exact fun r k => by pointwise; exact read3 m c t b hb r _ (by (try dsimp only); omega) _
  case refine_8 => exact fun r k => read6 m c t b hb r _ (by (try dsimp only); omega) k
  case refine_9 => exact fun r k => read7 m c t b hb r _ (by (try dsimp only); omega) k
  case refine_10 => exact fun r k => read2 m c t b hb r _ (by (try dsimp only); omega) k
  case refine_11 => exact fun r k => by pointwise; exact read8 m c t b hb r _ (by (try dsimp only); omega) _
  case refine_12 => exact fun r k => by pointwise; exact read8 m c t b hb r _ (by (try dsimp only); omega) _
  case refine_13 => exact fun r k => by pointwise; exact read8 m c t b hb r _ (by (try dsimp only); omega) _
  case refine_14 => exact fun r k => by pointwise; exact read8 m c t b hb r _ (by (try dsimp only); omega) _
  case refine_15 => exact fun r k => by pointwise; exact read10 m c t _ r k
  case refine_16 => exact fun r k => by pointwise; exact read10 m c t _ r k
  case refine_17 => exact fun r k => by pointwise; exact read10 m c t _ r k
  case refine_18 => exact fun r k => by pointwise; exact read10 m c t _ r k
  case refine_19 => exact fun r k => read0 m c t b hb r _ (by (try dsimp only); omega) k
  case refine_20 => exact fun a e => read11 m c t a e
  case refine_21 => exact fun e => read12 m c t e
  case refine_22 => exact fun a e => read13 m c t a e
  case refine_23 => exact fun a e => read14 m c t a e

/-- The result array after the call is the reference's term. -/
theorem final (c : Dev nD) : (dats m 0 c).arrAt 16 (cfgs 0).N = target m c := by
  refine (dats m 0 c).arrAt_eq_of_covers 16 _ covers16 fun t hf y => ?_
  blk_simp
  rw [after0_16]
  have hN : t.val < 288 := lt_of_lt_of_eq t.isLt N_0
  obtain ⟨r, d, rfl⟩ : ∃ (r : Fin 256) (d : Fin 1024), y = ix3 0 r d := ⟨y 1, y 2, by blk_ext⟩
  obtain ⟨b, hb⟩ : ∃ b : Fin 32, b.val = t.val / 9 := ⟨⟨t.val / 9, by omega⟩, rfl⟩
  have hemb : ((View.whole main_v6).slice (win0_16.rect t)).emb (ix3 0 r d) = ix3 b ⟨256 * (t.val % 9) + r.val, by omega⟩ d := by
    have e := (idx_rows t).2.2.2.2.2.2.2.2.2
    blk_ext [e]
  rw [hemb]
  by_cases h0 : t.val % 9 = 0
  · exact (tile_C m c t b hb h0 r d).trans (target_C m c b _ r (by (try dsimp only); omega) d).symm
  · exact (tile_L m c t b hb (by omega) ⟨t.val % 9 - 1, by omega⟩ rfl r d).trans (target_L m c b _ _ (by (try dsimp only); omega) d).symm

end Cert.MidIdeal.Hand

end
-- ==== Proof.MidRefRun.lean ====
/-
The reference of the step that closes an inner layer, run: its result is the composed mathematics of its arguments.
-/
module

public import proofs.«01_k».proof.Proof.MidRef

@[expose] public section

set_option maxRecDepth 16384

noncomputable section

namespace Cert.MidRefIdeal.Hand

open Cert.MidRefIdeal Cert.MidRefIdeal.Gen Cert.MidRefIdeal.Value Idealize.ShloMosaic Idealize.ShloMosaic.TcCoe Idealize.SL.Sem
  Idealize.ShloMosaic.StableHlo

section stages

variable (V : Valuation τ sig (Elt Ideal))

/-- The context rows after the branches. -/
theorem stage_x1C : res_main_v84 V = refX1C (refScC (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9)) := rfl

/-- The hidden layer on the context rows. -/
theorem stage_hC : res_main_v105 V = refHC (refX1C (refScC (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9))) (V (Proc.devRef .tc main_arg1)) (V (Proc.devRef .tc main_arg10)) (V (Proc.devRef .tc main_arg11)) := by
  unfold res_main_v105; rw [stage_x1C V]; rfl

/-- The latent rows after the branches. -/
theorem stage_x1L : res_main_v195 V = refX1L (refScL (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9)) := rfl

/-- The hidden layer on the latent rows. -/
theorem stage_hL : res_main_v216 V = refHL (refX1L (refScL (V (Proc.devRef .tc main_arg3)) (V (Proc.devRef .tc main_arg7))) (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9))) (V (Proc.devRef .tc main_arg1)) (V (Proc.devRef .tc main_arg10)) (V (Proc.devRef .tc main_arg11)) := by
  unfold res_main_v216; rw [stage_x1L V]; rfl

end stages

variable (m : (ℓ : Loc nD τ sig) → Buf (Elt Ideal) ℓ) (ρ : Dev nD → PrngReg)

/-- The reference terminates with the whole step in its result, its arguments unchanged. -/
theorem run : θ_run defs (onTc (τ := τ) (main (F := Ideal))) ⟨m, fun _ => 0, ρ⟩ fun r => ∀ c : Dev nD,
    r.2.mem ((c.tc : Thread nD τ).loc main_v222) = refAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) := by
  refine (θ_run defs _ _).mono (fun r h c => ?_) (Value.run m ρ)
  obtain ⟨h, hargs⟩ := h c
  exact ⟨h.trans (by rw [stage_hC, stage_hL, stage_x1C, stage_x1L]; rfl), hargs⟩

end Cert.MidRefIdeal.Hand

end
-- ==== Proof.ModRef.lean ====
/-
The modulation: its reference's run, at every index of the result.
-/
module

public import proofs.«01_k».proof.Proof.Gen.ModRefIdeal.Run
public import Idealize.ShloMosaic.Lib.Pointwise
public import Idealize.ShloMosaic.PureOps.Ideal
public import Idealize.ShloMosaic.Lib.Pipeline.ValueKit
public import Idealize.ShloMosaic.Lib.Claim
public import Idealize.ShloMosaic.Lib.StableHlo.RunRead

@[expose] public section

set_option maxRecDepth 16384

noncomputable section

namespace Cert.ModRefIdeal.Hand

open Idealize.ShloMosaic Idealize.ShloMosaic.Pointwise Cert.ModRefIdeal Cert.ModRefIdeal.Gen Idealize.ShloMosaic.TcCoe Idealize.SL.Sem

/-- The sigmoid-weighted unit. -/
def silu (x : EReal) : EReal := x * Ideal.div 1 (1 + Ideal.exp (-x))

/-- The reference's result as a function of its arguments. -/
def refMod (a0 : FVec Ideal S32x1024 .f32) (a1 : FVec Ideal S1024 .f32) (a2 : FVec Ideal S4x1024x6144 .f32) (a3 : FVec Ideal S4x6144 .f32) : FVec Ideal S4x6x33x1024 .f32 :=
  concatenate S4x6x33x1024 2 [⟨S4x6x32x1024, (transpose S4x6x32x1024 [0, 2, 1, 3] (shapeCast _ (addf (transpose S4x32x6144 [0, 2, 1] (Host.dotGeneral dot_S4x1024x6144_S32x1024_S4x6144x32_1_1_02_0_n_n none a2 (mulf a0 (Host.divf (broadcastInDim S32x1024 ![] bcast_S_S32x1024 (constant S_ .f32 0x3F800000#32)) (addf (broadcastInDim S32x1024 ![] bcast_S_S32x1024 (constant S_ .f32 0x3F800000#32)) (Host.exp (Host.negf a0)))))) transposes_S4x6144x32_S4x32x6144_0_2_1) (broadcastInDim S4x32x6144 ![0, 1, 2] bcast_S4x1x6144_S4x32x6144_0_1_2 (broadcastInDim S4x1x6144 ![0, 2] bcast_S4x6144_S4x1x6144_0_2 a3))) shapeCasts_S4x32x6144_S4x32x6x1024) transposes_S4x32x6x1024_S4x6x32x1024_0_2_1_3)⟩, ⟨S4x6x1x1024, (transpose S4x6x1x1024 [0, 2, 1, 3] (shapeCast _ (addf (Host.dotGeneral dot_S1024_S4x1024x6144_S4x6144_0_1_n_02_n_n none (mulf a1 (Host.divf (broadcastInDim S1024 ![] bcast_S_S1024 (constant S_ .f32 0x3F800000#32)) (addf (broadcastInDim S1024 ![] bcast_S_S1024 (constant S_ .f32 0x3F800000#32)) (Host.exp (Host.negf a1))))) a2) a3) shapeCasts_S4x6144_S4x1x6x1024) transposes_S4x1x6x1024_S4x6x1x1024_0_2_1_3)⟩] concatenates_S4x6x32x1024_S4x6x1x1024_S4x6x33x1024_d2

variable (a0 : FVec Ideal S32x1024 .f32) (a1 : FVec Ideal S1024 .f32) (a2 : FVec Ideal S4x1024x6144 .f32) (a3 : FVec Ideal S4x6144 .f32)

/-- A sample's row of the modulation. -/
theorem refMod_lat (i : Fin 4) (k : Fin 6) (r : Fin 32) (e : Fin 1024) :
    refMod a0 a1 a2 a3 (ix4 i k ⟨r.1, by omega⟩ e)
      = (∑ d : Fin 1024, silu (a0 (ix2 r d)) * a2 (ix3 i d ⟨1024 * k.1 + e.1, by omega⟩)) + a3 (ix2 i ⟨1024 * k.1 + e.1, by omega⟩) := by
  have hs : (∑ d : Fin 1024, silu (a0 (ix2 r d)) * a2 (ix3 i d ⟨1024 * k.1 + e.1, by omega⟩))
      = ∑ d : Fin 1024, a2 (ix3 i d ⟨1024 * k.1 + e.1, by omega⟩) * silu (a0 (ix2 r d)) := Finset.sum_congr rfl fun _ _ => mul_comm _ _
  rw [hs]
  pointwise! [refMod, silu]

/-- The context's row of the modulation. -/
theorem refMod_ctx (i : Fin 4) (k : Fin 6) (e : Fin 1024) :
    refMod a0 a1 a2 a3 (ix4 i k 32 e)
      = (∑ d : Fin 1024, silu (a1 (ix1 d)) * a2 (ix3 i d ⟨1024 * k.1 + e.1, by omega⟩)) + a3 (ix2 i ⟨1024 * k.1 + e.1, by omega⟩) := by
  pointwise! [refMod, silu]

/-- The reference's run, its result under its name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = refMod (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run m ρ)

end Cert.ModRefIdeal.Hand

end
-- ==== Proof.ModValue.lean ====
/-
The modulation's call: point `t` computes part `t % 6` of layer `t / 6`; its result is the reference's.
-/
module

public import proofs.«01_k».proof.Proof.ModRef
public import proofs.«01_k».proof.Proof.Gen.ModIdeal.Value

@[expose] public section

set_option maxRecDepth 16384

noncomputable section

namespace Cert.ModIdeal.Hand

open Idealize.ShloMosaic Idealize.ShloMosaic.Pointwise Cert.ModIdeal Cert.ModIdeal.Gen Idealize.ShloMosaic.TcCoe Idealize.SL.Sem
open Cert.ModRefIdeal.Hand (silu refMod)
open Idealize.ShloMosaic.Pipeline (Dat)

/-- The conditioning rows: the samples', then the context's. -/
def cHost (a0 : FVec Ideal S32x1024 .f32) (a1 : FVec Ideal S1024 .f32) : FVec Ideal S33x1024 .f32 :=
  concatenate S33x1024 0 [⟨S32x1024, a0⟩, ⟨S1x1024, broadcastInDim S1x1024 ![1] bcast_S1024_S1x1024_1 a1⟩] concatenates_S32x1024_S1x1024_S33x1024_d0

/-- The bias, part by part. -/
def bHost (a3 : FVec Ideal S4x6144 .f32) : FVec Ideal S4x6x1x1024 .f32 := shapeCast S4x6x1x1024 a3 shapeCasts_S4x6144_S4x6x1x1024

/-- A sample's conditioning row. -/
theorem cHost_lat (a0 : FVec Ideal S32x1024 .f32) (a1 : FVec Ideal S1024 .f32) (r : Fin 32) (d : Fin 1024) :
    cHost a0 a1 (ix2 ⟨r.1, by omega⟩ d) = a0 (ix2 r d) := by
  pointwise! [cHost]

/-- The context's conditioning row. -/
theorem cHost_ctx (a0 : FVec Ideal S32x1024 .f32) (a1 : FVec Ideal S1024 .f32) (d : Fin 1024) :
    cHost a0 a1 (ix2 32 d) = a1 (ix1 d) := by
  pointwise! [cHost]

/-- The bias at an index. -/
theorem bHost_at (a3 : FVec Ideal S4x6144 .f32) (i : Fin 4) (k : Fin 6) (e : Fin 1024) :
    bHost a3 (ix4 i k 0 e) = a3 (ix2 i ⟨1024 * k.1 + e.1, by omega⟩) := by
  pointwise! [bHost]

/-- The body's stored value at an index. -/
theorem pay1_at (x : FVec Ideal S33x1024 .f32) (w : FVec Ideal S1x1024x1024 .f32) (b : FVec Ideal S1x1x1x1024 .f32) (r : Fin 33) (e : Fin 1024) :
    k0_pay1 (F := Ideal) x w b (ix4 0 0 r e) = (∑ d : Fin 1024, silu (x (ix2 r d)) * w (ix3 0 d e)) + b (ix4 0 0 0 e) := by
  pointwise! [k0_pay1, silu]
  simp only [zero_sub]

/-- Where the windows stand. -/
theorem idx_all : ∀ t : Fin cfg0.N, (win0_0.index t = ![0, 0] ∧ win0_1.index t = ![t.val / 6, 0, t.val % 6]
      ∧ win0_2.index t = ![t.val / 6, t.val % 6, 0, 0] ∧ win0_3.index t = ![t.val / 6, t.val % 6, 0, 0]) :=
  (by decide +kernel : ∀ t : Fin grid0.N, _)

/-- The blocks written back cover the result. -/
theorem covers3 : (cfg0.win 3).Covers := by decide +kernel

variable (m : (ℓ : Loc nD τ sig) → Buf (Elt Ideal) ℓ) (c : Dev nD)

/-- The array of window 0. -/
theorem V_c : V m c main_v1 = cHost (m ((c : Thread nD τ).loc main_arg0)) (m ((c : Thread nD τ).loc main_arg1)) := by
  show StableHlo.after hostOps0 (fun b => m (c, b)) (Proc.devRef .tc main_v1) = _
  simp only [hostOps0]
  after_results_simp
  rfl

/-- The array of window 2. -/
theorem V_b : V m c main_v2 = bHost (m ((c : Thread nD τ).loc main_arg3)) := by
  show StableHlo.after hostOps0 (fun b => m (c, b)) (Proc.devRef .tc main_v2) = _
  simp only [hostOps0]
  after_results_simp
  rfl

/-- Window 0's block: the whole array. -/
theorem blk0 (t : Fin cfg0.N) (W : FVec Ideal S33x1024 .f32) (r : Fin 33) (d : Fin 1024) :
    (show FVec Ideal S33x1024 .f32 from ((cfg0.win 0).blk t).view.read (Elt Ideal) W) (ix2 r d) = W (ix2 r d) := by
  have e := (idx_all t).1
  blk_ext [e]

/-- Window 1's block: a layer's columns of one part. -/
theorem blk1 (t : Fin cfg0.N) (W : FVec Ideal S4x1024x6144 .f32) (i : Fin 4) (hi : i.val = t.val / 6) (k : Fin 6) (hk : k.val = t.val % 6) (d e : Fin 1024) :
    (show FVec Ideal S1x1024x1024 .f32 from ((cfg0.win 1).blk t).view.read (Elt Ideal) W) (ix3 0 d e) = W (ix3 i d ⟨1024 * k.1 + e.1, by omega⟩) := by
  have e := (idx_all t).2.1
  blk_ext [e]

/-- Window 2's block: a layer's bias of one part. -/
theorem blk2 (t : Fin cfg0.N) (W : FVec Ideal S4x6x1x1024 .f32) (i : Fin 4) (hi : i.val = t.val / 6) (k : Fin 6) (hk : k.val = t.val % 6) (e : Fin 1024) :
    (show FVec Ideal S1x1x1x1024 .f32 from ((cfg0.win 2).blk t).view.read (Elt Ideal) W) (ix4 0 0 0 e) = W (ix4 i k 0 e) := by
  have e := (idx_all t).2.2.1
  blk_ext [e]

/-- Window 0 read at an index. -/
theorem read0 (t : Fin cfg0.N) (r : Fin 33) (d : Fin 1024) :
    (show FVec Ideal S33x1024 .f32 from iblk m c 0 t) (ix2 r d) = cHost (m ((c : Thread nD τ).loc main_arg0)) (m ((c : Thread nD τ).loc main_arg1)) (ix2 r d) := by
  have h : iblk m c 0 t = ((cfg0.win 0).blk t).view.read (Elt Ideal) (show Buf (Elt Ideal) ((c : Thread nD τ).loc main_v1) from cHost (m ((c : Thread nD τ).loc main_arg0)) (m ((c : Thread nD τ).loc main_arg1))) :=
    congrArg (fun W => ((cfg0.win 0).blk t).view.read (Elt Ideal) W) (V_c m c)
  exact (congrFun h (ix2 r d)).trans (blk0 t _ r d)

/-- Window 1 read at an index. -/
theorem read1 (t : Fin cfg0.N) (i : Fin 4) (hi : i.val = t.val / 6) (k : Fin 6) (hk : k.val = t.val % 6) (d e : Fin 1024) :
    (show FVec Ideal S1x1024x1024 .f32 from iblk m c 1 t) (ix3 0 d e) = (m ((c : Thread nD τ).loc main_arg2)) (ix3 i d ⟨1024 * k.1 + e.1, by omega⟩) := by
  have h : iblk m c 1 t = ((cfg0.win 1).blk t).view.read (Elt Ideal) (m ((c : Thread nD τ).loc main_arg2)) :=
    congrArg (fun W => ((cfg0.win 1).blk t).view.read (Elt Ideal) W) (V_main_arg2 m c)
  exact (congrFun h (ix3 0 d e)).trans (blk1 t _ i hi k hk d e)

/-- Window 2 read at an index. -/
theorem read2 (t : Fin cfg0.N) (i : Fin 4) (hi : i.val = t.val / 6) (k : Fin 6) (hk : k.val = t.val % 6) (e : Fin 1024) :
    (show FVec Ideal S1x1x1x1024 .f32 from iblk m c 2 t) (ix4 0 0 0 e) = bHost (m ((c : Thread nD τ).loc main_arg3)) (ix4 i k 0 e) := by
  have h : iblk m c 2 t = ((cfg0.win 2).blk t).view.read (Elt Ideal) (show Buf (Elt Ideal) ((c : Thread nD τ).loc main_v2) from bHost (m ((c : Thread nD τ).loc main_arg3))) :=
    congrArg (fun W => ((cfg0.win 2).blk t).view.read (Elt Ideal) W) (V_b m c)
  exact (congrFun h (ix4 0 0 0 e)).trans (blk2 t _ i hi k hk e)

/-- A point's block is the reference's. -/
theorem tile (t : Fin cfg0.N) (i : Fin 4) (hi : i.val = t.val / 6) (k : Fin 6) (hk : k.val = t.val % 6) (r : Fin 33) (e : Fin 1024) :
    out0_3 (F := Ideal) (iblk m c 0 t) (iblk m c 1 t) (iblk m c 2 t) (ix4 0 0 r e)
      = refMod (m ((c : Thread nD τ).loc main_arg0)) (m ((c : Thread nD τ).loc main_arg1)) (m ((c : Thread nD τ).loc main_arg2)) (m ((c : Thread nD τ).loc main_arg3)) (ix4 i k r e) := by
  frame_out
  refine (pay1_at _ _ _ r e).trans ?_
  have hb := (read2 m c t i hi k hk e).trans (bHost_at _ i k e)
  by_cases hr : r.1 < 32
  · obtain ⟨s, hs⟩ : ∃ s : Fin 32, s.1 = r.1 := ⟨⟨r.1, hr⟩, rfl⟩
    obtain ⟨r, h33⟩ := r
    subst hs
    refine Eq.trans ?_ (Cert.ModRefIdeal.Hand.refMod_lat _ _ _ _ i k s e).symm
    exact congrArg₂ (· + ·) (Finset.sum_congr rfl fun d _ => congrArg₂ (· * ·) (congrArg silu ((read0 m c t _ d).trans (cHost_lat _ _ s d))) (read1 m c t i hi k hk d e)) hb
  · obtain rfl : r = 32 := Fin.ext (by have := r.2; show r.1 = 32; omega)
    refine Eq.trans ?_ (Cert.ModRefIdeal.Hand.refMod_ctx _ _ _ _ i k e).symm
    exact congrArg₂ (· + ·) (Finset.sum_congr rfl fun d _ => congrArg₂ (· * ·) (congrArg silu ((read0 m c t _ d).trans (cHost_ctx _ _ d))) (read1 m c t i hi k hk d e)) hb

/-- The result array after the call is the reference's term. -/
theorem final : (dats m 0 c).arrAt 3 (cfgs 0).N
    = refMod (m ((c : Thread nD τ).loc main_arg0)) (m ((c : Thread nD τ).loc main_arg1)) (m ((c : Thread nD τ).loc main_arg2)) (m ((c : Thread nD τ).loc main_arg3)) := by
  refine (dats m 0 c).arrAt_eq_of_covers 3 _ covers3 fun t hf y => ?_
  blk_simp
  rw [after0_3]
  have hN : t.val < 24 := lt_of_lt_of_eq t.isLt N_0
  obtain ⟨r, e, rfl⟩ : ∃ (r : Fin 33) (e : Fin 1024), y = ix4 0 0 r e := ⟨y 2, y 3, by blk_ext⟩
  obtain ⟨i, hi⟩ : ∃ i : Fin 4, i.val = t.val / 6 := ⟨⟨t.val / 6, by omega⟩, rfl⟩
  obtain ⟨k, hk⟩ : ∃ k : Fin 6, k.val = t.val % 6 := ⟨⟨t.val % 6, by omega⟩, rfl⟩
  have hemb : ((View.whole main_v3).slice (win0_3.rect t)).emb (ix4 0 0 r e) = ix4 i k r e := by
    have e := (idx_all t).2.2.2
    blk_ext [e]
  rw [hemb]
  exact tile m c t i hi k hk r e

end Cert.ModIdeal.Hand

end
-- ==== Proof.lean ====
module

public import proofs.«01_k».proof.Defs
public import proofs.«01_k».proof.Proof.AttnFrame
public import proofs.«01_k».proof.Proof.AttnPre
public import proofs.«01_k».proof.Proof.AttnValue
public import proofs.«01_k».proof.Proof.PostValue
public import proofs.«01_k».proof.Proof.PostRefRun
public import proofs.«01_k».proof.Proof.MidValue
public import proofs.«01_k».proof.Proof.MidRefRun
public import proofs.«01_k».proof.Proof.ModValue
public import proofs.«01_k».proof.Proof.Gen.Attn
public import proofs.«01_k».proof.Proof.Gen.AttnRefIdeal.Run
public import proofs.«01_k».proof.Proof.Gen.Post.Frame
public import proofs.«01_k».proof.Proof.Gen.Mid.Frame
public import proofs.«01_k».proof.Proof.Gen.MidIdeal.Value
public import proofs.«01_k».proof.Proof.Gen.Mod.Frame
public import proofs.«01_k».proof.Proof.Gen.ModIdeal.Value
public import proofs.«01_k».proof.Proof.Gen.ModRefIdeal.Run
public import proofs.«01_k».proof.Proof.Gen.MidRefIdeal.Run
public import proofs.«01_k».proof.Proof.Gen.PostRefIdeal.Run
public import Idealize.ShloMosaic.Lib.Quiescent
public import Idealize.ShloMosaic.Lib.Claim

@[expose] public section

set_option maxRecDepth 16384

noncomputable section

namespace Cert.Proof

open Idealize.ShloMosaic Idealize.SL.Sem

/-- The two attention programs' bodies are one text. -/
theorem same_bodies : Cert.Attn.defs₀ (F := Bits) = Cert.AttnIdeal.defs₀ (F := Bits) := by
  funext k
  cases k with
  | tc =>
    funext ℓ a
    match ℓ, a with
    | ⟨0, _⟩, (t, s) => rfl
    | ⟨_ + 1, h⟩, _ => exact absurd h (Nat.not_lt.2 (Nat.le_add_left _ _))
  | scScalar _ => rfl
  | scVector _ _ => rfl

/-- So are their definitions. -/
theorem same_defs : Cert.Attn.defs (F := Bits) = Cert.AttnIdeal.defs (F := Bits) :=
  congrArg (Pipeline.defs (Cert.AttnIdeal.pcfgs (F := Bits))) same_bodies

/-- And their host programs. -/
theorem same_main : Cert.Attn.main (F := Bits) = Cert.AttnIdeal.main (F := Bits) := rfl

/-- The attention program runs over machine floats, its arguments unchanged and its counters at zero: its text is the
    idealized program's, so the run over any floats is its run. -/
theorem frame_attn : Cert.quiescent_Attn := fun m g _ => by
  rw [same_main, same_defs]
  exact Cert.AttnIdeal.Hand.frame (F := Bits) m g

/-- The attention program runs over the extended reals. -/
theorem frame_attn_ideal : Cert.quiescent_AttnIdeal := fun m g _ => Cert.AttnIdeal.Hand.frame m g

/-- The attention's reference runs. -/
theorem frame_attn_ref : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run (F := Ideal) m g)

/-- The facts the precondition's function states. -/
instance facts_finite : Cert.Pre_finite.Facts := Cert.Pre_finite.Hand.facts

/-- The attention program runs over finite queries and keys, as over any. -/
theorem frame_attn_ideal_finite : Cert.quiescent_AttnIdeal_pre_finite := fun m g _ => frame_attn_ideal m g trivial

/-- So does its reference. -/
theorem frame_attn_ref_finite : Cert.quiescent_AttnRefIdeal_pre_finite := fun m g _ => frame_attn_ref m g trivial

/-- The attention's call and its reference leave the same result where the queries and keys are finite. -/
theorem algebraic_attn : Cert.algebraic_AttnIdeal_AttnRefIdeal_pre_finite := fun m g m' g' hpre hagree => by
  refine ⟨fun c => (Cert.AttnIdeal.Hand.dats m 0 c).arrAt 3 (Cert.AttnIdeal.cfgs 0).N, Cert.AttnIdeal.Hand.run m g, ?_⟩
  refine (θ_run Cert.AttnRefIdeal.defs _ _).mono (fun r h c => ⟨((h c).1.trans ?_), (h c).2⟩) (Cert.AttnRefIdeal.Value.run (F := Ideal) m' g')
  obtain ⟨e0, e1, e2, e3, e4⟩ := hagree c
  rw [Cert.AttnRefIdeal.Hand.res_eq, e0, e1, e2, e3, e4]
  exact (Cert.AttnIdeal.Hand.final m c (Cert.Pre_finite.Hand.real0 _ _ _ _ _ (hpre c)) (Cert.Pre_finite.Hand.real1 _ _ _ _ _ (hpre c))
    (Cert.Pre_finite.Hand.real2 _ _ _ _ _ (hpre c)) (Cert.Pre_finite.Hand.real3 _ _ _ _ _ (hpre c))).symm

/-- The step's program runs over machine floats. -/
theorem frame_post : Cert.quiescent_Post := fun m g _ => Cert.Post.Gen.frame m g

/-- The step's program runs over the extended reals. -/
theorem frame_post_ideal : Cert.quiescent_PostIdeal := fun m g _ => Cert.PostIdeal.Gen.frame m g

/-- The step's reference runs. -/
theorem frame_post_ref : Cert.quiescent_PostRefIdeal := fun m g _ =>
  (θ_run Cert.PostRefIdeal.defs _ _).mono (fun r h => ⟨fun c => (h c).2, sem_eq_zero_of_no_sems (by decide) r.2⟩)
    (Cert.PostRefIdeal.Value.run (F := Ideal) m g)

/-- The step's call and its reference leave the same result. -/
theorem algebraic_post : Cert.algebraic_PostIdeal_PostRefIdeal := by
  pair_intro
  · run_from Cert.PostIdeal.Value.run_blocks m g
  · run_from Cert.PostRefIdeal.Hand.run m' g'
    exact (Cert.PostIdeal.Hand.final m c).symm

/-- The inner layers' program runs over machine floats. -/
theorem frame_mid : Cert.quiescent_Mid := fun m g _ => Cert.Mid.Gen.frame m g

/-- The inner layers' program runs over the extended reals. -/
theorem frame_mid_ideal : Cert.quiescent_MidIdeal := fun m g _ => Cert.MidIdeal.Gen.frame m g

/-- The inner layers' reference runs. -/
theorem frame_mid_ref : Cert.quiescent_MidRefIdeal := fun m g _ =>
  (θ_run Cert.MidRefIdeal.defs _ _).mono (fun r h => ⟨fun c => (h c).2, sem_eq_zero_of_no_sems (by decide) r.2⟩)
    (Cert.MidRefIdeal.Value.run (F := Ideal) m g)

/-- The inner layers' call and its reference leave the same result. -/
theorem algebraic_mid : Cert.algebraic_MidIdeal_MidRefIdeal := by
  pair_intro
  · run_from Cert.MidIdeal.Value.run_blocks m g
  · run_from Cert.MidRefIdeal.Hand.run m' g'
    exact (Cert.MidIdeal.Hand.final m c).symm

/-- The modulation's program runs over machine floats. -/
theorem frame_mod : Cert.quiescent_Mod := fun m g _ => Cert.Mod.Gen.frame m g

/-- The modulation's program runs over the extended reals. -/
theorem frame_mod_ideal : Cert.quiescent_ModIdeal := fun m g _ => Cert.ModIdeal.Gen.frame m g

/-- The modulation's reference runs. -/
theorem frame_mod_ref : Cert.quiescent_ModRefIdeal := fun m g _ =>
  (θ_run Cert.ModRefIdeal.defs _ _).mono (fun r h => ⟨fun c => (h c).2, sem_eq_zero_of_no_sems (by decide) r.2⟩)
    (Cert.ModRefIdeal.Value.run (F := Ideal) m g)

/-- The modulation's call and its reference leave the same result. -/
theorem algebraic_mod : Cert.algebraic_ModIdeal_ModRefIdeal := by
  pair_intro
  · run_from Cert.ModIdeal.Value.run_blocks m g
  · run_from Cert.ModRefIdeal.Hand.run m' g'
    exact (Cert.ModIdeal.Hand.final m c).symm

/-- All claims. -/
theorem claim : Cert.Claim := ⟨Cert.Attn.Gen.facts, Cert.AttnIdeal.Gen.facts, Cert.AttnRefIdeal.Gen.facts, Cert.Post.Gen.facts,
  Cert.PostIdeal.Gen.facts, Cert.PostRefIdeal.Gen.facts, Cert.Mid.Gen.facts, Cert.MidIdeal.Gen.facts, Cert.MidRefIdeal.Gen.facts,
  Cert.Mod.Gen.facts, Cert.ModIdeal.Gen.facts, Cert.ModRefIdeal.Gen.facts, facts_finite,
  frame_attn, frame_attn_ideal, frame_attn_ideal_finite, frame_attn_ref, frame_attn_ref_finite, frame_post, frame_post_ideal,
  frame_post_ref, frame_mid, frame_mid_ideal, frame_mid_ref, frame_mod, frame_mod_ideal, frame_mod_ref, trivial, algebraic_attn, trivial, algebraic_post, trivial,
  algebraic_mid, trivial, algebraic_mod⟩

end Cert.Proof

end
